-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)) (v3 : (c : Dev Cert.Kernel3Ideal.nD) → Buf (Elt Ideal) ((c.tc : Thread Cert.Kernel3Ideal.nD Cert.Kernel3Ideal.τ).loc Cert.Kernel3Ideal.main_v58_3)) (v4 : (c : Dev Cert.Kernel3Ideal.nD) → Buf (Elt Ideal) ((c.tc : Thread Cert.Kernel3Ideal.nD Cert.Kernel3Ideal.τ).loc Cert.Kernel3Ideal.main_v58_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_v58_3) = v3 c
          ∧ r.2.mem ((c.tc : Thread Cert.Kernel3Ideal.nD Cert.Kernel3Ideal.τ).loc Cert.Kernel3Ideal.main_v58_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v71) = v3 c
          ∧ r.2.mem ((c.tc : Thread Cert.Reference3Ideal.nD Cert.Reference3Ideal.τ).loc Cert.Reference3Ideal.main_v72) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v9) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_v15) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S4x8192x64 : Shape := ⟨3, ![4, 8192, 64]⟩
abbrev S4x256x64 : Shape := ⟨3, ![4, 256, 64]⟩
abbrev S_ : Shape := ⟨0, ![]⟩

class Facts : Prop where
  bcast_S_S4x8192x64 : S_.BroadcastsInDim S4x8192x64 (![] : Fin 0 → Fin S4x8192x64.rank)
  bcast_S_S4x256x64 : S_.BroadcastsInDim S4x256x64 (![] : Fin 0 → Fin S4x256x64.rank)

variable [Facts]

def fn {F : FTy → Type} [FloatOps F] (main_arg0 : FVec F S4x8192x64 .f32) (main_arg1 : FVec F S4x256x64 .f32) (main_arg2 : FVec F S4x256x64 .f32) (main_arg3 : FVec F S4x8192x64 .f32) : IVec S4x8192x64 1 × IVec S4x256x64 1 × IVec S4x256x64 1 × IVec S4x8192x64 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_v3 : FVec F S4x256x64 .f32 := Host.absf main_arg1
  let main_cst_0 : FVec F S_ .f32 := constant S_ .f32 0x7F800000#32
  let main_v4 : FVec F S4x256x64 .f32 := broadcastInDim S4x256x64 ![] bcast_S_S4x256x64 main_cst_0
  let main_v5 : IVec S4x256x64 1 := cmpf .olt main_v3 main_v4
  let main_v6 : FVec F S4x256x64 .f32 := Host.absf main_arg2
  let main_cst_1 : FVec F S_ .f32 := constant S_ .f32 0x7F800000#32
  let main_v7 : FVec F S4x256x64 .f32 := broadcastInDim S4x256x64 ![] bcast_S_S4x256x64 main_cst_1
  let main_v8 : IVec S4x256x64 1 := cmpf .olt main_v6 main_v7
  let main_v9 : FVec F S4x8192x64 .f32 := Host.absf main_arg3
  let main_cst_2 : FVec F S_ .f32 := constant S_ .f32 0x7F800000#32
  let main_v10 : FVec F S4x8192x64 .f32 := broadcastInDim S4x8192x64 ![] bcast_S_S4x8192x64 main_cst_2
  let main_v11 : IVec S4x8192x64 1 := cmpf .olt main_v9 main_v10
  (main_v2, main_v5, main_v8, main_v11)
-- ==== Pre_finite2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bitsLt_bf16_f32 : FTy.bits .bf16 < FTy.bits .f32
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .f32) (main_arg2 : FVec F S8192x2816 .bf16) (main_arg3 : FVec F S8192x2816 .bf16) : IVec S8192x1024 1 × IVec S2816x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x2816 .f32 := (extf .f32 · bitsLt_bf16_f32) main_arg2
  let main_v7 : FVec F S8192x2816 .f32 := Host.absf main_v6
  let main_cst_1 : FVec F S_ .f32 := constant S_ .f32 0x7F800000#32
  let main_v8 : FVec F S8192x2816 .f32 := broadcastInDim S8192x2816 ![] bcast_S_S8192x2816 main_cst_1
  let main_v9 : IVec S8192x2816 1 := cmpf .olt main_v7 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  (main_v2, main_v5, main_v9, main_v13)
-- ==== Pre_finite3.lean ====
abbrev S12x8192x64 : Shape := ⟨3, ![12, 8192, 64]⟩
abbrev S12x8192 : Shape := ⟨2, ![12, 8192]⟩
abbrev S_ : Shape := ⟨0, ![]⟩

class Facts : Prop where
  bcast_S_S12x8192x64 : S_.BroadcastsInDim S12x8192x64 (![] : Fin 0 → Fin S12x8192x64.rank)
  bcast_S_S12x8192 : S_.BroadcastsInDim S12x8192 (![] : Fin 0 → Fin S12x8192.rank)

variable [Facts]

def fn {F : FTy → Type} [FloatOps F] (main_arg0 : FVec F S12x8192x64 .f32) (main_arg1 : FVec F S12x8192x64 .f32) (main_arg2 : FVec F S12x8192x64 .f32) (main_arg3 : FVec F S12x8192 .f32) (main_arg4 : FVec F S12x8192x64 .f32) : IVec S12x8192x64 1 × IVec S12x8192x64 1 × IVec S12x8192x64 1 × IVec S12x8192 1 × IVec S12x8192x64 1 :=
  let main_v0 : FVec F S12x8192x64 .f32 := Host.absf main_arg0
  let main_cst : FVec F S_ .f32 := constant S_ .f32 0x7F800000#32
  let main_v1 : FVec F S12x8192x64 .f32 := broadcastInDim S12x8192x64 ![] bcast_S_S12x8192x64 main_cst
  let main_v2 : IVec S12x8192x64 1 := cmpf .olt main_v0 main_v1
  let main_v3 : FVec F S12x8192x64 .f32 := Host.absf main_arg1
  let main_cst_0 : FVec F S_ .f32 := constant S_ .f32 0x7F800000#32
  let main_v4 : FVec F S12x8192x64 .f32 := broadcastInDim S12x8192x64 ![] bcast_S_S12x8192x64 main_cst_0
  let main_v5 : IVec S12x8192x64 1 := cmpf .olt main_v3 main_v4
  let main_v6 : FVec F S12x8192x64 .f32 := Host.absf main_arg2
  let main_cst_1 : FVec F S_ .f32 := constant S_ .f32 0x7F800000#32
  let main_v7 : FVec F S12x8192x64 .f32 := broadcastInDim S12x8192x64 ![] bcast_S_S12x8192x64 main_cst_1
  let main_v8 : IVec S12x8192x64 1 := cmpf .olt main_v6 main_v7
  let main_v9 : FVec F S12x8192 .f32 := Host.absf main_arg3
  let main_cst_2 : FVec F S_ .f32 := constant S_ .f32 0x7F800000#32
  let main_v10 : FVec F S12x8192 .f32 := broadcastInDim S12x8192 ![] bcast_S_S12x8192 main_cst_2
  let main_v11 : IVec S12x8192 1 := cmpf .olt main_v9 main_v10
  let main_v12 : FVec F S12x8192x64 .f32 := Host.absf main_arg4
  let main_cst_3 : FVec F S_ .f32 := constant S_ .f32 0x7F800000#32
  let main_v13 : FVec F S12x8192x64 .f32 := broadcastInDim S12x8192x64 ![] bcast_S_S12x8192x64 main_cst_3
  let main_v14 : IVec S12x8192x64 1 := cmpf .olt main_v12 main_v13
  (main_v2, main_v5, main_v8, main_v11, main_v14)
-- ==== Kernel.lean ====
abbrev S4x8192x64 : Shape := ⟨3, ![4, 8192, 64]⟩
abbrev S4x256x64 : Shape := ⟨3, ![4, 256, 64]⟩
abbrev S_ : Shape := ⟨0, ![]⟩
abbrev S4x8192x256 : Shape := ⟨3, ![4, 8192, 256]⟩
abbrev S4x8192 : Shape := ⟨2, ![4, 8192]⟩
abbrev S4x8192x1 : Shape := ⟨3, ![4, 8192, 1]⟩
abbrev S1x2048x64 : Shape := ⟨3, ![1, 2048, 64]⟩
abbrev S1x256x64 : Shape := ⟨3, ![1, 256, 64]⟩
abbrev S1x2048x1 : Shape := ⟨3, ![1, 2048, 1]⟩
abbrev S1x8192x64 : Shape := ⟨3, ![1, 8192, 64]⟩
abbrev S256x64 : Shape := ⟨2, ![256, 64]⟩
abbrev S2048x64 : Shape := ⟨2, ![2048, 64]⟩
abbrev S2048x256 : Shape := ⟨2, ![2048, 256]⟩
abbrev S2048x1 : Shape := ⟨2, ![2048, 1]⟩
abbrev S2048 : Shape := ⟨1, ![2048]⟩

abbrev nBuf : Space → Nat
  | .hbm => 40
  | .vmem => 20
  | .smem => 0
  | _ => 0

abbrev bufTy : (tb : Table) → Fin (tcTables nBuf tb) → BufTy
  | .hbm, ⟨0, _⟩ => ⟨S4x8192x64, .f32⟩
  | .hbm, ⟨1, _⟩ => ⟨S4x256x64, .f32⟩
  | .hbm, ⟨2, _⟩ => ⟨S4x256x64, .f32⟩
  | .hbm, ⟨3, _⟩ => ⟨S4x8192x64, .f32⟩
  | .hbm, ⟨4, _⟩ => ⟨S_, .f32⟩
  | .hbm, ⟨5, _⟩ => ⟨S4x8192x64, .f32⟩
  | .hbm, ⟨6, _⟩ => ⟨S4x8192x64, .f32⟩
  | .hbm, ⟨7, _⟩ => ⟨S4x8192x256, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x256, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x8192x256, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x256, .f32⟩
  | .hbm, ⟨33, _⟩ => ⟨S4x8192x256, .f32⟩
  | .hbm, ⟨34, _⟩ => ⟨S4x8192x64, .f32⟩
  | .hbm, ⟨35, _⟩ => ⟨S4x8192x64, .bf16⟩
  | .hbm, ⟨36, _⟩ => ⟨S4x256x64, .bf16⟩
  | .hbm, ⟨37, _⟩ => ⟨S4x8192x64, .f32⟩
  | .hbm, ⟨38, _⟩ => ⟨S4x256x64, .f32⟩
  | .hbm, ⟨39, _⟩ => ⟨S4x256x64, .f32⟩
  | .local _ .vmem, ⟨0, _⟩ => ⟨S1x2048x64, .bf16⟩
  | .local _ .vmem, ⟨1, _⟩ => ⟨S1x2048x64, .bf16⟩
  | .local _ .vmem, ⟨2, _⟩ => ⟨S1x256x64, .bf16⟩
  | .local _ .vmem, ⟨3, _⟩ => ⟨S1x256x64, .bf16⟩
  | .local _ .vmem, ⟨4, _⟩ => ⟨S1x256x64, .f32⟩
  | .local _ .vmem, ⟨5, _⟩ => ⟨S1x256x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x64, .f32⟩
  | .local _ .vmem, ⟨11, _⟩ => ⟨S1x2048x64, .f32⟩
  | .local _ .vmem, ⟨12, _⟩ => ⟨S1x8192x64, .f32⟩
  | .local _ .vmem, ⟨13, _⟩ => ⟨S1x8192x64, .f32⟩
  | .local _ .vmem, ⟨14, _⟩ => ⟨S1x256x64, .f32⟩
  | .local _ .vmem, ⟨15, _⟩ => ⟨S1x256x64, .f32⟩
  | .local _ .vmem, ⟨16, _⟩ => ⟨S1x256x64, .f32⟩
  | .local _ .vmem, ⟨17, _⟩ => ⟨S1x256x64, .f32⟩
  | .local _ .vmem, ⟨18, _⟩ => ⟨S256x64, .f32⟩
  | .local _ .vmem, ⟨19, _⟩ => ⟨S256x64, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 4], ![false, false, false]⟩

def k0_mult1 (i : grid0.Coords) : BitVec 32 :=
  let arg2 : BitVec 32 := BitVec.ofNat 32 (i 2).val
  let c2048_i32 : BitVec 32 := 2048#32
  let v47 : BitVec 32 := Scalar.muli arg2 c2048_i32
  v47
def k0_off1 (i : grid0.Coords) : Fin 3 → Nat :=
  let c0_33 : Index := 0#32
  let arg2 : BitVec 32 := BitVec.ofNat 32 (i 2).val
  let c2048_i32 : BitVec 32 := 2048#32
  let v47 : BitVec 32 := Scalar.muli arg2 c2048_i32
  let v48 : BitVec 32 := v47
  let v49 : Index := Scalar.indexCast v48
  let c0_34 : Index := 0#32
  ![0, v49.toNat, 0]
def k0_cond3 (i : grid0.Coords) : BitVec 1 :=
  let arg2 : BitVec 32 := BitVec.ofNat 32 (i 2).val
  let c3_i32 : BitVec 32 := 3#32
  let v58 : BitVec 1 := Scalar.cmpi .eq arg2 c3_i32
  let v59 : BitVec 32 := Scalar.extui v58
  let c0_i32_38 : BitVec 32 := 0#32
  let v60 : BitVec 1 := Scalar.cmpi .ne v59 c0_i32_38
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8192x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x8192x64 : Shape := ⟨3, ![4, 8192, 64]⟩
abbrev S4x256x64 : Shape := ⟨3, ![4, 256, 64]⟩
abbrev S_ : Shape := ⟨0, ![]⟩
abbrev S4x8192x256 : Shape := ⟨3, ![4, 8192, 256]⟩
abbrev S4x8192 : Shape := ⟨2, ![4, 8192]⟩
abbrev S4x8192x1 : Shape := ⟨3, ![4, 8192, 1]⟩
abbrev S4x64x256 : Shape := ⟨3, ![4, 64, 256]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x256x64, .f32⟩
  | .hbm, ⟨2, _⟩ => ⟨S4x256x64, .f32⟩
  | .hbm, ⟨3, _⟩ => ⟨S4x8192x64, .f32⟩
  | .hbm, ⟨4, _⟩ => ⟨S_, .f32⟩
  | .hbm, ⟨5, _⟩ => ⟨S4x8192x64, .f32⟩
  | .hbm, ⟨6, _⟩ => ⟨S4x8192x64, .f32⟩
  | .hbm, ⟨7, _⟩ => ⟨S4x8192x256, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x256, .f32⟩
  | .hbm, ⟨12, _⟩ => ⟨S4x8192x256, .i1⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .i1⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192x1, .f32⟩
  | .hbm, ⟨34, _⟩ => ⟨S4x8192x256, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x64, .f32⟩
  | .hbm, ⟨47, _⟩ => ⟨S4x64x256, .f32⟩
  | .hbm, ⟨48, _⟩ => ⟨S4x256x64, .f32⟩
  | .hbm, ⟨49, _⟩ => ⟨S4x8192x256, .f32⟩
  | .hbm, ⟨50, _⟩ => ⟨S4x8192x256, .f32⟩
  | .hbm, ⟨51, _⟩ => ⟨S4x8192x256, .f32⟩
  | .hbm, ⟨52, _⟩ => ⟨S4x8192x256, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S4x8192x1, .f32⟩
  | .hbm, ⟨57, _⟩ => ⟨S4x8192x256, .f32⟩
  | .hbm, ⟨58, _⟩ => ⟨S4x8192x256, .f32⟩
  | .hbm, ⟨59, _⟩ => ⟨S_, .f32⟩
  | .hbm, ⟨60, _⟩ => ⟨S4x8192, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S4x256x64, .f32⟩
  | .hbm, ⟨65, _⟩ => ⟨S4x8192x64, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel3.lean ====
abbrev S12x8192x64 : Shape := ⟨3, ![12, 8192, 64]⟩
abbrev S12x8192 : Shape := ⟨2, ![12, 8192]⟩
abbrev S_ : Shape := ⟨0, ![]⟩
abbrev S12x8192x8192 : Shape := ⟨3, ![12, 8192, 8192]⟩
abbrev S12x8192x1 : Shape := ⟨3, ![12, 8192, 1]⟩
abbrev S12x1x8192 : Shape := ⟨3, ![12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S1x1024x64 : Shape := ⟨3, ![1, 1024, 64]⟩
abbrev S1x1x1024 : Shape := ⟨3, ![1, 1, 1024]⟩
abbrev S1x1024x1 : Shape := ⟨3, ![1, 1024, 1]⟩
abbrev S1x8192x64 : Shape := ⟨3, ![1, 8192, 64]⟩
abbrev S1x8192x1 : Shape := ⟨3, ![1, 8192, 1]⟩
abbrev S1024x64 : Shape := ⟨2, ![1024, 64]⟩
abbrev S1x1024 : Shape := ⟨2, ![1, 1024]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 82
  | .vmem => 27
  | .smem => 0
  | _ => 0

abbrev bufTy : (tb : Table) → Fin (tcTables nBuf tb) → BufTy
  | .hbm, ⟨0, _⟩ => ⟨S12x8192x64, .f32⟩
  | .hbm, ⟨1, _⟩ => ⟨S12x8192x64, .f32⟩
  | .hbm, ⟨2, _⟩ => ⟨S12x8192x64, .f32⟩
  | .hbm, ⟨3, _⟩ => ⟨S12x8192, .f32⟩
  | .hbm, ⟨4, _⟩ => ⟨S12x8192x64, .f32⟩
  | .hbm, ⟨5, _⟩ => ⟨S_, .f32⟩
  | .hbm, ⟨6, _⟩ => ⟨S12x8192x64, .f32⟩
  | .hbm, ⟨7, _⟩ => ⟨S12x8192x64, .f32⟩
  | .hbm, ⟨8, _⟩ => ⟨S12x8192x8192, .f32⟩
  | .hbm, ⟨9, _⟩ => ⟨S12x8192x1, .f32⟩
  | .hbm, ⟨10, _⟩ => ⟨S12x8192x8192, .f32⟩
  | .hbm, ⟨11, _⟩ => ⟨S12x8192x8192, .f32⟩
  | .hbm, ⟨12, _⟩ => ⟨S12x1x8192, .f32⟩
  | .hbm, ⟨13, _⟩ => ⟨S12x8192x8192, .f32⟩
  | .hbm, ⟨14, _⟩ => ⟨S12x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x8192x8192, .i1⟩
  | .hbm, ⟨22, _⟩ => ⟨S_, .f32⟩
  | .hbm, ⟨23, _⟩ => ⟨S_, .f32⟩
  | .hbm, ⟨24, _⟩ => ⟨S12x8192x8192, .i1⟩
  | .hbm, ⟨25, _⟩ => ⟨S12x8192x8192, .f32⟩
  | .hbm, ⟨26, _⟩ => ⟨S12x8192x8192, .f32⟩
  | .hbm, ⟨27, _⟩ => ⟨S_, .f32⟩
  | .hbm, ⟨28, _⟩ => ⟨S12x8192, .f32⟩
  | .hbm, ⟨29, _⟩ => ⟨S12x8192x1, .f32⟩
  | .hbm, ⟨30, _⟩ => ⟨S12x8192x8192, .f32⟩
  | .hbm, ⟨31, _⟩ => ⟨S12x8192x8192, .f32⟩
  | .hbm, ⟨32, _⟩ => ⟨S12x8192x8192, .f32⟩
  | .hbm, ⟨33, _⟩ => ⟨S_, .f32⟩
  | .hbm, ⟨34, _⟩ => ⟨S12x8192, .f32⟩
  | .hbm, ⟨35, _⟩ => ⟨S12x8192x1, .f32⟩
  | .hbm, ⟨36, _⟩ => ⟨S12x8192x1, .f32⟩
  | .hbm, ⟨37, _⟩ => ⟨S12x8192x1, .f32⟩
  | .hbm, ⟨38, _⟩ => ⟨S12x8192x1, .f32⟩
  | .hbm, ⟨39, _⟩ => ⟨S12x8192x1, .f32⟩
  | .hbm, ⟨40, _⟩ => ⟨S12x8192x8192, .f32⟩
  | .hbm, ⟨41, _⟩ => ⟨S12x8192x1, .f32⟩
  | .hbm, ⟨42, _⟩ => ⟨S12x8192x8192, .f32⟩
  | .hbm, ⟨43, _⟩ => ⟨S12x8192x8192, .f32⟩
  | .hbm, ⟨44, _⟩ => ⟨S12x1x8192, .f32⟩
  | .hbm, ⟨45, _⟩ => ⟨S12x8192x8192, .f32⟩
  | .hbm, ⟨46, _⟩ => ⟨S12x8192x8192, .f32⟩
  | .hbm, ⟨47, _⟩ => ⟨S8192, .i32⟩
  | .hbm, ⟨48, _⟩ => ⟨S1x8192, .i32⟩
  | .hbm, ⟨49, _⟩ => ⟨S8192x1, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S1x8192x8192, .i1⟩
  | .hbm, ⟨54, _⟩ => ⟨S_, .f32⟩
  | .hbm, ⟨55, _⟩ => ⟨S_, .f32⟩
  | .hbm, ⟨56, _⟩ => ⟨S12x8192x8192, .i1⟩
  | .hbm, ⟨57, _⟩ => ⟨S12x8192x8192, .f32⟩
  | .hbm, ⟨58, _⟩ => ⟨S12x8192x8192, .f32⟩
  | .hbm, ⟨59, _⟩ => ⟨S_, .f32⟩
  | .hbm, ⟨60, _⟩ => ⟨S12x8192, .f32⟩
  | .hbm, ⟨61, _⟩ => ⟨S_, .f32⟩
  | .hbm, ⟨62, _⟩ => ⟨S12x8192, .f32⟩
  | .hbm, ⟨63, _⟩ => ⟨S12x8192, .f32⟩
  | .hbm, ⟨64, _⟩ => ⟨S12x8192x1, .f32⟩
  | .hbm, ⟨65, _⟩ => ⟨S12x8192x8192, .f32⟩
  | .hbm, ⟨66, _⟩ => ⟨S12x8192x8192, .f32⟩
  | .hbm, ⟨67, _⟩ => ⟨S12x8192x8192, .f32⟩
  | .hbm, ⟨68, _⟩ => ⟨S_, .f32⟩
  | .hbm, ⟨69, _⟩ => ⟨S12x8192, .f32⟩
  | .hbm, ⟨70, _⟩ => ⟨S12x8192x1, .f32⟩
  | .hbm, ⟨71, _⟩ => ⟨S12x8192x8192, .f32⟩
  | .hbm, ⟨72, _⟩ => ⟨S12x8192x8192, .f32⟩
  | .hbm, ⟨73, _⟩ => ⟨S12x8192x64, .f32⟩
  | .hbm, ⟨74, _⟩ => ⟨S12x8192x64, .bf16⟩
  | .hbm, ⟨75, _⟩ => ⟨S12x8192x64, .bf16⟩
  | .hbm, ⟨76, _⟩ => ⟨S12x1x8192, .f32⟩
  | .hbm, ⟨77, _⟩ => ⟨S12x8192x64, .f32⟩
  | .hbm, ⟨78, _⟩ => ⟨S12x8192x64, .f32⟩
  | .hbm, ⟨79, _⟩ => ⟨S12x8192x64, .f32⟩
  | .hbm, ⟨80, _⟩ => ⟨S12x1x8192, .f32⟩
  | .hbm, ⟨81, _⟩ => ⟨S12x8192x1, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .f32⟩
  | .local _ .vmem, ⟨5, _⟩ => ⟨S1x1024x64, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x1, .f32⟩
  | .local _ .vmem, ⟨11, _⟩ => ⟨S1x1024x1, .f32⟩
  | .local _ .vmem, ⟨12, _⟩ => ⟨S1x1024x64, .f32⟩
  | .local _ .vmem, ⟨13, _⟩ => ⟨S1x1024x64, .f32⟩
  | .local _ .vmem, ⟨14, _⟩ => ⟨S1x8192x64, .f32⟩
  | .local _ .vmem, ⟨15, _⟩ => ⟨S1x8192x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1x1024x64, .f32⟩
  | .local _ .vmem, ⟨20, _⟩ => ⟨S1x1x1024, .f32⟩
  | .local _ .vmem, ⟨21, _⟩ => ⟨S1x1x1024, .f32⟩
  | .local _ .vmem, ⟨22, _⟩ => ⟨S1x8192x1, .f32⟩
  | .local _ .vmem, ⟨23, _⟩ => ⟨S1x8192x1, .f32⟩
  | .local _ .vmem, ⟨24, _⟩ => ⟨S1024x64, .f32⟩
  | .local _ .vmem, ⟨25, _⟩ => ⟨S1024x64, .f32⟩
  | .local _ .vmem, ⟨26, _⟩ => ⟨S1x1024, .f32⟩
  | _, _ => ⟨S12x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v58_3 : Ref sig .tc := ⟨.hbm, 80, rfl⟩
abbrev main_v58_4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![12, 4, 9], ![false, false, false]⟩

def k0_cond3 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c7_i32 : BitVec 32 := 7#32
  let v2 : BitVec 32 := Scalar.subi c7_i32 arg1
  let v3 : BitVec 32 := Scalar.select v1 arg1 v2
  let v15 : BitVec 1 := Scalar.cmpi .sgt v6 v3
  let v16 : BitVec 32 := Scalar.extui v15
  let c0_i32_3 : BitVec 32 := 0#32
  let v17 : BitVec 1 := Scalar.cmpi .ne v16 c0_i32_3
  v17

def k0_mult1 (i : grid0.Coords) : BitVec 32 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c1024_i32 : BitVec 32 := 1024#32
  let v67 : BitVec 32 := Scalar.muli v6 c1024_i32
  v67
def k0_off1 (i : grid0.Coords) : Fin 3 → Nat :=
  let c0_39 : Index := 0#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c1024_i32 : BitVec 32 := 1024#32
  let v67 : BitVec 32 := Scalar.muli v6 c1024_i32
  let v68 : BitVec 32 := v67
  let v69 : Index := Scalar.indexCast v68
  let c0_40 : Index := 0#32
  ![0, v69.toNat, 0]
def k0_off2 (i : grid0.Coords) : Fin 3 → Nat :=
  let c0_49 : Index := 0#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c1024_i32 : BitVec 32 := 1024#32
  let v67 : BitVec 32 := Scalar.muli v6 c1024_i32
  let v68 : BitVec 32 := v67
  let v85 : Index := Scalar.indexCast v68
  let c0_50 : Index := 0#32
  ![0, v85.toNat, 0]
def k0_cond4 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c7_i32 : BitVec 32 := 7#32
  let v2 : BitVec 32 := Scalar.subi c7_i32 arg1
  let v3 : BitVec 32 := Scalar.select v1 arg1 v2
  let v18 : BitVec 1 := Scalar.cmpi .eq v6 v3
  let v19 : BitVec 32 := Scalar.extui v18
  let c0_i32_4 : BitVec 32 := 0#32
  let v20 : BitVec 1 := Scalar.cmpi .ne v19 c0_i32_4
  v20

def k0_mult2 (i : grid0.Coords) : BitVec 32 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c1024_i32 : BitVec 32 := 1024#32
  let v72 : BitVec 32 := Scalar.muli v6 c1024_i32
  v72
def k0_off3 (i : grid0.Coords) : Fin 3 → Nat :=
  let c0_40 : Index := 0#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c1024_i32 : BitVec 32 := 1024#32
  let v72 : BitVec 32 := Scalar.muli v6 c1024_i32
  let v73 : BitVec 32 := v72
  let v74 : Index := Scalar.indexCast v73
  let c0_41 : Index := 0#32
  ![0, v74.toNat, 0]
def k0_off4 (i : grid0.Coords) : Fin 3 → Nat :=
  let c0_50 : Index := 0#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c1024_i32 : BitVec 32 := 1024#32
  let v72 : BitVec 32 := Scalar.muli v6 c1024_i32
  let v73 : BitVec 32 := v72
  let v90 : Index := Scalar.indexCast v73
  let c0_51 : Index := 0#32
  ![0, v90.toNat, 0]
def k0_cond1 (i : grid0.Coords) : BitVec 1 :=
  let arg1 : BitVec 32 := BitVec.ofNat 32 (i 1).val
  let c0_i32 : BitVec 32 := 0#32
  let v7 : BitVec 1 := Scalar.cmpi .eq arg1 c0_i32
  let arg2 : BitVec 32 := BitVec.ofNat 32 (i 2).val
  let c0_i32_0 : BitVec 32 := 0#32
  let v8 : BitVec 1 := Scalar.cmpi .eq arg2 c0_i32_0
  let v9 : BitVec 1 := Scalar.andi v7 v8
  let v10 : BitVec 32 := Scalar.extui v9
  let c0_i32_1 : BitVec 32 := 0#32
  let v11 : BitVec 1 := Scalar.cmpi .ne v10 c0_i32_1
  v11

def k0_cond5 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c7_i32_5 : BitVec 32 := 7#32
  let v21 : BitVec 1 := Scalar.cmpi .eq v6 c7_i32_5
  let v22 : BitVec 32 := Scalar.extui v21
  let c0_i32_6 : BitVec 32 := 0#32
  let v23 : BitVec 1 := Scalar.cmpi .ne v22 c0_i32_6
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v6.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, c0_i32.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v6.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v6.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v6.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, c0_i32.toNat, v3.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x8192x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== Reference3Ideal.lean ====
abbrev S12x8192x64 : Shape := ⟨3, ![12, 8192, 64]⟩
abbrev S12x8192 : Shape := ⟨2, ![12, 8192]⟩
abbrev S_ : Shape := ⟨0, ![]⟩
abbrev S12x8192x8192 : Shape := ⟨3, ![12, 8192, 8192]⟩
abbrev S12x8192x1 : Shape := ⟨3, ![12, 8192, 1]⟩
abbrev S12x1x8192 : Shape := ⟨3, ![12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S12x64x8192 : Shape := ⟨3, ![12, 64, 8192]⟩

abbrev nBuf : Space → Nat
  | .hbm => 103
  | .vmem => 0
  | .smem => 0
  | _ => 0

abbrev bufTy : (tb : Table) → Fin (tcTables nBuf tb) → BufTy
  | .hbm, ⟨0, _⟩ => ⟨S12x8192x64, .f32⟩
  | .hbm, ⟨1, _⟩ => ⟨S12x8192x64, .f32⟩
  | .hbm, ⟨2, _⟩ => ⟨S12x8192x64, .f32⟩
  | .hbm, ⟨3, _⟩ => ⟨S12x8192, .f32⟩
  | .hbm, ⟨4, _⟩ => ⟨S12x8192x64, .f32⟩
  | .hbm, ⟨5, _⟩ => ⟨S_, .f32⟩
  | .hbm, ⟨6, _⟩ => ⟨S12x8192x64, .f32⟩
  | .hbm, ⟨7, _⟩ => ⟨S12x8192x64, .f32⟩
  | .hbm, ⟨8, _⟩ => ⟨S12x8192x8192, .f32⟩
  | .hbm, ⟨9, _⟩ => ⟨S12x8192x1, .f32⟩
  | .hbm, ⟨10, _⟩ => ⟨S12x8192x8192, .f32⟩
  | .hbm, ⟨11, _⟩ => ⟨S12x8192x8192, .f32⟩
  | .hbm, ⟨12, _⟩ => ⟨S12x1x8192, .f32⟩
  | .hbm, ⟨13, _⟩ => ⟨S12x8192x8192, .f32⟩
  | .hbm, ⟨14, _⟩ => ⟨S12x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x8192x8192, .i1⟩
  | .hbm, ⟨22, _⟩ => ⟨S_, .f32⟩
  | .hbm, ⟨23, _⟩ => ⟨S_, .f32⟩
  | .hbm, ⟨24, _⟩ => ⟨S12x8192x8192, .i1⟩
  | .hbm, ⟨25, _⟩ => ⟨S12x8192x8192, .f32⟩
  | .hbm, ⟨26, _⟩ => ⟨S12x8192x8192, .f32⟩
  | .hbm, ⟨27, _⟩ => ⟨S_, .f32⟩
  | .hbm, ⟨28, _⟩ => ⟨S12x8192x8192, .f32⟩
  | .hbm, ⟨29, _⟩ => ⟨S_, .f32⟩
  | .hbm, ⟨30, _⟩ => ⟨S12x8192, .f32⟩
  | .hbm, ⟨31, _⟩ => ⟨S12x8192x1, .f32⟩
  | .hbm, ⟨32, _⟩ => ⟨S12x8192x8192, .f32⟩
  | .hbm, ⟨33, _⟩ => ⟨S12x8192x8192, .i1⟩
  | .hbm, ⟨34, _⟩ => ⟨S12x8192x8192, .f32⟩
  | .hbm, ⟨35, _⟩ => ⟨S_, .f32⟩
  | .hbm, ⟨36, _⟩ => ⟨S12x8192, .f32⟩
  | .hbm, ⟨37, _⟩ => ⟨S_, .f32⟩
  | .hbm, ⟨38, _⟩ => ⟨S12x8192, .f32⟩
  | .hbm, ⟨39, _⟩ => ⟨S12x8192, .f32⟩
  | .hbm, ⟨40, _⟩ => ⟨S_, .f32⟩
  | .hbm, ⟨41, _⟩ => ⟨S12x8192, .f32⟩
  | .hbm, ⟨42, _⟩ => ⟨S12x8192, .i1⟩
  | .hbm, ⟨43, _⟩ => ⟨S_, .f32⟩
  | .hbm, ⟨44, _⟩ => ⟨S12x8192, .f32⟩
  | .hbm, ⟨45, _⟩ => ⟨S12x8192, .i1⟩
  | .hbm, ⟨46, _⟩ => ⟨S_, .f32⟩
  | .hbm, ⟨47, _⟩ => ⟨S12x8192, .f32⟩
  | .hbm, ⟨48, _⟩ => ⟨S_, .f32⟩
  | .hbm, ⟨49, _⟩ => ⟨S12x8192, .f32⟩
  | .hbm, ⟨50, _⟩ => ⟨S_, .f32⟩
  | .hbm, ⟨51, _⟩ => ⟨S12x8192, .f32⟩
  | .hbm, ⟨52, _⟩ => ⟨S12x8192, .f32⟩
  | .hbm, ⟨53, _⟩ => ⟨S12x8192, .f32⟩
  | .hbm, ⟨54, _⟩ => ⟨S12x8192x1, .f32⟩
  | .hbm, ⟨55, _⟩ => ⟨S12x8192x8192, .f32⟩
  | .hbm, ⟨56, _⟩ => ⟨S12x8192x8192, .f32⟩
  | .hbm, ⟨57, _⟩ => ⟨S12x8192x8192, .f32⟩
  | .hbm, ⟨58, _⟩ => ⟨S_, .f32⟩
  | .hbm, ⟨59, _⟩ => ⟨S12x8192, .f32⟩
  | .hbm, ⟨60, _⟩ => ⟨S12x8192x1, .f32⟩
  | .hbm, ⟨61, _⟩ => ⟨S12x8192x8192, .f32⟩
  | .hbm, ⟨62, _⟩ => ⟨S12x8192x8192, .f32⟩
  | .hbm, ⟨63, _⟩ => ⟨S12x8192x1, .f32⟩
  | .hbm, ⟨64, _⟩ => ⟨S_, .f32⟩
  | .hbm, ⟨65, _⟩ => ⟨S12x8192x1, .f32⟩
  | .hbm, ⟨66, _⟩ => ⟨S12x8192x1, .f32⟩
  | .hbm, ⟨67, _⟩ => ⟨S12x8192x64, .f32⟩
  | .hbm, ⟨68, _⟩ => ⟨S12x64x8192, .f32⟩
  | .hbm, ⟨69, _⟩ => ⟨S12x8192x64, .f32⟩
  | .hbm, ⟨70, _⟩ => ⟨S12x8192x8192, .f32⟩
  | .hbm, ⟨71, _⟩ => ⟨S12x8192x8192, .f32⟩
  | .hbm, ⟨72, _⟩ => ⟨S12x8192x8192, .f32⟩
  | .hbm, ⟨73, _⟩ => ⟨S12x8192x8192, .f32⟩
  | .hbm, ⟨74, _⟩ => ⟨S_, .f32⟩
  | .hbm, ⟨75, _⟩ => ⟨S12x8192, .f32⟩
  | .hbm, ⟨76, _⟩ => ⟨S12x8192x1, .f32⟩
  | .hbm, ⟨77, _⟩ => ⟨S12x8192x1, .f32⟩
  | .hbm, ⟨78, _⟩ => ⟨S12x8192x8192, .f32⟩
  | .hbm, ⟨79, _⟩ => ⟨S12x8192x8192, .f32⟩
  | .hbm, ⟨80, _⟩ => ⟨S_, .f32⟩
  | .hbm, ⟨81, _⟩ => ⟨S12x8192, .f32⟩
  | .hbm, ⟨82, _⟩ => ⟨S12x8192x8192, .f32⟩
  | .hbm, ⟨83, _⟩ => ⟨S12x8192x8192, .f32⟩
  | .hbm, ⟨84, _⟩ => ⟨S12x8192x8192, .f32⟩
  | .hbm, ⟨85, _⟩ => ⟨S_, .f32⟩
  | .hbm, ⟨86, _⟩ => ⟨S12x8192x8192, .f32⟩
  | .hbm, ⟨87, _⟩ => ⟨S12x8192x8192, .f32⟩
  | .hbm, ⟨88, _⟩ => ⟨S12x8192x8192, .f32⟩
  | .hbm, ⟨89, _⟩ => ⟨S_, .f32⟩
  | .hbm, ⟨90, _⟩ => ⟨S12x8192, .f32⟩
  | .hbm, ⟨91, _⟩ => ⟨S12x1x8192, .f32⟩
  | .hbm, ⟨92, _⟩ => ⟨S_, .f32⟩
  | .hbm, ⟨93, _⟩ => ⟨S12x8192, .f32⟩
  | .hbm, ⟨94, _⟩ => ⟨S_, .f32⟩
  | .hbm, ⟨95, _⟩ => ⟨S12x8192, .f32⟩
  | .hbm, ⟨96, _⟩ => ⟨S12x8192x1, .f32⟩
  | .hbm, ⟨97, _⟩ => ⟨S_, .f32⟩
  | .hbm, ⟨98, _⟩ => ⟨S12x8192, .f32⟩
  | .hbm, ⟨99, _⟩ => ⟨S12x8192x64, .f32⟩
  | .hbm, ⟨100, _⟩ => ⟨S12x8192x64, .f32⟩
  | .hbm, ⟨101, _⟩ => ⟨S12x1x8192, .f32⟩
  | .hbm, ⟨102, _⟩ => ⟨S12x8192x1, .f32⟩
  | _, _ => ⟨S12x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Kernel4.lean ====
abbrev S8192x2816 : Shape := ⟨2, ![8192, 2816]⟩
abbrev S1024x5632 : Shape := ⟨2, ![1024, 5632]⟩
abbrev S5632x1024 : Shape := ⟨2, ![5632, 1024]⟩
abbrev S8192x1024 : Shape := ⟨2, ![8192, 1024]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x5632, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S5632x1024 : Shape := ⟨2, ![5632, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .bf16⟩
  | .hbm, ⟨7, _⟩ => ⟨S8192x2816, .bf16⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S2816x1024, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x2688 : Shape := ⟨2, ![1024, 2688]⟩
abbrev S8192x2688 : Shape := ⟨2, ![8192, 2688]⟩
abbrev S512x1024 : Shape := ⟨2, ![512, 1024]⟩
abbrev S1024x896 : Shape := ⟨2, ![1024, 896]⟩
abbrev S512x896 : Shape := ⟨2, ![512, 896]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .f32⟩
  | .hbm, ⟨2, _⟩ => ⟨S1024x2688, .bf16⟩
  | .hbm, ⟨3, _⟩ => ⟨S8192x2688, .f32⟩
  | .local _ .vmem, ⟨0, _⟩ => ⟨S512x1024, .bf16⟩
  | .local _ .vmem, ⟨1, _⟩ => ⟨S512x1024, .bf16⟩
  | .local _ .vmem, ⟨2, _⟩ => ⟨S1024x896, .bf16⟩
  | .local _ .vmem, ⟨3, _⟩ => ⟨S1024x896, .bf16⟩
  | .local _ .vmem, ⟨4, _⟩ => ⟨S512x896, .f32⟩
  | .local _ .vmem, ⟨5, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S1024x2688 : Shape := ⟨2, ![1024, 2688]⟩
abbrev S8192x2688 : Shape := ⟨2, ![8192, 2688]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .f32⟩
  | .hbm, ⟨2, _⟩ => ⟨S8192x1024, .f32⟩
  | .hbm, ⟨3, _⟩ => ⟨S8192x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S8192x2688 : Shape := ⟨2, ![8192, 2688]⟩
abbrev S1024x2688 : Shape := ⟨2, ![1024, 2688]⟩
abbrev S8192x1024 : Shape := ⟨2, ![8192, 1024]⟩
abbrev S512x2688 : Shape := ⟨2, ![512, 2688]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2688, .f32⟩
  | .hbm, ⟨1, _⟩ => ⟨S1024x2688, .f32⟩
  | .hbm, ⟨2, _⟩ => ⟨S1024x2688, .bf16⟩
  | .hbm, ⟨3, _⟩ => ⟨S8192x1024, .f32⟩
  | .local _ .vmem, ⟨0, _⟩ => ⟨S512x2688, .f32⟩
  | .local _ .vmem, ⟨1, _⟩ => ⟨S512x2688, .f32⟩
  | .local _ .vmem, ⟨2, _⟩ => ⟨S1024x2688, .bf16⟩
  | .local _ .vmem, ⟨3, _⟩ => ⟨S512x1024, .f32⟩
  | .local _ .vmem, ⟨4, _⟩ => ⟨S512x1024, .f32⟩
  | _, _ => ⟨S8192x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2688 : Shape := ⟨2, ![8192, 2688]⟩
abbrev S1024x2688 : Shape := ⟨2, ![1024, 2688]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2688, .f32⟩
  | .hbm, ⟨1, _⟩ => ⟨S1024x2688, .f32⟩
  | .hbm, ⟨2, _⟩ => ⟨S_, .f32⟩
  | .hbm, ⟨3, _⟩ => ⟨S8192x1024, .f32⟩
  | .hbm, ⟨4, _⟩ => ⟨S8192x2688, .f32⟩
  | .hbm, ⟨5, _⟩ => ⟨S8192x1024, .f32⟩
  | _, _ => ⟨S8192x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S8192x2688 : Shape := ⟨2, ![8192, 2688]⟩
abbrev S1024x2688 : Shape := ⟨2, ![1024, 2688]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .f32⟩
  | .hbm, ⟨2, _⟩ => ⟨S1024x2688, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .f32⟩
  | .local _ .vmem, ⟨3, _⟩ => ⟨S2048x896, .f32⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .f32⟩
  | .hbm, ⟨2, _⟩ => ⟨S_, .f32⟩
  | .hbm, ⟨3, _⟩ => ⟨S1024x2688, .f32⟩
  | .hbm, ⟨4, _⟩ => ⟨S8192x1024, .f32⟩
  | .hbm, ⟨5, _⟩ => ⟨S8192x2688, .f32⟩
  | .hbm, ⟨6, _⟩ => ⟨S2688x1024, .f32⟩
  | .hbm, ⟨7, _⟩ => ⟨S1024x2688, .f32⟩
  | .hbm, ⟨8, _⟩ => ⟨S1024x2688, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S1024x704 : Shape := ⟨2, ![1024, 704]⟩
abbrev S8x704x1024 : Shape := ⟨3, ![8, 704, 1024]⟩
abbrev S704x1024 : Shape := ⟨2, ![704, 1024]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S8x704x1024, .bf16⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S8x352x1024, .bf16⟩
  | .local _ .vmem, ⟨3, _⟩ => ⟨S8x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1024x704 : Shape := ⟨2, ![1024, 704]⟩
abbrev S8x704x1024 : Shape := ⟨3, ![8, 704, 1024]⟩
abbrev S_ : Shape := ⟨0, ![]⟩
abbrev S704x1024 : Shape := ⟨2, ![704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S8x704x1024, .bf16⟩
  | .hbm, ⟨2, _⟩ => ⟨S1024x704, .f32⟩
  | .hbm, ⟨3, _⟩ => ⟨S1024x704, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel16.lean ====
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S352x1024, .f32⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S8x128x512, .bf16⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S128x512, .f32⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S128x512 : Shape := ⟨2, ![128, 512]⟩
abbrev S8x128x512 : Shape := ⟨3, ![8, 128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S8x128x512, .bf16⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S128x2688 : Shape := ⟨2, ![128, 2688]⟩
abbrev S8x128x2688 : Shape := ⟨3, ![8, 128, 2688]⟩
abbrev S1x128x2688 : Shape := ⟨3, ![1, 128, 2688]⟩

abbrev nBuf : Space → Nat
  | .hbm => 8
  | .vmem => 8
  | .smem => 0
  | _ => 0

abbrev bufTy : (tb : Table) → Fin (tcTables nBuf tb) → BufTy
  | .hbm, ⟨0, _⟩ => ⟨S128x2688, .f32⟩
  | .hbm, ⟨1, _⟩ => ⟨S8x128x2688, .bf16⟩
  | .hbm, ⟨2, _⟩ => ⟨S128x2688, .f32⟩
  | .hbm, ⟨3, _⟩ => ⟨S128x2688, .f32⟩
  | .hbm, ⟨4, _⟩ => ⟨S128x2688, .f32⟩
  | .hbm, ⟨5, _⟩ => ⟨S128x2688, .f32⟩
  | .hbm, ⟨6, _⟩ => ⟨S128x2688, .f32⟩
  | .hbm, ⟨7, _⟩ => ⟨S128x2688, .f32⟩
  | .local _ .vmem, ⟨0, _⟩ => ⟨S128x2688, .f32⟩
  | .local _ .vmem, ⟨1, _⟩ => ⟨S8x128x2688, .bf16⟩
  | .local _ .vmem, ⟨2, _⟩ => ⟨S128x2688, .f32⟩
  | .local _ .vmem, ⟨3, _⟩ => ⟨S128x2688, .f32⟩
  | .local _ .vmem, ⟨4, _⟩ => ⟨S128x2688, .f32⟩
  | .local _ .vmem, ⟨5, _⟩ => ⟨S128x2688, .f32⟩
  | .local _ .vmem, ⟨6, _⟩ => ⟨S128x2688, .f32⟩
  | .local _ .vmem, ⟨7, _⟩ => ⟨S128x2688, .f32⟩
  | _, _ => ⟨S128x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2688 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S128x2688 : Shape := ⟨2, ![128, 2688]⟩
abbrev S8x128x2688 : Shape := ⟨3, ![8, 128, 2688]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x2688, .f32⟩
  | .hbm, ⟨1, _⟩ => ⟨S8x128x2688, .bf16⟩
  | .hbm, ⟨2, _⟩ => ⟨S128x2688, .f32⟩
  | .hbm, ⟨3, _⟩ => ⟨S128x2688, .f32⟩
  | .hbm, ⟨4, _⟩ => ⟨S8x128x2688, .f32⟩
  | .hbm, ⟨5, _⟩ => ⟨S_, .f32⟩
  | .hbm, ⟨6, _⟩ => ⟨S128x2688, .f32⟩
  | .hbm, ⟨7, _⟩ => ⟨S_, .f32⟩
  | .hbm, ⟨8, _⟩ => ⟨S128x2688, .f32⟩
  | .hbm, ⟨9, _⟩ => ⟨S128x2688, .f32⟩
  | .hbm, ⟨10, _⟩ => ⟨S_, .f32⟩
  | .hbm, ⟨11, _⟩ => ⟨S128x2688, .f32⟩
  | .hbm, ⟨12, _⟩ => ⟨S128x2688, .f32⟩
  | .hbm, ⟨13, _⟩ => ⟨S128x2688, .f32⟩
  | .hbm, ⟨14, _⟩ => ⟨S_, .f32⟩
  | .hbm, ⟨15, _⟩ => ⟨S128x2688, .f32⟩
  | .hbm, ⟨16, _⟩ => ⟨S128x2688, .f32⟩
  | .hbm, ⟨17, _⟩ => ⟨S128x2688, .f32⟩
  | .hbm, ⟨18, _⟩ => ⟨S_, .f32⟩
  | .hbm, ⟨19, _⟩ => ⟨S128x2688, .f32⟩
  | .hbm, ⟨20, _⟩ => ⟨S128x2688, .f32⟩
  | .hbm, ⟨21, _⟩ => ⟨S128x2688, .f32⟩
  | .hbm, ⟨22, _⟩ => ⟨S_, .f32⟩
  | .hbm, ⟨23, _⟩ => ⟨S128x2688, .f32⟩
  | .hbm, ⟨24, _⟩ => ⟨S128x2688, .f32⟩
  | .hbm, ⟨25, _⟩ => ⟨S_, .f32⟩
  | .hbm, ⟨26, _⟩ => ⟨S128x2688, .f32⟩
  | .hbm, ⟨27, _⟩ => ⟨S128x2688, .f32⟩
  | .hbm, ⟨28, _⟩ => ⟨S128x2688, .f32⟩
  | .hbm, ⟨29, _⟩ => ⟨S_, .f32⟩
  | .hbm, ⟨30, _⟩ => ⟨S128x2688, .f32⟩
  | .hbm, ⟨31, _⟩ => ⟨S128x2688, .f32⟩
  | .hbm, ⟨32, _⟩ => ⟨S128x2688, .f32⟩
  | .hbm, ⟨33, _⟩ => ⟨S_, .f32⟩
  | .hbm, ⟨34, _⟩ => ⟨S128x2688, .f32⟩
  | .hbm, ⟨35, _⟩ => ⟨S128x2688, .f32⟩
  | .hbm, ⟨36, _⟩ => ⟨S128x2688, .f32⟩
  | .hbm, ⟨37, _⟩ => ⟨S_, .f32⟩
  | .hbm, ⟨38, _⟩ => ⟨S128x2688, .f32⟩
  | .hbm, ⟨39, _⟩ => ⟨S128x2688, .f32⟩
  | _, _ => ⟨S128x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S1024x224 : Shape := ⟨2, ![1024, 224]⟩
abbrev S8x224x1024 : Shape := ⟨3, ![8, 224, 1024]⟩
abbrev S224x1024 : Shape := ⟨2, ![224, 1024]⟩
abbrev S1x224x1024 : Shape := ⟨3, ![1, 224, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1024x224, .f32⟩
  | .hbm, ⟨1, _⟩ => ⟨S8x224x1024, .bf16⟩
  | .hbm, ⟨2, _⟩ => ⟨S1024x224, .f32⟩
  | .hbm, ⟨3, _⟩ => ⟨S1024x224, .f32⟩
  | .hbm, ⟨4, _⟩ => ⟨S224x1024, .f32⟩
  | .hbm, ⟨5, _⟩ => ⟨S224x1024, .f32⟩
  | .hbm, ⟨6, _⟩ => ⟨S224x1024, .f32⟩
  | .hbm, ⟨7, _⟩ => ⟨S224x1024, .f32⟩
  | .hbm, ⟨8, _⟩ => ⟨S224x1024, .f32⟩
  | .hbm, ⟨9, _⟩ => ⟨S224x1024, .f32⟩
  | .hbm, ⟨10, _⟩ => ⟨S224x1024, .f32⟩
  | .local _ .vmem, ⟨0, _⟩ => ⟨S224x1024, .f32⟩
  | .local _ .vmem, ⟨1, _⟩ => ⟨S8x224x1024, .bf16⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | _, _ => ⟨S1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1024x224 : Shape := ⟨2, ![1024, 224]⟩
abbrev S8x224x1024 : Shape := ⟨3, ![8, 224, 1024]⟩
abbrev S_ : Shape := ⟨0, ![]⟩
abbrev S224x1024 : Shape := ⟨2, ![224, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x224, .f32⟩
  | .hbm, ⟨1, _⟩ => ⟨S8x224x1024, .bf16⟩
  | .hbm, ⟨2, _⟩ => ⟨S1024x224, .f32⟩
  | .hbm, ⟨3, _⟩ => ⟨S1024x224, .f32⟩
  | .hbm, ⟨4, _⟩ => ⟨S8x224x1024, .f32⟩
  | .hbm, ⟨5, _⟩ => ⟨S_, .f32⟩
  | .hbm, ⟨6, _⟩ => ⟨S224x1024, .f32⟩
  | .hbm, ⟨7, _⟩ => ⟨S224x1024, .f32⟩
  | .hbm, ⟨8, _⟩ => ⟨S224x1024, .f32⟩
  | .hbm, ⟨9, _⟩ => ⟨S224x1024, .f32⟩
  | .hbm, ⟨10, _⟩ => ⟨S_, .f32⟩
  | .hbm, ⟨11, _⟩ => ⟨S224x1024, .f32⟩
  | .hbm, ⟨12, _⟩ => ⟨S224x1024, .f32⟩
  | .hbm, ⟨13, _⟩ => ⟨S_, .f32⟩
  | .hbm, ⟨14, _⟩ => ⟨S224x1024, .f32⟩
  | .hbm, ⟨15, _⟩ => ⟨S224x1024, .f32⟩
  | .hbm, ⟨16, _⟩ => ⟨S224x1024, .f32⟩
  | .hbm, ⟨17, _⟩ => ⟨S_, .f32⟩
  | .hbm, ⟨18, _⟩ => ⟨S224x1024, .f32⟩
  | .hbm, ⟨19, _⟩ => ⟨S224x1024, .f32⟩
  | .hbm, ⟨20, _⟩ => ⟨S224x1024, .f32⟩
  | .hbm, ⟨21, _⟩ => ⟨S_, .f32⟩
  | .hbm, ⟨22, _⟩ => ⟨S224x1024, .f32⟩
  | .hbm, ⟨23, _⟩ => ⟨S224x1024, .f32⟩
  | .hbm, ⟨24, _⟩ => ⟨S224x1024, .f32⟩
  | .hbm, ⟨25, _⟩ => ⟨S_, .f32⟩
  | .hbm, ⟨26, _⟩ => ⟨S224x1024, .f32⟩
  | .hbm, ⟨27, _⟩ => ⟨S224x1024, .f32⟩
  | .hbm, ⟨28, _⟩ => ⟨S_, .f32⟩
  | .hbm, ⟨29, _⟩ => ⟨S224x1024, .f32⟩
  | .hbm, ⟨30, _⟩ => ⟨S224x1024, .f32⟩
  | .hbm, ⟨31, _⟩ => ⟨S224x1024, .f32⟩
  | .hbm, ⟨32, _⟩ => ⟨S_, .f32⟩
  | .hbm, ⟨33, _⟩ => ⟨S224x1024, .f32⟩
  | .hbm, ⟨34, _⟩ => ⟨S224x1024, .f32⟩
  | .hbm, ⟨35, _⟩ => ⟨S224x1024, .f32⟩
  | .hbm, ⟨36, _⟩ => ⟨S_, .f32⟩
  | .hbm, ⟨37, _⟩ => ⟨S224x1024, .f32⟩
  | .hbm, ⟨38, _⟩ => ⟨S224x1024, .f32⟩
  | .hbm, ⟨39, _⟩ => ⟨S224x1024, .f32⟩
  | .hbm, ⟨40, _⟩ => ⟨S_, .f32⟩
  | .hbm, ⟨41, _⟩ => ⟨S224x1024, .f32⟩
  | .hbm, ⟨42, _⟩ => ⟨S224x1024, .f32⟩
  | _, _ => ⟨S1024x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel21.lean ====
abbrev S2048x128 : Shape := ⟨2, ![2048, 128]⟩
abbrev S8x2048x128 : Shape := ⟨3, ![8, 2048, 128]⟩
abbrev S1024x128 : Shape := ⟨2, ![1024, 128]⟩
abbrev S8x1024x128 : Shape := ⟨3, ![8, 1024, 128]⟩
abbrev S1x1024x128 : Shape := ⟨3, ![1, 1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S8x2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S8x1024x128, .f32⟩
  | .local _ .vmem, ⟨3, _⟩ => ⟨S8x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2048x128 : Shape := ⟨2, ![2048, 128]⟩
abbrev S8x2048x128 : Shape := ⟨3, ![8, 2048, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S8x2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S_, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S2048x128, .f32⟩
  | .hbm, ⟨23, _⟩ => ⟨S2048x128, .f32⟩
  | .hbm, ⟨24, _⟩ => ⟨S_, .f32⟩
  | .hbm, ⟨25, _⟩ => ⟨S2048x128, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S_, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S2048x128, .f32⟩
  | .hbm, ⟨38, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S8x128 : Shape := ⟨2, ![8, 128]⟩
abbrev S8x8x128 : Shape := ⟨3, ![8, 8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x128 : Shape := ⟨2, ![8, 128]⟩
abbrev S8x8x128 : Shape := ⟨3, ![8, 8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8192x1024 : Shape := ⟨2, ![8192, 1024]⟩
abbrev S8x128 : Shape := ⟨2, ![8, 128]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_8 : BitVec 32 := 0#32
  let v16 : BitVec 1 := Scalar.cmpi .ne arg0 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Reals.lean ====
/- Arithmetic of the extended reals at finite values: what the ideal operations are on real numbers. -/
module

public import Idealize.ShloMosaic.PureOps.Ideal.Laws
public import Idealize.ShloMosaic.Lib.IdealHost

@[expose] public section

noncomputable section

open Idealize.ShloMosaic
open scoped BigOperators

namespace Cert.Reals

/-- The binary32 word of one half denotes one half. -/
theorem half : Ideal.ofBits .f32 0x3F000000#32 = (((1 : ℝ) / 2 : ℝ) : EReal) := by
  simp [Ideal.ofBits, Ideal.ieee]; rw [← EReal.coe_mul]; norm_num

/-- The binary32 word of one eighth denotes one eighth. -/
theorem eighth : Ideal.ofBits .f32 0x3E000000#32 = (((1 : ℝ) / 8 : ℝ) : EReal) := by
  simp [Ideal.ofBits, Ideal.ieee]; rw [← EReal.coe_mul]; norm_num

/-- The binary32 word of eight denotes eight. -/
theorem eight : Ideal.ofBits .f32 0x41000000#32 = ((8 : ℝ) : EReal) := by
  simp [Ideal.ofBits, Ideal.ieee]; rw [← EReal.coe_mul]; norm_num

/-- The binary32 word of positive infinity denotes the top element. -/
theorem inf : Ideal.ofBits .f32 0x7F800000#32 = ⊤ := by
  simp [Ideal.ofBits, Ideal.ieee]

/-- The binary32 word of negative infinity denotes the bottom element. -/
theorem neg_inf : Ideal.ofBits .f32 0xFF800000#32 = ⊥ := by
  simp [Ideal.ofBits, Ideal.ieee]

/-- A value whose absolute value is below infinity is a real number. -/
theorem real_of_abs_lt (v : EReal) (h : Ideal.cmp .olt (max v (-v)) (Ideal.ofBits .f32 0x7F800000#32) = 1#1) :
    ∃ r : ℝ, v = (r : EReal) := by
  rw [inf] at h
  induction v with
  | bot => simp [Ideal.cmp] at h
  | top => simp [Ideal.cmp] at h
  | coe r => exact ⟨r, rfl⟩

/-- A finite sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of real numbers with a nonzero divisor. -/
theorem div_coe (x : ℝ) {y : ℝ} (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

/-- A nonnegative real factor comes out of a sum, whatever the summands are. -/
theorem mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (by exact_mod_cast ha) (EReal.coe_ne_top a), ih]

/-- The logistic function through the hyperbolic tangent. -/
theorem half_tanh (x : ℝ) : 1 / 2 * Real.tanh (1 / 2 * x) + 1 / 2 = (1 + Real.exp (-x))⁻¹ := by
  have h1 : Real.exp (1 / 2 * x) ≠ 0 := (Real.exp_pos _).ne'
  have h2 : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, h2, Real.exp_neg]
  have h3 : 0 < Real.exp (1 / 2 * x) := Real.exp_pos _
  field_simp
  ring

end Cert.Reals

end
-- ==== Proof.Softmax.lean ====
module

public import proofs.«01_k».proof.Proof.Reals

@[expose] public section

noncomputable section

open Idealize.ShloMosaic
open scoped BigOperators

namespace Cert.Softmax

/-- The exponential of minus infinity or of a real is a nonnegative real, positive at a real. -/
theorem exp_real (x : EReal) (hx : x = ⊥ ∨ ∃ r : ℝ, x = r) :
    ∃ e : ℝ, 0 ≤ e ∧ Ideal.exp x = e ∧ ((∃ r : ℝ, x = r) → 0 < e) := by
  rcases hx with rfl | ⟨r, rfl⟩
  · exact ⟨0, le_rfl, by rw [Ideal.exp_bot]; simp, fun ⟨r, h⟩ => absurd h (EReal.bot_ne_coe r)⟩
  · exact ⟨Real.exp r, (Real.exp_pos r).le, Ideal.exp_coe r, fun _ => Real.exp_pos r⟩

/-- The largest of finitely many logits, one of which is real and none plus infinity, is real. -/
theorem max_real {n : ℕ} (s : Fin n → EReal) (hs : ∀ j, s j = ⊥ ∨ ∃ r : ℝ, s j = r) (h : ∃ j, ∃ r : ℝ, s j = r) :
    ∃ r : ℝ, Finset.univ.fold max (⊥ : EReal) s = r := by
  have h1 : Finset.univ.fold max (⊥ : EReal) s ≠ ⊤ := by
    refine ne_of_lt (Finset.fold_max_lt _ |>.mpr ⟨bot_lt_top, fun j _ => ?_⟩)
    rcases hs j with e | ⟨r, e⟩ <;> rw [e]
    · exact bot_lt_top
    · exact EReal.coe_lt_top r
  have h2 : Finset.univ.fold max (⊥ : EReal) s ≠ ⊥ := by
    obtain ⟨j, r, e⟩ := h
    refine ne_of_gt (Finset.lt_fold_max _ |>.mpr (.inr ⟨j, Finset.mem_univ j, ?_⟩))
    rw [e]; exact EReal.bot_lt_coe r
  exact ⟨_, (EReal.coe_toReal h1 h2).symm⟩

/-- A logit less a real stays minus infinity or real. -/
theorem sub_real (x : EReal) (hx : x = ⊥ ∨ ∃ r : ℝ, x = r) (m : ℝ) : x - m = ⊥ ∨ ∃ r : ℝ, x - m = r := by
  rcases hx with rfl | ⟨r, rfl⟩
  · exact .inl (EReal.bot_sub _)
  · exact .inr ⟨r - m, (EReal.coe_sub r m).symm⟩

/-- The exponentials of a row of logits are reals with a positive sum. -/
theorem row {n : ℕ} (s : Fin n → EReal) (hs : ∀ j, s j = ⊥ ∨ ∃ r : ℝ, s j = r) (h : ∃ j, ∃ r : ℝ, s j = r) (m : ℝ) :
    ∃ e : Fin n → ℝ, (∀ j, Ideal.exp (s j - m) = e j) ∧ 0 < ∑ j, e j := by
  choose e h0 he hp using fun j => exp_real _ (sub_real (s j) (hs j) m)
  obtain ⟨j, r, hj⟩ := h
  refine ⟨e, he, Finset.sum_pos' (fun j _ => h0 j) ⟨j, Finset.mem_univ j, hp j ⟨r - m, ?_⟩⟩⟩
  rw [hj, EReal.coe_sub]

/-- An exponential below maximum plus logarithm of the sum is the exponential below the maximum, divided by the sum. -/
theorem prob (x : EReal) (hx : x = ⊥ ∨ ∃ r : ℝ, x = r) (m z : ℝ) (hz : 0 < z) :
    Ideal.exp (x - (m + Ideal.log z)) = Ideal.div (Ideal.exp (x - m)) z := by
  rw [Ideal.log_coe, if_neg (not_le.mpr hz)]
  rcases hx with rfl | ⟨r, rfl⟩
  · rw [← EReal.coe_add, EReal.bot_sub, EReal.bot_sub, Ideal.exp_bot, ← EReal.coe_zero, Reals.div_coe _ hz.ne', zero_div]
  · rw [← EReal.coe_add, ← EReal.coe_sub, ← EReal.coe_sub, Ideal.exp_coe, Ideal.exp_coe, Reals.div_coe _ hz.ne']
    congr 1
    rw [← sub_sub, Real.exp_sub, Real.exp_log hz]

/-- The logits' gradient of one row by the sum over keys is the one by the sum over the output's width. -/
theorem grad {n d : ℕ} (e : Fin n → ℝ) (z : ℝ) (hz : z ≠ 0) (v : Fin n → Fin d → ℝ) (g : Fin d → ℝ) (j : Fin n) :
    (Ideal.div (∑ x, (g x : EReal) * (v j x : EReal)) z +
      ∑ _y : Fin 1, -∑ k, (∑ x, (g x : EReal) * (v k x : EReal)) * Ideal.div 1 ((z : EReal) * z) * (e k : EReal)) * (e j : EReal) =
    Ideal.div (e j) z * (∑ x, (g x : EReal) * (v j x : EReal) - ∑ x, (g x : EReal) * ∑ k, Ideal.div (e k) z * (v k x : EReal)) := by
  have h2 : z * z ≠ 0 := mul_ne_zero hz hz
  have h3 : ∑ k, (∑ x, g x * v k x) * (1 / (z * z)) * e k = (∑ k, (∑ x, g x * v k x) * e k / z) / z := by
    rw [Finset.sum_div]
    exact Finset.sum_congr rfl fun k _ => by field_simp
  have h4 : ∑ x, g x * ∑ k, e k / z * v k x = ∑ k, (∑ x, g x * v k x) * e k / z := by
    simp only [Finset.mul_sum, Finset.sum_mul, Finset.sum_div]
    rw [Finset.sum_comm]
    exact Finset.sum_congr rfl fun k _ => Finset.sum_congr rfl fun x _ => by ring
  rw [Fin.sum_univ_one]
  simp only [← EReal.coe_one, ← EReal.coe_mul, ← Reals.coe_sum, Reals.div_coe _ hz, Reals.div_coe _ h2, ← EReal.coe_neg,
    ← EReal.coe_add, ← EReal.coe_sub]
  congr 1
  rw [h3, h4]
  field_simp
  ring

end Cert.Softmax

end
-- ==== Proof.Rows.lean ====
/- Stores of a band of rows into a plane, read back at an index. -/
module

public import Idealize.ShloMosaic.Lib.Pipeline.ValueKit
public import Idealize.ShloMosaic.Lib.WritesUnit

@[expose] public section

noncomputable section

open Idealize.ShloMosaic Idealize.SL.Sem

namespace Cert.Rows

variable {Val : EltTy → Type} {e : EltTy} {N T D o : ℕ}

/-- A load of a band of rows, at an index. -/
theorem ld (X : (⟨3, ![1, N, D]⟩ : Shape).Idx → Val e) {off : Fin 3 → ℕ} (ho : off = ![0, o, 0])
    (inb : ∀ a : Fin 3, off a + (![1, T, D] : Fin 3 → ℕ) a ≤ (![1, N, D] : Fin 3 → ℕ) a) (i : Fin T) (d : Fin D) (r : Fin N) (hr : r.val = o + i.val) :
    View.ld X (Rect.unit (s := ⟨3, ![1, N, D]⟩) off ![1, T, D] inb) (ix3 0 i d) = X (ix3 0 r d) := by
  subst ho
  refine View.ld_unit_apply_of X _ _ inb _ _ fun a => ?_
  fin_cases a
  · rfl
  · exact hr
  · exact (Nat.zero_add _).symm

/-- A row inside the band reads the stored payload. -/
theorem hit {sig : RefSig} {κ : Kind} {sp : Space} (v : View sig κ sp (⟨3, ![1, N, D]⟩ : Shape) e) (f : v.ty.Contents Val)
    {off : Fin 3 → ℕ} (ho : off = ![0, o, 0])
    (inb : ∀ a : Fin 3, off a + (![1, T, D] : Fin 3 → ℕ) a ≤ (![1, N, D] : Fin 3 → ℕ) a)
    (w : (⟨3, ![1, T, D]⟩ : Shape).Idx → Val e) (L : List (View.Piece Val (⟨3, ![1, N, D]⟩ : Shape) e)) (r : Fin N) (d : Fin D) (i : Fin T) (hr : r.val = o + i.val) :
    v.read Val (v.writes Val f ((⟨Rect.unit (s := ⟨3, ![1, N, D]⟩) off ![1, T, D] inb, w⟩ : View.Piece Val (⟨3, ![1, N, D]⟩ : Shape) e) :: L)) (ix3 0 r d)
      = w (ix3 0 i d) := by
  refine View.read_writes_cons_unit_of_mem v f inb w L _ (ix3 0 i d) ho fun a => ?_
  fin_cases a
  · rfl
  · exact hr
  · exact (Nat.zero_add _).symm

/-- A row outside the band reads what was there. -/
theorem miss {sig : RefSig} {κ : Kind} {sp : Space} (v : View sig κ sp (⟨3, ![1, N, D]⟩ : Shape) e) (f : v.ty.Contents Val)
    {off : Fin 3 → ℕ} (ho : off = ![0, o, 0])
    (inb : ∀ a : Fin 3, off a + (![1, T, D] : Fin 3 → ℕ) a ≤ (![1, N, D] : Fin 3 → ℕ) a)
    (w : (⟨3, ![1, T, D]⟩ : Shape).Idx → Val e) (L : List (View.Piece Val (⟨3, ![1, N, D]⟩ : Shape) e)) (r : Fin N) (d : Fin D) (hr : r.val < o ∨ o + T ≤ r.val) :
    v.read Val (v.writes Val f ((⟨Rect.unit (s := ⟨3, ![1, N, D]⟩) off ![1, T, D] inb, w⟩ : View.Piece Val (⟨3, ![1, N, D]⟩ : Shape) e) :: L)) (ix3 0 r d)
      = v.read Val (v.writes Val f L) (ix3 0 r d) :=
  View.read_writes_cons_unit_of_not_mem v f inb w L _ ho 1 hr

/-- A row inside the newest band reads its payload, among covering stores. -/
theorem canon_hit [∀ e, Nonempty (Val e)] {off : Fin 3 → ℕ} (ho : off = ![0, o, 0])
    (inb : ∀ a : Fin 3, off a + (![1, T, D] : Fin 3 → ℕ) a ≤ (![1, N, D] : Fin 3 → ℕ) a)
    (w : (⟨3, ![1, T, D]⟩ : Shape).Idx → Val e) (L : List (View.Piece Val (⟨3, ![1, N, D]⟩ : Shape) e)) (r : Fin N) (d : Fin D) (i : Fin T) (hr : r.val = o + i.val) :
    View.canon ((⟨Rect.unit (s := ⟨3, ![1, N, D]⟩) off ![1, T, D] inb, w⟩ : View.Piece Val (⟨3, ![1, N, D]⟩ : Shape) e) :: L) (ix3 0 r d)
      = w (ix3 0 i d) := by
  subst ho
  have hy : (Rect.unit (s := ⟨3, ![1, N, D]⟩) ![0, o, 0] ![1, T, D] inb).emb (ix3 0 i d) = ix3 0 r d := by
    funext a
    fin_cases a
    · rfl
    · refine Fin.ext ?_
      show o + 1 * i.val = r.val
      rw [hr, Nat.one_mul]
    · refine Fin.ext ?_
      show 0 + 1 * d.val = d.val
      rw [Nat.zero_add, Nat.one_mul]
  rw [← hy]
  exact View.canon_cons_emb (Rect.unit (s := ⟨3, ![1, N, D]⟩) ![0, o, 0] ![1, T, D] inb) w L (ix3 0 i d)

/-- A row outside the newest band reads the earlier stores. -/
theorem canon_miss [∀ e, Nonempty (Val e)] {off : Fin 3 → ℕ} (ho : off = ![0, o, 0])
    (inb : ∀ a : Fin 3, off a + (![1, T, D] : Fin 3 → ℕ) a ≤ (![1, N, D] : Fin 3 → ℕ) a)
    (w : (⟨3, ![1, T, D]⟩ : Shape).Idx → Val e) (L : List (View.Piece Val (⟨3, ![1, N, D]⟩ : Shape) e)) (r : Fin N) (d : Fin D) (hr : r.val < o ∨ o + T ≤ r.val) :
    View.canon ((⟨Rect.unit (s := ⟨3, ![1, N, D]⟩) off ![1, T, D] inb, w⟩ : View.Piece Val (⟨3, ![1, N, D]⟩ : Shape) e) :: L) (ix3 0 r d)
      = View.canon L (ix3 0 r d) := by
  subst ho
  refine View.canon_cons_of_not_mem _ L fun h => ?_
  replace h : ix3 0 r d ∈ (Rect.unit (s := ⟨3, ![1, N, D]⟩) ![0, o, 0] ![1, T, D] inb).set := h
  rw [Rect.mem_set_unit] at h
  have h1 : o ≤ r.val ∧ r.val < o + T := h 1
  omega

end Cert.Rows

end
-- ==== Proof.Mem.lean ====
/- The value facts of `Cert.KernelIdeal` (the gradient of the attention over the memory slots), beside its reference. -/
module

public import proofs.«01_k».proof.Proof.Gen.KernelIdeal.Value
public import proofs.«01_k».proof.Proof.Gen.ReferenceIdeal.Run
public import proofs.«01_k».proof.Proof.Softmax
public import proofs.«01_k».proof.Proof.Rows
public import proofs.«01_k».proof.Pre_finite
public import proofs.«01_k».proof.Proof.Gen.Pre_finite
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Mem

section
open Cert.ReferenceIdeal Cert.ReferenceIdeal.Gen

/-- The scaled queries. -/
def QS (a0 : FVec Ideal S4x8192x64 .f32) : FVec Ideal S4x8192x64 .f32 := Host.divf a0 (broadcastInDim S4x8192x64 ![] bcast_S_S4x8192x64 (constant S_ .f32 0x41000000#32))

/-- The logits of scaled queries `q`. -/
def L (a1 : FVec Ideal S4x256x64 .f32) (q : FVec Ideal S4x8192x64 .f32) : FVec Ideal S4x8192x256 .f32 :=
  Host.dotGeneral dot_S4x8192x64_S4x256x64_S4x8192x256_2_2_1_1_0_0 none q a1

/-- The row maxima of logits. -/
def MX (l : FVec Ideal S4x8192x256 .f32) : FVec Ideal S4x8192 .f32 :=
  Host.reduce FloatOps.maximumf l (constant S_ .f32 0xFF800000#32) reducesTo_S4x8192x256_S4x8192_d2 h_S_

/-- The exponentials of logits below `M`. -/
def EX (l : FVec Ideal S4x8192x256 .f32) (M : FVec Ideal S4x8192 .f32) : FVec Ideal S4x8192x256 .f32 :=
  Host.exp (subf l (broadcastInDim S4x8192x256 ![0, 1, 2] bcast_S4x8192x1_S4x8192x256_0_1_2 (broadcastInDim S4x8192x1 ![0, 1] bcast_S4x8192_S4x8192x1_0_1 M)))

/-- Row maxima, kept above minus infinity. -/
def CL (M : FVec Ideal S4x8192 .f32) : FVec Ideal S4x8192 .f32 :=
  maximumf (broadcastInDim S4x8192 ![] bcast_S_S4x8192 (constant S_ .f32 0xFF800000#32)) M

/-- The row sums of exponentials. -/
def ZS (e : FVec Ideal S4x8192x256 .f32) : FVec Ideal S4x8192x1 .f32 :=
  broadcastInDim S4x8192x1 ![0, 1] bcast_S4x8192_S4x8192x1_0_1 (Host.reduceAdd e (constant S_ .f32 0x00000000#32) reducesTo_S4x8192x256_S4x8192_d2 h_S_)

/-- The probabilities. -/
def PR (e : FVec Ideal S4x8192x256 .f32) : FVec Ideal S4x8192x256 .f32 :=
  Host.divf e (broadcastInDim S4x8192x256 ![0, 1, 2] bcast_S4x8192x1_S4x8192x256_0_1_2 (ZS e))

/-- The cotangents of the probabilities. -/
def DP (a2 : FVec Ideal S4x256x64 .f32) (a3 : FVec Ideal S4x8192x64 .f32) : FVec Ideal S4x8192x256 .f32 := Host.dotGeneral dot_S4x8192x64_S4x256x64_S4x8192x256_2_2_1_1_0_0 none a3 a2

/-- The cotangents of the logits, from the exponentials and the cotangents of the probabilities. -/
def DS (e dp : FVec Ideal S4x8192x256 .f32) : FVec Ideal S4x8192x256 .f32 :=
  mulf (addf (Host.divf dp (broadcastInDim S4x8192x256 ![0, 1, 2] bcast_S4x8192x1_S4x8192x256_0_1_2 (ZS e)))
    (broadcastInDim S4x8192x256 ![0, 1] bcast_S4x8192_S4x8192x256_0_1 (Host.reduceAdd (Host.negf (shapeCast S4x8192x1 (Host.reduceAdd
      (mulf (mulf dp (broadcastInDim S4x8192x256 ![0, 1, 2] bcast_S4x8192x1_S4x8192x256_0_1_2 (Host.divf (broadcastInDim S4x8192x1 ![] bcast_S_S4x8192x1 (constant S_ .f32 0x3F800000#32)) (mulf (ZS e) (ZS e))))) e)
      (constant S_ .f32 0x00000000#32) reducesTo_S4x8192x256_S4x8192_d2 h_S_) shapeCasts_S4x8192_S4x8192x1)) (constant S_ .f32 0x00000000#32) reducesTo_S4x8192x1_S4x8192_d2 h_S_))) e

/-- The exponentials of the reference. -/
def E (a0 : FVec Ideal S4x8192x64 .f32) (a1 : FVec Ideal S4x256x64 .f32) : FVec Ideal S4x8192x256 .f32 :=
  EX (L a1 (QS a0)) (CL (MX (L a1 (QS a0))))

/-- The reference's first result. -/
def RDQ (a0 : FVec Ideal S4x8192x64 .f32) (a1 a2 : FVec Ideal S4x256x64 .f32) (a3 : FVec Ideal S4x8192x64 .f32) : FVec Ideal S4x8192x64 .f32 :=
  Host.dotGeneral dot_S4x8192x256_S4x256x64_S4x8192x64_2_1_1_2_0_0 none (DS (E a0 a1) (DP a2 a3)) a1

/-- The reference's second result. -/
def RDK (a0 : FVec Ideal S4x8192x64 .f32) (a1 a2 : FVec Ideal S4x256x64 .f32) (a3 : FVec Ideal S4x8192x64 .f32) : FVec Ideal S4x256x64 .f32 :=
  Host.dotGeneral dot_S4x8192x256_S4x8192x64_S4x256x64_1_1_2_2_0_0 none (DS (E a0 a1) (DP a2 a3)) (QS a0)

/-- The reference's third result. -/
def RDV (a0 : FVec Ideal S4x8192x64 .f32) (a1 : FVec Ideal S4x256x64 .f32) (a3 : FVec Ideal S4x8192x64 .f32) : FVec Ideal S4x256x64 .f32 :=
  transpose S4x256x64 [0, 2, 1] (Host.dotGeneral dot_S4x8192x64_S4x8192x256_S4x64x256_1_1_2_2_0_0 none a3 (PR (E a0 a1))) transposes_S4x64x256_S4x256x64_0_2_1

/-- The three results are the reference's terms. -/
theorem res (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v48 m c = RDQ (m ((c.tc : Thread nD τ).loc Cert.ReferenceIdeal.main_arg0)) (m ((c.tc : Thread nD τ).loc Cert.ReferenceIdeal.main_arg1)) (m ((c.tc : Thread nD τ).loc Cert.ReferenceIdeal.main_arg2)) (m ((c.tc : Thread nD τ).loc Cert.ReferenceIdeal.main_arg3))
    ∧ Cert.ReferenceIdeal.Value.res_main_v47 m c = RDK (m ((c.tc : Thread nD τ).loc Cert.ReferenceIdeal.main_arg0)) (m ((c.tc : Thread nD τ).loc Cert.ReferenceIdeal.main_arg1)) (m ((c.tc : Thread nD τ).loc Cert.ReferenceIdeal.main_arg2)) (m ((c.tc : Thread nD τ).loc Cert.ReferenceIdeal.main_arg3)) := ⟨rfl, rfl⟩

theorem QS_at (a0) (h : Fin 4) (r : Fin 8192) (d : Fin 64) : QS a0 (ix3 h r d) = Ideal.div (a0 (ix3 h r d)) (Ideal.ofBits .f32 0x41000000#32) := by
  pointwise [QS]
theorem L_at (a1 q) (h : Fin 4) (r : Fin 8192) (j : Fin 256) : L a1 q (ix3 h r j) = ∑ x : Fin 64, q (ix3 h r x) * a1 (ix3 h j x) := by
  pointwise [L]
theorem DP_at (a2 a3) (h : Fin 4) (r : Fin 8192) (j : Fin 256) : DP a2 a3 (ix3 h r j) = ∑ x : Fin 64, a3 (ix3 h r x) * a2 (ix3 h j x) := by
  pointwise [DP]
theorem EX_at (l M) (h : Fin 4) (r : Fin 8192) (j : Fin 256) : EX l M (ix3 h r j) = Ideal.exp (l (ix3 h r j) - M (ix2 h r)) := by
  pointwise [EX]
theorem CL_eq (M) : CL M = M := by
  funext j
  pointwise [CL]
  rw [Reals.neg_inf, max_eq_right bot_le]
theorem PR_at (e) (h : Fin 4) (r : Fin 8192) (j : Fin 256) : PR e (ix3 h r j) = Ideal.div (e (ix3 h r j)) (∑ x : Fin 256, e (ix3 h r x)) := by
  pointwise [PR, ZS]
theorem DS_at (e dp) (h : Fin 4) (r : Fin 8192) (j : Fin 256) : DS e dp (ix3 h r j) =
    (Ideal.div (dp (ix3 h r j)) (∑ x : Fin 256, e (ix3 h r x)) + ∑ _y : Fin 1, -∑ x : Fin 256, dp (ix3 h r x) * Ideal.div 1 ((∑ x : Fin 256, e (ix3 h r x)) * ∑ x : Fin 256, e (ix3 h r x)) * e (ix3 h r x)) * e (ix3 h r j) := by
  pointwise [DS, ZS]
theorem RDV_at (a0 a1 a3) (h : Fin 4) (j : Fin 256) (d : Fin 64) : RDV a0 a1 a3 (ix3 h j d) = ∑ r : Fin 8192, a3 (ix3 h r d) * PR (E a0 a1) (ix3 h r j) := by
  pointwise [RDV]
theorem RDQ_at (a0 a1 a2 a3) (h : Fin 4) (r : Fin 8192) (d : Fin 64) : RDQ a0 a1 a2 a3 (ix3 h r d) = ∑ j : Fin 256, DS (E a0 a1) (DP a2 a3) (ix3 h r j) * a1 (ix3 h j d) := by
  pointwise [RDQ]
theorem RDK_at (a0 a1 a2 a3) (h : Fin 4) (j : Fin 256) (d : Fin 64) : RDK a0 a1 a2 a3 (ix3 h j d) = ∑ r : Fin 8192, DS (E a0 a1) (DP a2 a3) (ix3 h r j) * QS a0 (ix3 h r d) := by
  pointwise [RDK]

/-- The attention's output. -/
def O (e : FVec Ideal S4x8192x256 .f32) (a2 : FVec Ideal S4x256x64 .f32) : FVec Ideal S4x8192x64 .f32 :=
  Host.dotGeneral dot_S4x8192x256_S4x256x64_S4x8192x64_2_1_1_2_0_0 none (PR e) a2
theorem O_at (e a2) (h : Fin 4) (r : Fin 8192) (d : Fin 64) : O e a2 (ix3 h r d) = ∑ j : Fin 256, PR e (ix3 h r j) * a2 (ix3 h j d) := by
  pointwise [O]

/-- The logarithms of the row sums, above the row maxima. -/
def LSE (e : FVec Ideal S4x8192x256 .f32) (M : FVec Ideal S4x8192 .f32) : FVec Ideal S4x8192x1 .f32 :=
  addf (broadcastInDim S4x8192x1 ![0, 1] bcast_S4x8192_S4x8192x1_0_1 M) (Host.log (ZS e))
theorem LSE_at (e M) (h : Fin 4) (r : Fin 8192) : LSE e M (ix3 h r 0) = M (ix2 h r) + Ideal.log (∑ j : Fin 256, e (ix3 h r j)) := by
  pointwise [LSE, ZS]

/-- The row maxima of real logits are real. -/
theorem MX_real (l : FVec Ideal S4x8192x256 .f32) (hl : ∀ i, ∃ r : ℝ, l i = (r : EReal)) (i) : ∃ r : ℝ, MX l i = (r : EReal) := by
  have e := Host.reduce_eq_fold_single (FloatOps.maximumf (F := Ideal) (φ := .f32)) l (constant S_ .f32 0xFF800000#32) reducesTo_S4x8192x256_S4x8192_d2 (by decide) h_S_ i
  have e0 : (constant (F := Ideal) S_ .f32 0xFF800000#32) (Shape.Idx.first h_S_) = ⊥ := Reals.neg_inf
  rw [e0] at e
  obtain ⟨r, hr⟩ := Softmax.max_real (n := 256) (fun k => l ((by decide : S4x8192x256.Reduces [2] S4x8192).lift i k)) (fun j => .inr (hl _)) ⟨0, hl _⟩
  exact ⟨r, e.trans hr⟩

/-- What the kernel forms of a query row and a key, of the saved arrays. -/
def PK (q : FVec Ideal S4x8192x64 .f32) (a1 : FVec Ideal S4x256x64 .f32) (lse : FVec Ideal S4x8192x1 .f32) (h : Fin 4) (r : Fin 8192) (j : Fin 256) : EReal :=
  Ideal.exp (∑ x : Fin 64, q (ix3 h r x) * a1 (ix3 h j x) - lse (ix3 h r 0))

/-- The kernel's cotangent of a logit. -/
def DK (q : FVec Ideal S4x8192x64 .f32) (a1 a2 : FVec Ideal S4x256x64 .f32) (a3 o : FVec Ideal S4x8192x64 .f32) (lse : FVec Ideal S4x8192x1 .f32) (h : Fin 4) (r : Fin 8192) (j : Fin 256) : EReal :=
  PK q a1 lse h r j * (∑ x : Fin 64, a3 (ix3 h r x) * a2 (ix3 h j x) - ∑ x : Fin 64, a3 (ix3 h r x) * o (ix3 h r x))

/-- On finite arrays the kernel's probabilities and cotangents of the logits are the reference's. -/
theorem same (a0 : FVec Ideal S4x8192x64 .f32) (a1 a2 : FVec Ideal S4x256x64 .f32) (a3 : FVec Ideal S4x8192x64 .f32)
    (h0 : ∀ i, ∃ r : ℝ, a0 i = (r : EReal)) (h1 : ∀ i, ∃ r : ℝ, a1 i = (r : EReal)) (h2 : ∀ i, ∃ r : ℝ, a2 i = (r : EReal)) (h3 : ∀ i, ∃ r : ℝ, a3 i = (r : EReal))
    (h : Fin 4) (r : Fin 8192) (j : Fin 256) :
    PK (QS a0) a1 (LSE (E a0 a1) (MX (L a1 (QS a0)))) h r j = PR (E a0 a1) (ix3 h r j)
    ∧ DK (QS a0) a1 a2 a3 (O (E a0 a1) a2) (LSE (E a0 a1) (MX (L a1 (QS a0)))) h r j = DS (E a0 a1) (DP a2 a3) (ix3 h r j) := by
  have hq : ∀ i, ∃ x : ℝ, QS a0 i = (x : EReal) := fun i => by
    obtain ⟨x, hx⟩ := h0 i
    idx_vars i
    exact ⟨x / 8, by rw [QS_at, hx, Reals.eight, Reals.div_coe _ (by norm_num)]⟩
  have hl : ∀ i, ∃ x : ℝ, L a1 (QS a0) i = (x : EReal) := fun i => by
    choose q hq using hq
    choose k hk using h1
    idx_vars i
    rw [L_at]
    simp only [hq, hk, ← EReal.coe_mul, ← Reals.coe_sum]
    exact ⟨_, rfl⟩
  obtain ⟨M, hM⟩ := MX_real _ hl (ix2 h r)
  obtain ⟨e, he, hz⟩ := Softmax.row (fun j => L a1 (QS a0) (ix3 h r j)) (fun j => .inr (hl _)) ⟨0, hl _⟩ M
  have hE : ∀ j, E a0 a1 (ix3 h r j) = (e j : EReal) := fun j => by
    rw [E, EX_at, CL_eq, hM]; exact he j
  have hZ : ∑ j : Fin 256, E a0 a1 (ix3 h r j) = ((∑ j, e j : ℝ) : EReal) := by
    simp only [hE, ← Reals.coe_sum]
  have hP : ∀ j, PK (QS a0) a1 (LSE (E a0 a1) (MX (L a1 (QS a0)))) h r j = Ideal.div (e j) ((∑ j, e j : ℝ) : EReal) := fun j => by
    rw [PK, LSE_at, hZ, hM, ← L_at, Softmax.prob _ (.inr (hl _)) _ _ hz]
    exact congrArg (Ideal.div · _) (he j)
  refine ⟨by rw [hP, PR_at, hE, hZ], ?_⟩
  choose v hv using h2
  choose g hg using h3
  have e1 : ∀ x, O (E a0 a1) a2 (ix3 h r x) = ∑ k, Ideal.div (e k) ((∑ j, e j : ℝ) : EReal) * (v (ix3 h k x) : EReal) := fun x => by
    rw [O_at]
    exact Finset.sum_congr rfl fun k _ => by rw [PR_at, hE, hZ, hv]
  rw [DK, hP, DS_at]
  simp only [e1, DP_at, hE, ← Reals.coe_sum, hv, hg]
  exact (Softmax.grad e _ hz.ne' (fun k x => v (ix3 h k x)) (fun x => g (ix3 h r x)) j).symm
end

section
open Cert.KernelIdeal Cert.KernelIdeal.Gen
variable (m : (ℓ : Loc nD τ sig) → Buf (Elt Ideal) ℓ)

/-- Scaling by one eighth divides by eight. -/
theorem scaled (a0 : FVec Ideal S4x8192x64 .f32) : mulf a0 (broadcastInDim S4x8192x64 ![] bcast_S_S4x8192x64 (constant S_ .f32 0x3E000000#32)) = QS a0 := by
  funext j
  idx_vars j
  rw [QS_at]
  pointwise []
  rw [Reals.eighth, Reals.eight, Ideal.div, if_neg (by norm_num), ← EReal.coe_inv]
  norm_num

/-- The queries the kernel reads. -/
theorem V_q (c : Dev nD) : V m c main_v25 = QS (m ((c : Thread nD τ).loc main_arg0)) := by
  entry_read
  rw [scaled]
  rfl

/-- The keys the kernel reads. -/
theorem V_k (c : Dev nD) : V m c main_v26 = (m ((c : Thread nD τ).loc main_arg1)) := by
  entry_read
  rfl

/-- The saved row sums the kernel reads. -/
theorem V_lse (c : Dev nD) : V m c main_v11 = LSE (E (m ((c : Thread nD τ).loc main_arg0)) (m ((c : Thread nD τ).loc main_arg1))) (MX (L (m ((c : Thread nD τ).loc main_arg1)) (QS (m ((c : Thread nD τ).loc main_arg0))))) := by
  rw [E, CL_eq]
  entry_read
  rw [scaled]
  rfl

/-- The saved output the kernel reads. -/
theorem V_o (c : Dev nD) : V m c main_v24 = O (E (m ((c : Thread nD τ).loc main_arg0)) (m ((c : Thread nD τ).loc main_arg1))) (m ((c : Thread nD τ).loc main_arg2)) := by
  entry_read
  rw [scaled]
  rfl

/-- Every window's block index at every grid point. -/
theorem idx : ∀ t : Fin cfg0.N, win0_0.index t = ![t.val / 4, t.val % 4, 0]
    ∧ win0_1.index t = ![t.val / 4, 0, 0]
    ∧ win0_2.index t = ![t.val / 4, 0, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, 0, 0]
    ∧ win0_7.index t = ![t.val / 4, 0, 0]
    ∧ win0_8.index t = ![t.val / 4, 0, 0] :=
  (by decide +kernel : ∀ t : Fin grid0.N, _)

/-- The rows and keys a block holds, over any array. -/theorem cell0 (c : Dev nD) (W : (b : Ref sig .tc) → Buf (Elt Ideal) ((c : Thread nD τ).loc b)) (t : Fin cfg0.N) (h : Fin 4) (hh : h.val = t.val / 4) (i : Fin 2048) (r : Fin 8192) (hr : r.val = 2048 * (t.val % 4) + i.val) (x : Fin 64) :
    ((cfg0.win 0).blk t).view.read (Elt Ideal) (W (Pipeline.arrRef spec0 0)) (ix3 0 i x) = W main_v25 (ix3 h r x) := by
  generalize W main_v25 = X
  show X (((cfg0.win 0).blk t).view.emb (ix3 0 i x)) = X (ix3 h r x)
  blk_point [idx t]

theorem cell1 (c : Dev nD) (W : (b : Ref sig .tc) → Buf (Elt Ideal) ((c : Thread nD τ).loc b)) (t : Fin cfg0.N) (h : Fin 4) (hh : h.val = t.val / 4) (j : Fin 256) (x : Fin 64) :
    ((cfg0.win 1).blk t).view.read (Elt Ideal) (W (Pipeline.arrRef spec0 1)) (ix3 0 j x) = W main_v26 (ix3 h j x) := by
  generalize W main_v26 = X
  show X (((cfg0.win 1).blk t).view.emb (ix3 0 j x)) = X (ix3 h j x)
  blk_point [idx t]

theorem cell2 (c : Dev nD) (W : (b : Ref sig .tc) → Buf (Elt Ideal) ((c : Thread nD τ).loc b)) (t : Fin cfg0.N) (h : Fin 4) (hh : h.val = t.val / 4) (j : Fin 256) (x : Fin 64) :
    ((cfg0.win 2).blk t).view.read (Elt Ideal) (W (Pipeline.arrRef spec0 2)) (ix3 0 j x) = W main_arg2 (ix3 h j x) := by
  generalize W main_arg2 = X
  show X (((cfg0.win 2).blk t).view.emb (ix3 0 j x)) = X (ix3 h j x)
  blk_point [idx t]

theorem cell3 (c : Dev nD) (W : (b : Ref sig .tc) → Buf (Elt Ideal) ((c : Thread nD τ).loc b)) (t : Fin cfg0.N) (h : Fin 4) (hh : h.val = t.val / 4) (i : Fin 2048) (r : Fin 8192) (hr : r.val = 2048 * (t.val % 4) + i.val) (x : Fin 64) :
    ((cfg0.win 3).blk t).view.read (Elt Ideal) (W (Pipeline.arrRef spec0 3)) (ix3 0 i x) = W main_v24 (ix3 h r x) := by
  generalize W main_v24 = X
  show X (((cfg0.win 3).blk t).view.emb (ix3 0 i x)) = X (ix3 h r x)
  blk_point [idx t]

theorem cell4 (c : Dev nD) (W : (b : Ref sig .tc) → Buf (Elt Ideal) ((c : Thread nD τ).loc b)) (t : Fin cfg0.N) (h : Fin 4) (hh : h.val = t.val / 4) (i : Fin 2048) (r : Fin 8192) (hr : r.val = 2048 * (t.val % 4) + i.val)  :
    ((cfg0.win 4).blk t).view.read (Elt Ideal) (W (Pipeline.arrRef spec0 4)) (ix3 0 i 0) = W main_v11 (ix3 h r 0) := by
  generalize W main_v11 = X
  show X (((cfg0.win 4).blk t).view.emb (ix3 0 i 0)) = X (ix3 h r 0)
  blk_point [idx t]

theorem cell5 (c : Dev nD) (W : (b : Ref sig .tc) → Buf (Elt Ideal) ((c : Thread nD τ).loc b)) (t : Fin cfg0.N) (h : Fin 4) (hh : h.val = t.val / 4) (i : Fin 2048) (r : Fin 8192) (hr : r.val = 2048 * (t.val % 4) + i.val) (x : Fin 64) :
    ((cfg0.win 5).blk t).view.read (Elt Ideal) (W (Pipeline.arrRef spec0 5)) (ix3 0 i x) = W main_arg3 (ix3 h r x) := by
  generalize W main_arg3 = X
  show X (((cfg0.win 5).blk t).view.emb (ix3 0 i x)) = X (ix3 h r x)
  blk_point [idx t]

end

section
open Cert.KernelIdeal Cert.KernelIdeal.Gen
theorem pay14_at (x0 : Vec Ideal S1x2048x64 .bf16) (x1 : Vec Ideal S1x256x64 .bf16) (x4 : Vec Ideal S1x2048x1 .f32) (i : Fin 2048) (j : Fin 256) :
    k0_pay14 (F := Ideal) x0 x1 x4 (ix2 i j) = Ideal.exp (∑ x : Fin 64, x0 (ix3 0 i x) * x1 (ix3 0 j x) - x4 (ix3 0 i 0)) := by
  pointwise [k0_pay14, k0_pay10, k0_pay11]
theorem pay1_at (p dp : FVec Ideal S2048x256 .f32) (de : FVec Ideal S2048 .f32) (i : Fin 2048) (j : Fin 256) :
    k0_pay1 (F := Ideal) p dp de (ix2 i j) = p (ix2 i j) * (dp (ix2 i j) - de (ix1 i)) := by
  pointwise [k0_pay1]
theorem pay15_at (x5 : Vec Ideal S1x2048x64 .f32) (x2 : Vec Ideal S1x256x64 .f32) (i : Fin 2048) (j : Fin 256) :
    k0_pay15 (F := Ideal) x5 x2 (ix2 i j) = ∑ x : Fin 64, x5 (ix3 0 i x) * x2 (ix3 0 j x) := by
  pointwise [k0_pay15, k0_pay12, k0_pay13]
theorem pay16_at (x5 x3 : Vec Ideal S1x2048x64 .f32) (i : Fin 2048)  :
    k0_pay16 (F := Ideal) x5 x3 (ix1 i) = ∑ x : Fin 64, x5 (ix3 0 i x) * x3 (ix3 0 i x) := by
  pointwise [k0_pay16, k0_pay12]
theorem pay2_at (x0 p x2 j) :
    k0_pay2 (F := Ideal) x0 p x2 j = x2 j + ∑ i : Fin 2048, p (ix2 i (j 0)) * x0 (ix2 i (j 1)) := by
  pointwise [k0_pay2]
theorem pay3_at (x0 p dp de x2 j) :
    k0_pay3 (F := Ideal) x0 p dp de x2 j = x2 j + ∑ i : Fin 2048, k0_pay1 (F := Ideal) p dp de (ix2 i (j 0)) * x0 (ix2 i (j 1)) := by
  pointwise [k0_pay3]
theorem pay4_at (x0 p dp de x2) (i : Fin 2048) (d : Fin 64) :
    k0_pay4 (F := Ideal) x0 p dp de x2 (ix3 0 i d) = x2 (ix3 0 i d) + ∑ j : Fin 256, k0_pay1 (F := Ideal) p dp de (ix2 i j) * x0 (ix2 j d) := by
  pointwise [k0_pay4]
theorem pay5_at (x) (j : Fin 256) (d : Fin 64) : k0_pay5 (F := Ideal) x (ix3 0 j d) = x (ix2 j d) := by
  pointwise [k0_pay5]
theorem pay6_at (x) (j : Fin 256) (d : Fin 64) : k0_pay6 (F := Ideal) x (ix3 0 j d) = x (ix2 j d) := by
  pointwise [k0_pay6]
theorem pay7_at (j) : k0_pay7 (F := Ideal) j = 0 := by
  pointwise [k0_pay7]
theorem pay8_at (j) : k0_pay8 (F := Ideal) j = 0 := by
  pointwise [k0_pay8]
theorem pay9_at (j) : k0_pay9 (F := Ideal) j = 0 := by
  pointwise [k0_pay9]
theorem pay10_at (x) (i : Fin 2048) (d : Fin 64) : k0_pay10 (F := Ideal) x (ix2 i d) = x (ix3 0 i d) := by
  pointwise [k0_pay10]
theorem pay11_at (x) (j : Fin 256) (d : Fin 64) : k0_pay11 (F := Ideal) x (ix2 j d) = x (ix3 0 j d) := by
  pointwise [k0_pay11]
theorem pay13_at (x) (i : Fin 2048) (d : Fin 64) : k0_pay13 (F := Ideal) x (ix2 i d) = x (ix3 0 i d) := by
  pointwise [k0_pay13, k0_pay12]
end

section
open Cert.KernelIdeal Cert.KernelIdeal.Gen
variable (m : (ℓ : Loc nD τ sig) → Buf (Elt Ideal) ℓ) (c : Dev nD)

/-- The kernel's probabilities at a point. -/
abbrev pB (t : Fin cfg0.N) : FVec Ideal S2048x256 .f32 := k0_pay14 (F := Ideal) (iblk m c 0 t) (iblk m c 1 t) (iblk m c 4 t)
/-- The kernel's cotangents of the logits at a point. -/
abbrev dB (t : Fin cfg0.N) : FVec Ideal S2048x256 .bf16 := k0_pay1 (F := Ideal) (pB m c t) (k0_pay15 (iblk m c 5 t) (iblk m c 2 t)) (k0_pay16 (iblk m c 5 t) (iblk m c 3 t))

variable (h0 : ∀ i, ∃ r : ℝ, m ((c : Thread nD τ).loc main_arg0) i = (r : EReal)) (h1 : ∀ i, ∃ r : ℝ, m ((c : Thread nD τ).loc main_arg1) i = (r : EReal))
  (h2 : ∀ i, ∃ r : ℝ, m ((c : Thread nD τ).loc main_arg2) i = (r : EReal)) (h3 : ∀ i, ∃ r : ℝ, m ((c : Thread nD τ).loc main_arg3) i = (r : EReal))
include h0 h1 h2 h3

/-- On finite arrays they are the reference's, at the rows the block holds. -/
theorem blk_same (t : Fin cfg0.N) (h : Fin 4) (hh : h.val = t.val / 4) (i : Fin 2048) (r : Fin 8192) (hr : r.val = 2048 * (t.val % 4) + i.val) (j : Fin 256) :
    pB m c t (ix2 i j) = PR (E (m ((c : Thread nD τ).loc main_arg0)) (m ((c : Thread nD τ).loc main_arg1))) (ix3 h r j)
    ∧ dB m c t (ix2 i j) = DS (E (m ((c : Thread nD τ).loc main_arg0)) (m ((c : Thread nD τ).loc main_arg1))) (DP (m ((c : Thread nD τ).loc main_arg2)) (m ((c : Thread nD τ).loc main_arg3))) (ix3 h r j) := by
  obtain ⟨e1, e2⟩ := same _ _ _ _ h0 h1 h2 h3 h r j
  have ep : pB m c t (ix2 i j) = PR (E (m ((c : Thread nD τ).loc main_arg0)) (m ((c : Thread nD τ).loc main_arg1))) (ix3 h r j) := by
    rw [← e1, pB, pay14_at, PK, ← V_lse, ← V_q]
    have b0 := fun x => cell0 c (V m c) t h hh i r hr x
    have b1 := fun x => (cell1 c (V m c) t h hh j x).trans (congrFun (V_k m c) _)
    have b4 := cell4 c (V m c) t h hh i r hr
    unfold iblk
    simp only [b0, b1, b4]
  refine ⟨ep, ?_⟩
  rw [dB, pay1_at, ep, ← e2, DK, e1, ← V_o, pay15_at, pay16_at]
  have b2 := fun x => cell2 c (V m c) t h hh j x
  have b3 := fun x => cell3 c (V m c) t h hh i r hr x
  have b5 := fun x => cell5 c (V m c) t h hh i r hr x
  unfold iblk
  simp only [b2, b3, b5]
  rfl

/-- The third result array after the run. -/
theorem final8 : (dats m 0 c).arrAt 8 (cfgs 0).N = RDV (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8]
  have hm : t.val % 4 = 3 := (flush0_8 t).mp hf
  have hN : t.val < 16 := lt_of_lt_of_eq t.isLt (show cfg0.N = 16 from N_0)
  have ho : (outsAt0 m c t.val t.isLt).2.2.1 = k0_pay6 (F := Ideal) (outsAt0 m c t.val t.isLt).2.2.2.2 := by
    rw [outsAt0_C m c t (by omega) (by omega) hm]; frame_out
  rw [ho]
  idx_vars y
  obtain rfl : y0 = 0 := Subsingleton.elim _ _
  have hh : (⟨t.val / 4, by omega⟩ : Fin 4).val = t.val / 4 := rfl
  generalize (⟨t.val / 4, by omega⟩ : Fin 4) = h at hh
  have he : ∀ X : S4x256x64.Idx → EReal, X (((cfg0.win 8).blk t).view.emb (ix3 0 y1 y2)) = X (ix3 h y1 y2) := fun X => by
    blk_point [idx t]
  refine Eq.trans ?_ (he (RDV (m ((c : Thread nD τ).loc main_arg0)) (m ((c : Thread nD τ).loc main_arg1)) (m ((c : Thread nD τ).loc main_arg3)))).symm
  rw [pay6_at, Pipeline.eq_sum_fin_of_reset_step_apply_of_flush (fun n h => (outsAt0 m c n h).2.2.2.2) 4 (fun _ => 0)
    (fun t j => ∑ i : Fin 2048, pB m c t (ix2 i (j 0)) * k0_pay13 (F := Ideal) (iblk m c 5 t) (ix2 i (j 1)))
    (fun t h j => by rw [outsAt0_A m c t h h (by omega)]; frame_out; rw [pay2_at, pay9_at])
    (fun t h j => by
      by_cases h3 : t.val % 4 = 3
      · rw [outsAt0_C m c t h h h3]; frame_out; rw [pay2_at]; exact congrArg (· + _) (congrFun ((Memref.isWhole_whole _).read_unread _) _)
      · rw [outsAt0_B m c t h h h3]; frame_out; rw [pay2_at]; exact congrArg (· + _) (congrFun ((Memref.isWhole_whole _).read_unread _) _))
    t hm _, zero_add, RDV_at]
  refine Fin.sum_mul_add_congr fun s k hl => ?_
  have hs := s.isLt
  have hd : h.val = (4 * (t.val / 4) + s.val) / 4 := by omega
  have hk : (⟨s.val * 2048 + k.val, hl⟩ : Fin 8192).val = 2048 * ((4 * (t.val / 4) + s.val) % 4) + k.val := by
    show s.val * 2048 + k.val = _
    omega
  have e1 := (blk_same m c h0 h1 h2 h3 ⟨_, Pipeline.run_point_lt_of_flush t hm s⟩ h hd k _ hk y1).1
  have e2 := cell5 c (V m c) ⟨_, Pipeline.run_point_lt_of_flush t hm s⟩ h hd k _ hk y2
  exact (congrArg₂ (· * ·) e1 ((pay13_at _ k y2).trans e2)).trans (mul_comm (G := EReal) _ _)

/-- The second result array after the run. -/
theorem final7 : (dats m 0 c).arrAt 7 (cfgs 0).N = RDK (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hm : t.val % 4 = 3 := (flush0_7 t).mp hf
  have hN : t.val < 16 := lt_of_lt_of_eq t.isLt (show cfg0.N = 16 from N_0)
  have ho : (outsAt0 m c t.val t.isLt).2.1 = k0_pay5 (F := Ideal) (outsAt0 m c t.val t.isLt).2.2.2.1 := by
    rw [outsAt0_C m c t (by omega) (by omega) hm]; frame_out
  rw [ho]
  idx_vars y
  obtain rfl : y0 = 0 := Subsingleton.elim _ _
  have hh : (⟨t.val / 4, by omega⟩ : Fin 4).val = t.val / 4 := rfl
  generalize (⟨t.val / 4, by omega⟩ : Fin 4) = h at hh
  have he : ∀ X : S4x256x64.Idx → EReal, X (((cfg0.win 7).blk t).view.emb (ix3 0 y1 y2)) = X (ix3 h y1 y2) := fun X => by
    blk_point [idx t]
  refine Eq.trans ?_ (he (RDK (m ((c : Thread nD τ).loc main_arg0)) (m ((c : Thread nD τ).loc main_arg1)) (m ((c : Thread nD τ).loc main_arg2)) (m ((c : Thread nD τ).loc main_arg3)))).symm
  rw [pay5_at, Pipeline.eq_sum_fin_of_reset_step_apply_of_flush (fun n h => (outsAt0 m c n h).2.2.2.1) 4 (fun _ => 0)
    (fun t j => ∑ i : Fin 2048, dB m c t (ix2 i (j 0)) * k0_pay10 (F := Ideal) (iblk m c 0 t) (ix2 i (j 1)))
    (fun t h j => by rw [outsAt0_A m c t h h (by omega)]; frame_out; rw [pay3_at, pay8_at])
    (fun t h j => by
      by_cases h3 : t.val % 4 = 3
      · rw [outsAt0_C m c t h h h3]; frame_out; rw [pay3_at]; exact congrArg (· + _) (congrFun ((Memref.isWhole_whole _).read_unread _) _)
      · rw [outsAt0_B m c t h h h3]; frame_out; rw [pay3_at]; exact congrArg (· + _) (congrFun ((Memref.isWhole_whole _).read_unread _) _))
    t hm _, zero_add, RDK_at]
  refine Fin.sum_mul_add_congr fun s k hl => ?_
  have hs := s.isLt
  have hd : h.val = (4 * (t.val / 4) + s.val) / 4 := by omega
  have hk : (⟨s.val * 2048 + k.val, hl⟩ : Fin 8192).val = 2048 * ((4 * (t.val / 4) + s.val) % 4) + k.val := by
    show s.val * 2048 + k.val = _
    omega
  have e1 := (blk_same m c h0 h1 h2 h3 ⟨_, Pipeline.run_point_lt_of_flush t hm s⟩ h hd k _ hk y1).2
  have e2 := (cell0 c (V m c) ⟨_, Pipeline.run_point_lt_of_flush t hm s⟩ h hd k _ hk y2).trans (congrFun (V_q m c) _)
  exact congrArg₂ (· * ·) e1 ((pay10_at _ k y2).trans e2)

/-- What a point adds to the first output's block: the rows it holds. -/
def term6 (t : Fin cfg0.N) (j : S1x8192x64.Idx) : EReal :=
  if (j 1).val / 2048 = t.val % 4 then ∑ k : Fin 256, dB m c t (ix2 (⟨(j 1).val % 2048, Nat.mod_lt _ (by norm_num)⟩ : Fin 2048) k) * k0_pay11 (F := Ideal) (iblk m c 1 t) (ix2 k (j 2)) else 0

omit h0 h1 h2 h3 in
/-- The rows a point's store covers. -/
theorem off1 (t : Fin cfg0.N) : k0_off1 (grid0.coords t) = ![0, 2048 * (t.val % 4), 0] :=
  (by decide +kernel : ∀ t : Fin grid0.N, k0_off1 (grid0.coords t) = ![0, 2048 * (t.val % 4), 0]) t

omit h0 h1 h2 h3 in
theorem step6 (t : Fin cfg0.N) (old : Vec Ideal S1x8192x64 .f32) (j : S1x8192x64.Idx) (res : EReal)
    (hit : ∀ (i : Fin 2048) (d : Fin 64) (r : Fin 8192), r.val = 2048 * (t.val % 4) + i.val → j = ix3 0 r d → res = k0_pay4 (F := Ideal) (k0_pay11 (iblk m c 1 t)) (pB m c t) (k0_pay15 (iblk m c 5 t) (iblk m c 2 t)) (k0_pay16 (iblk m c 5 t) (iblk m c 3 t)) (View.ld old (Rect.unit (k0_off1 (grid0.coords t)) ![1, 2048, 64] (k0_off1_inb (grid0.coords t)))) (ix3 0 i d))
    (miss : ∀ (d : Fin 64) (r : Fin 8192), (r.val < 2048 * (t.val % 4) ∨ 2048 * (t.val % 4) + 2048 ≤ r.val) → j = ix3 0 r d → res = old (ix3 0 r d)) :
    res = old j + term6 m c t j := by
  idx_vars j
  obtain rfl : j0 = 0 := Subsingleton.elim _ _
  have h1 := j1.isLt
  show res = old (ix3 0 j1 j2) + if j1.val / 2048 = t.val % 4 then ∑ k : Fin 256, dB m c t (ix2 (⟨j1.val % 2048, Nat.mod_lt _ (by norm_num)⟩ : Fin 2048) k) * k0_pay11 (F := Ideal) (iblk m c 1 t) (ix2 k j2) else 0
  by_cases hd : j1.val / 2048 = t.val % 4
  · have hr : j1.val = 2048 * (t.val % 4) + (⟨j1.val % 2048, Nat.mod_lt _ (by norm_num)⟩ : Fin 2048).val := by
      show j1.val = 2048 * (t.val % 4) + j1.val % 2048
      omega
    rw [hit _ j2 j1 hr rfl, pay4_at, Rows.ld old (off1 t) _ _ j2 j1 hr]
    rw [if_pos hd]
  · rw [miss j2 j1 (by omega) rfl]
    rw [if_neg hd, add_zero]

/-- The first result array after the run. -/
theorem final6 : (dats m 0 c).arrAt 6 (cfgs 0).N = RDQ (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hm : t.val % 4 = 3 := (flush0_6 t).mp hf
  have hN : t.val < 16 := lt_of_lt_of_eq t.isLt (show cfg0.N = 16 from N_0)
  idx_vars y
  obtain rfl : y0 = 0 := Subsingleton.elim _ _
  have hh : (⟨t.val / 4, by omega⟩ : Fin 4).val = t.val / 4 := rfl
  generalize (⟨t.val / 4, by omega⟩ : Fin 4) = h at hh
  have he : ∀ X : S4x8192x64.Idx → EReal, X (((cfg0.win 6).blk t).view.emb (ix3 0 y1 y2)) = X (ix3 h y1 y2) := fun X => by
    blk_point [idx t]
  refine Eq.trans ?_ (he (RDQ (m ((c : Thread nD τ).loc main_arg0)) (m ((c : Thread nD τ).loc main_arg1)) (m ((c : Thread nD τ).loc main_arg2)) (m ((c : Thread nD τ).loc main_arg3)))).symm
  rw [Pipeline.eq_sum_fin_of_reset_step_apply_of_flush (fun n h => (outsAt0 m c n h).1) 4 (fun _ => 0) (term6 m c)
    (fun t h j => by
      rw [outsAt0_A m c t h h (by omega)]; frame_out
      refine (step6 m c t (k0_pay7 (F := Ideal)) j _ (fun i d r hr e => ?_) (fun d r hr e => ?_)).trans (congrArg (· + _) (pay7_at j))
      · rw [e]; exact Rows.canon_hit (off1 t) _ _ _ r d i hr
      · rw [e, pay7_at]; refine (Rows.canon_miss (off1 t) _ _ _ r d hr).trans ?_
        rw [View.canon_unit_zero (by decide)]; exact pay7_at _)
    (fun t h j => by
      by_cases h3 : t.val % 4 = 3
      · rw [outsAt0_C m c t h h h3]; frame_out
        refine step6 m c t (outsAt0 m c (t.val - 1) (Nat.lt_of_le_of_lt (Nat.sub_le _ _) t.isLt)).1 j _ (fun i d r hr e => ?_) (fun d r hr e => ?_)
        · rw [e]; exact Rows.hit _ _ (off1 t) _ _ _ r d i hr
        · rw [e]; refine (Rows.miss _ _ (off1 t) _ _ _ r d hr).trans ?_
          exact congrFun ((hs0_6 t).read_unread _) _
      · rw [outsAt0_B m c t h h h3]; frame_out
        refine step6 m c t (outsAt0 m c (t.val - 1) (Nat.lt_of_le_of_lt (Nat.sub_le _ _) t.isLt)).1 j _ (fun i d r hr e => ?_) (fun d r hr e => ?_)
        · rw [e]; exact Rows.hit _ _ (off1 t) _ _ _ r d i hr
        · rw [e]; refine (Rows.miss _ _ (off1 t) _ _ _ r d hr).trans ?_
          exact congrFun ((hs0_6 t).read_unread _) _)
    t hm _, zero_add, RDQ_at]
  have hy := y1.isLt
  have key : ∀ (f : Fin 4 → EReal) (a : Fin 4), (∀ s, s ≠ a → f s = 0) → ∑ s, f s = f a := fun f a hf =>
    Finset.sum_eq_single a (fun s _ hs => hf s hs) fun hc => absurd (Finset.mem_univ _) hc
  refine (key _ (⟨y1.val / 2048, by omega⟩ : Fin 4) ?_).trans ?_
  rotate_left
  · have hd : h.val = (4 * (t.val / 4) + y1.val / 2048) / 4 := by omega
    have hk : y1.val = 2048 * ((4 * (t.val / 4) + y1.val / 2048) % 4) + y1.val % 2048 := by omega
    unfold term6
    refine (if_pos (show y1.val / 2048 = (4 * (t.val / 4) + y1.val / 2048) % 4 by omega)).trans ?_
    refine Finset.sum_congr rfl fun k _ => ?_
    have e1 := (blk_same m c h0 h1 h2 h3 ⟨_, Pipeline.run_point_lt_of_flush t hm ⟨y1.val / 2048, by omega⟩⟩ h hd ⟨y1.val % 2048, Nat.mod_lt _ (by norm_num)⟩ y1 hk k).2
    have e2 := (cell1 c (V m c) ⟨_, Pipeline.run_point_lt_of_flush t hm ⟨y1.val / 2048, by omega⟩⟩ h hd k y2).trans (congrFun (V_k m c) _)
    exact congrArg₂ (· * ·) e1 ((pay11_at _ k y2).trans e2)
  · intro s hs
    have h4 := s.isLt
    unfold term6
    refine if_neg fun hc => hs (Fin.ext ?_)
    replace hc : y1.val / 2048 = (4 * (t.val / 4) + s.val) % 4 := hc
    show s.val = y1.val / 2048
    omega
end

/-- Arguments whose elements are finite are reals. -/
theorem reals (a0 : FVec Ideal S4x8192x64 .f32) (a1 a2 : FVec Ideal S4x256x64 .f32) (a3 : FVec Ideal S4x8192x64 .f32)
    (h0 : (Cert.Pre_finite.fn (F := Ideal) a0 a1 a2 a3).1 = fun _ => 1#1)
    (h1 : (Cert.Pre_finite.fn (F := Ideal) a0 a1 a2 a3).2.1 = fun _ => 1#1)
    (h2 : (Cert.Pre_finite.fn (F := Ideal) a0 a1 a2 a3).2.2.1 = fun _ => 1#1)
    (h3 : (Cert.Pre_finite.fn (F := Ideal) a0 a1 a2 a3).2.2.2 = fun _ => 1#1) :
    (∀ i, ∃ r : ℝ, a0 i = (r : EReal)) ∧ (∀ i, ∃ r : ℝ, a1 i = (r : EReal))
    ∧ (∀ i, ∃ r : ℝ, a2 i = (r : EReal)) ∧ (∀ i, ∃ r : ℝ, a3 i = (r : EReal)) :=
  ⟨fun i => Reals.real_of_abs_lt _ (congrFun h0 i), fun i => Reals.real_of_abs_lt _ (congrFun h1 i),
   fun i => Reals.real_of_abs_lt _ (congrFun h2 i), fun i => Reals.real_of_abs_lt _ (congrFun h3 i)⟩

end Cert.KernelIdeal.Mem

end
-- ==== Proof.Act.lean ====
/- The value facts of `Cert.Kernel2Ideal` (the gradient of the gated activation of a feed-forward layer), beside its
   reference. -/
module

public import proofs.«01_k».proof.Proof.Gen.Kernel2Ideal.Value
public import proofs.«01_k».proof.Proof.Gen.Reference2Ideal.Run
public import proofs.«01_k».proof.Proof.Gen.Pre_finite2
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Act

open Cert.Kernel2Ideal Cert.Kernel2Ideal.Gen

/-- The cotangent of the gated activation, as the kernel computes it: half of `dy · w_outᵀ`. -/
def du (a0 : FVec Ideal S8192x1024 .f32) (a1 : FVec Ideal S2816x1024 .f32) (r : Fin 8192) (f : Fin 2816) : EReal :=
  Ideal.ofBits .f32 0x3F000000#32 * ∑ k : Fin 1024, a0 (ix2 r k) * a1 (ix2 f k)

/-- The logistic function of a pre-activation, as the kernel computes it. -/
def sg (a2 : FVec Ideal S8192x2816 .bf16) (r : Fin 8192) (f : Fin 2816) : EReal :=
  Ideal.ofBits .f32 0x3F000000#32 * Ideal.tanh (Ideal.ofBits .f32 0x3F000000#32 * a2 (ix2 r f)) + Ideal.ofBits .f32 0x3F000000#32

/-- The kernel's first result, element by element. -/
def DA (a0 : FVec Ideal S8192x1024 .f32) (a1 : FVec Ideal S2816x1024 .f32) (a2 a3 : FVec Ideal S8192x2816 .bf16) :
    FVec Ideal S8192x2816 .bf16 := fun i =>
  du a0 a1 (i 0) (i 1) * a3 (ix2 (i 0) (i 1)) * (sg a2 (i 0) (i 1) * (1 + a2 (ix2 (i 0) (i 1)) * (1 - sg a2 (i 0) (i 1))))

/-- The kernel's second result, element by element. -/
def DB (a0 : FVec Ideal S8192x1024 .f32) (a1 : FVec Ideal S2816x1024 .f32) (a2 : FVec Ideal S8192x2816 .bf16) :
    FVec Ideal S8192x2816 .bf16 := fun i =>
  du a0 a1 (i 0) (i 1) * (a2 (ix2 (i 0) (i 1)) * sg a2 (i 0) (i 1))

section
variable (m : (ℓ : Loc nD τ sig) → Buf (Elt Ideal) ℓ)

/-- Every window's block index at every grid point. -/
theorem idx : ∀ t : Fin cfg0.N, win0_0.index t = ![t.val % 16, 0]
    ∧ win0_1.index t = ![t.val / 16, 0]
    ∧ win0_2.index t = ![t.val % 16, t.val / 16]
    ∧ win0_3.index t = ![t.val % 16, t.val / 16]
    ∧ win0_4.index t = ![t.val % 16, t.val / 16]
    ∧ win0_5.index t = ![t.val % 16, t.val / 16] :=
  (by decide +kernel : ∀ t : Fin grid0.N, _)

/-- What the body stores for the first result at block index `y` of point `t`. -/
theorem pointA (c : Dev nD) (t : Fin cfg0.N) (y) :
    k0_pay4 (iblk m c 0 t) (iblk m c 1 t) (iblk m c 2 t) (iblk m c 3 t) y
      = DA (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay4, k0_pay3, k0_pay2, k0_pay1, DA, du, sg]
  blk_point [iblk, V, idx t]

/-- What the body stores for the second result at block index `y` of point `t`. -/
theorem pointB (c : Dev nD) (t : Fin cfg0.N) (y) :
    k0_pay5 (iblk m c 0 t) (iblk m c 1 t) (iblk m c 2 t) y
      = DB (m ((c : Thread nD τ).loc main_arg0)) (m ((c : Thread nD τ).loc main_arg1)) (m ((c : Thread nD τ).loc
        main_arg2)) (((cfg0.win 5).blk t).view.emb y) := by
  pointwise [k0_pay5, k0_pay3, k0_pay2, k0_pay1, DB, du, sg]
  blk_point [iblk, V, idx t]

/-- The first result array after the run. -/
theorem finalA (c : Dev nD) : (dats m 0 c).arrAt 4 (cfgs 0).N = DA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact pointA m c t y

/-- The second result array after the run. -/
theorem finalB (c : Dev nD) : (dats m 0 c).arrAt 5 (cfgs 0).N = DB (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact pointB m c t y

end

section
open Cert.Reference2Ideal Cert.Reference2Ideal.Gen

/-- The logistic function over the host's operations. -/
abbrev SG (a2 : FVec Ideal S8192x2816 .bf16) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a2 Cert.Reference2Ideal.Gen.bitsLt_bf16_f32))))

/-- The reference's cotangent of the gated activation. -/
abbrev DU (a0 : FVec Ideal S8192x1024 .f32) (a1 : FVec Ideal S2816x1024 .f32) : FVec Ideal S8192x2816 .f32 :=
  Host.dotGeneral dot_S8192x1024_S2816x1024_S8192x2816_1_1_0_0_n_n none (mulf (broadcastInDim S8192x1024 ![] bcast_S_S8192x1024 (constant S_ .f32 0x3F000000#32)) a0) a1

/-- The reference's first result over its arguments. -/
abbrev REFA (a0 : FVec Ideal S8192x1024 .f32) (a1 : FVec Ideal S2816x1024 .f32) (a2 a3 : FVec Ideal S8192x2816 .bf16) :
    FVec Ideal S8192x2816 .bf16 :=
  truncf .bf16 (addf (mulf (mulf (DU a0 a1) (extf .f32 a3 Cert.Reference2Ideal.Gen.bitsLt_bf16_f32)) (SG a2)) (mulf (mulf (extf .f32 a2 Cert.Reference2Ideal.Gen.bitsLt_bf16_f32) (mulf (DU a0 a1) (extf .f32 a3 Cert.Reference2Ideal.Gen.bitsLt_bf16_f32))) (mulf (SG a2) (subf (broadcastInDim S8192x2816 ![] bcast_S_S8192x2816 (constant S_ .f32 0x3F800000#32)) (SG a2))))) Cert.Reference2Ideal.Gen.bitsLt_bf16_f32

/-- The reference's second result over its arguments. -/
abbrev REFB (a0 : FVec Ideal S8192x1024 .f32) (a1 : FVec Ideal S2816x1024 .f32) (a2 : FVec Ideal S8192x2816 .bf16) :
    FVec Ideal S8192x2816 .bf16 :=
  truncf .bf16 (mulf (mulf (extf .f32 a2 Cert.Reference2Ideal.Gen.bitsLt_bf16_f32) (SG a2)) (DU a0 a1)) Cert.Reference2Ideal.Gen.bitsLt_bf16_f32
end

/-- At real values the kernel's derivative of the gate is the reference's. -/
theorem real_da (D A B : ℝ) :
    ((D : ℝ) : EReal) * B * (((1 / 2 : ℝ) * Ideal.tanh ((1 / 2 : ℝ) * (A : EReal)) + (1 / 2 : ℝ)) * (1 + A * (1 - ((1 / 2 : ℝ) * Ideal.tanh ((1 / 2 : ℝ) * (A : EReal)) + (1 / 2 : ℝ)))))
      = D * B * Ideal.div 1 (1 + Ideal.exp (-A)) + A * (D * B) * (Ideal.div 1 (1 + Ideal.exp (-A)) * (1 - Ideal.div 1 (1 + Ideal.exp (-A)))) := by
  rw [show Ideal.div 1 (1 + Ideal.exp (-(A : EReal))) = Ideal.logistic A from rfl, Ideal.logistic_coe, ← Reals.half_tanh]
  rw [← EReal.coe_mul (1 / 2) A, Ideal.tanh_coe]
  norm_cast
  ring

/-- At real values the logistic function through the hyperbolic tangent is the quotient. -/
theorem real_sg (A : ℝ) :
    ((1 / 2 : ℝ) : EReal) * Ideal.tanh ((1 / 2 : ℝ) * (A : EReal)) + (1 / 2 : ℝ) = Ideal.div 1 (1 + Ideal.exp (-A)) := by
  rw [show Ideal.div 1 (1 + Ideal.exp (-(A : EReal))) = Ideal.logistic A from rfl, Ideal.logistic_coe, ← Reals.half_tanh]
  rw [← EReal.coe_mul (1 / 2) A, Ideal.tanh_coe]
  norm_cast

/-- A half taken out of a product sum. -/
theorem half_sum (f g : Fin 1024 → EReal) :
    ∑ k, Ideal.ofBits .f32 0x3F000000#32 * f k * g k = Ideal.ofBits .f32 0x3F000000#32 * ∑ k, f k * g k := by
  rw [Reals.half, Reals.mul_sum _ (by norm_num)]
  exact Finset.sum_congr rfl fun k _ => mul_assoc _ _ _

/-- On finite arguments the cotangent is a real number. -/
theorem du_real (a0 : FVec Ideal S8192x1024 .f32) (a1 : FVec Ideal S2816x1024 .f32)
    (h0 : ∀ i, ∃ r : ℝ, a0 i = (r : EReal)) (h1 : ∀ i, ∃ r : ℝ, a1 i = (r : EReal)) (r : Fin 8192) (f : Fin 2816) :
    ∃ d : ℝ, Ideal.ofBits .f32 0x3F000000#32 * ∑ k : Fin 1024, a0 (ix2 r k) * a1 (ix2 f k) = (d : EReal) := by
  choose x hx using h0
  choose w hw using h1
  refine ⟨1 / 2 * ∑ k : Fin 1024, x (ix2 r k) * w (ix2 f k), ?_⟩
  rw [Reals.half, EReal.coe_mul, Reals.coe_sum]
  simp only [hx, hw, EReal.coe_mul]

/-- The first results agree on finite arguments. -/
theorem eqA (a0 : FVec Ideal S8192x1024 .f32) (a1 : FVec Ideal S2816x1024 .f32) (a2 a3 : FVec Ideal S8192x2816 .bf16)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    REFA a0 a1 a2 a3 = DA a0 a1 a2 a3 := by
  funext i
  idx_vars i
  pointwise [REFA, DU, SG, DA, du, sg]
  rw [half_sum]
  obtain ⟨D, hD⟩ := du_real a0 a1 h0 h1 i0 i1
  obtain ⟨A, hA⟩ := h2 (ix2 i0 i1)
  obtain ⟨B, hB⟩ := h3 (ix2 i0 i1)
  rw [hD, hA, hB, Reals.half]
  exact (real_da D A B).symm

/-- The second results agree on finite arguments. -/
theorem eqB (a0 : FVec Ideal S8192x1024 .f32) (a1 : FVec Ideal S2816x1024 .f32) (a2 : FVec Ideal S8192x2816 .bf16)
    (h2 : ∀ i, ∃ r : ℝ, a2 i = (r : EReal)) :
    REFB a0 a1 a2 = DB a0 a1 a2 := by
  funext i
  idx_vars i
  pointwise [REFB, DU, SG, DB, du, sg]
  rw [half_sum]
  obtain ⟨A, hA⟩ := h2 (ix2 i0 i1)
  rw [hA, Reals.half, real_sg, mul_comm]

/-- What the precondition says of the four arguments. -/
theorem reals (a0 : FVec Ideal S8192x1024 .f32) (a1 : FVec Ideal S2816x1024 .f32) (a2 a3 : FVec Ideal S8192x2816 .bf16)
    (h0 : (Cert.Pre_finite2.fn (F := Ideal) a0 a1 a2 a3).1 = fun _ => 1#1)
    (h1 : (Cert.Pre_finite2.fn (F := Ideal) a0 a1 a2 a3).2.1 = fun _ => 1#1)
    (h2 : (Cert.Pre_finite2.fn (F := Ideal) a0 a1 a2 a3).2.2.1 = fun _ => 1#1)
    (h3 : (Cert.Pre_finite2.fn (F := Ideal) a0 a1 a2 a3).2.2.2 = fun _ => 1#1) :
    (∀ i, ∃ r : ℝ, a0 i = (r : EReal)) ∧ (∀ i, ∃ r : ℝ, a1 i = (r : EReal))
    ∧ (∀ i, ∃ r : ℝ, a2 i = (r : EReal)) ∧ (∀ i, ∃ r : ℝ, a3 i = (r : EReal)) :=
  ⟨fun i => Reals.real_of_abs_lt _ (congrFun h0 i), fun i => Reals.real_of_abs_lt _ (congrFun h1 i),
   fun i => Reals.real_of_abs_lt _ (congrFun h2 i), fun i => Reals.real_of_abs_lt _ (congrFun h3 i)⟩

end Cert.Kernel2Ideal.Act

end
-- ==== Proof.Pair.lean ====
/- The value facts of `Cert.Kernel4Ideal` (the product of the two halves of a feed-forward gradient with the input
   weight), beside its reference. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Pair

open Cert.Kernel4Ideal Cert.Kernel4Ideal.Gen

variable (m : (ℓ : Loc nD τ sig) → Buf (Elt Ideal) ℓ)

/-- The reference's result over the kernel's arguments. -/
abbrev REF (a0 : FVec Ideal Cert.Reference4Ideal.S8192x2816 .bf16) (a1 : FVec Ideal Cert.Reference4Ideal.S8192x2816 .bf16)
    (a2 : FVec Ideal Cert.Reference4Ideal.S1024x5632 .f32) : FVec Ideal Cert.Reference4Ideal.S8192x1024 .f32 :=
  Host.dotGeneral Cert.Reference4Ideal.dot_S8192x5632_S1024x5632_S8192x1024_1_1_0_0_n_n none
    (concatenate Cert.Reference4Ideal.S8192x5632 1
      [⟨Cert.Reference4Ideal.S8192x2816, (extf .f32 a0 Cert.Reference4Ideal.Gen.bitsLt_bf16_f32)⟩,
       ⟨Cert.Reference4Ideal.S8192x2816, (extf .f32 a1 Cert.Reference4Ideal.Gen.bitsLt_bf16_f32)⟩]
      Cert.Reference4Ideal.Gen.concatenates_S8192x2816_S8192x2816_S8192x5632_d1) a2

/-- Every window's block index at every grid point. -/
theorem idx : ∀ t : Fin cfg0.N, win0_0.index t = ![t.val, 0]
    ∧ win0_1.index t = ![t.val, 0]
    ∧ win0_2.index t = ![0, 0]
    ∧ win0_3.index t = ![1, 0]
    ∧ win0_4.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 2 t) (iblk m c 1 t) (iblk m c 3 t) y
      = REF (m ((c : Thread nD τ).loc main_arg0)) (m ((c : Thread nD τ).loc main_arg1)) (m ((c : Thread nD τ).loc
        main_arg2)) (((cfg0.win 4).blk t).view.emb y) := by
  pointwise [k0_pay1, REF]
  blk_point [iblk, V, idx t]

/-- The result array after the run. -/
theorem final (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point m c t y

end Cert.Kernel4Ideal.Pair

end
-- ==== Proof.Tokens.lean ====
/- A product over 8192 tokens, accumulated in four blocks of 2048. -/
module

public import Idealize.ShloMosaic.Lib.Pipeline.ValueKit

@[expose] public section

noncomputable section

open Idealize.ShloMosaic
open scoped BigOperators

namespace Cert.Tokens

/-- The product of two arrays over their first axis. -/
def prod {T M N : ℕ} (x : (⟨2, ![T, M]⟩ : Shape).Idx → EReal) (y : (⟨2, ![T, N]⟩ : Shape).Idx → EReal) (a : Fin M) (b : Fin N) : EReal :=
  ∑ k : Fin T, x (ix2 k a) * y (ix2 k b)

/-- An accumulator that starts afresh every fourth point and adds the product of its two token blocks at each point
    holds, at the last of four points, the product of the two whole arrays the blocks are read from. -/
theorem total {P M N M' N' : ℕ} (f : (n : ℕ) → n < P → (⟨2, ![M, N]⟩ : Shape).Idx → EReal)
    (x : Fin P → (⟨2, ![2048, M]⟩ : Shape).Idx → EReal) (y : Fin P → (⟨2, ![2048, N]⟩ : Shape).Idx → EReal)
    (A : (⟨2, ![8192, M']⟩ : Shape).Idx → EReal) (B : (⟨2, ![8192, N']⟩ : Shape).Idx → EReal)
    (first : ∀ t : Fin P, t.val % 4 = 0 → ∀ j, f t.val t.isLt j = prod (x t) (y t) (j 0) (j 1))
    (next : ∀ t : Fin P, ¬ t.val % 4 = 0 → ∀ j,
      f t.val t.isLt j = f (t.val - 1) (Nat.lt_of_le_of_lt (Nat.sub_le _ _) t.isLt) j + prod (x t) (y t) (j 0) (j 1))
    (t : Fin P) (ht : t.val % 4 = 4 - 1) (j : (⟨2, ![M, N]⟩ : Shape).Idx) (a : Fin M') (b : Fin N')
    (hx : ∀ (s : Fin 4) (k : Fin 2048) (hl : s.val * 2048 + k.val < 8192),
      x ⟨_, Pipeline.run_point_lt_of_flush t ht s⟩ (ix2 k (j 0)) = A (ix2 ⟨s.val * 2048 + k.val, hl⟩ a))
    (hy : ∀ (s : Fin 4) (k : Fin 2048) (hl : s.val * 2048 + k.val < 8192),
      y ⟨_, Pipeline.run_point_lt_of_flush t ht s⟩ (ix2 k (j 1)) = B (ix2 ⟨s.val * 2048 + k.val, hl⟩ b)) :
    f t.val t.isLt j = prod A B a b := by
  rw [Pipeline.eq_sum_fin_of_reset_step_apply_of_flush f 4 (fun _ => 0) (fun t j => prod (x t) (y t) (j 0) (j 1))
    (fun t h j => (first t h j).trans (zero_add _).symm) next t ht j, zero_add]
  exact Fin.sum_mul_add_congr fun s k hl => congrArg₂ (· * ·) (hx s k hl) (hy s k hl)

end Cert.Tokens

end
-- ==== Proof.Dwout.lean ====
/- The value facts of `Cert.Kernel5Ideal` (the gradient of a feed-forward layer's output weights), beside its reference. -/
module

public import proofs.«01_k».proof.Proof.Gen.Kernel5Ideal.Value
public import proofs.«01_k».proof.Proof.Gen.Reference5Ideal.Run
public import proofs.«01_k».proof.Proof.Reals
public import proofs.«01_k».proof.Proof.Tokens
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Out

section
open Cert.Reference5Ideal Cert.Reference5Ideal.Gen

/-- The reference's result over its arguments. -/
abbrev REF (a0 : FVec Ideal S8192x2816 .bf16) (a1 : FVec Ideal S8192x1024 .f32) : FVec Ideal S2816x1024 .bf16 :=
  truncf .bf16 (transpose S2816x1024 [1, 0] (Host.dotGeneral dot_S8192x1024_S8192x2816_S1024x2816_0_0_1_1_n_n none (mulf (broadcastInDim S8192x1024 ![] bcast_S_S8192x1024 (constant S_ .f32 0x3F000000#32)) a1) (extf .f32 a0 bitsLt_bf16_f32)) transposes_S1024x2816_S2816x1024_1_0) bitsLt_bf16_f32
end

open Cert.Kernel5Ideal Cert.Kernel5Ideal.Gen

theorem hfirst (x0 : Vec Ideal S2048x1408 .bf16) (x1 : Vec Ideal S2048x1024 .f32) (j) : k0_pay2 (F := Ideal) x0 x1 j = Cert.Tokens.prod x0 x1 (j 0) (j 1) := by
  unfold Cert.Tokens.prod; pointwise [k0_pay2, k0_pay1]

theorem hnext (x0 : Vec Ideal S2048x1408 .bf16) (x1 : Vec Ideal S2048x1024 .f32) (acc : Vec Ideal S1408x1024 .f32) (j) :
    k0_pay3 (F := Ideal) x0 x1 acc j = acc j + Cert.Tokens.prod x0 x1 (j 0) (j 1) := by
  unfold Cert.Tokens.prod; pointwise [k0_pay3, k0_pay1]

/-- The payload of the output: the accumulated sum, halved. -/
theorem hout (acc : Vec Ideal S1408x1024 .f32) (j) : k0_pay4 (F := Ideal) acc j = acc j * Ideal.ofBits .f32 0x3F000000#32 := by
  pointwise [k0_pay4]

/-- The reference as a sum over the tokens. -/
theorem href (a0 : FVec Ideal S8192x2816 .bf16) (a1 : FVec Ideal S8192x1024 .f32) (j) :
    REF a0 a1 j = Cert.Tokens.prod a0 a1 (j 0) (j 1) * Ideal.ofBits .f32 0x3F000000#32 := by
  unfold Cert.Tokens.prod
  pointwise [REF]
  rw [mul_comm, Reals.half, Reals.mul_sum _ (by norm_num)]
  exact Finset.sum_congr rfl fun k _ => by rw [mul_assoc, mul_comm (a1 _)]

variable (m : (ℓ : Loc nD τ sig) → Buf (Elt Ideal) ℓ)

/-- Every window's block index at every grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- At a flushing point the output block is the accumulated block, read through the last payload. -/
theorem out_eq (c : Dev nD) (t : Fin cfg0.N) (h : t.val % 4 = 3) :
    (outsAt0 m c t.val t.isLt).1 = k0_pay4 (F := Ideal) ((outsAt0 m c t.val t.isLt).2) := by
  rw [outsAt0_C m c t (by omega) (by omega) h]; frame_out

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), hout, href]
  refine congrArg (· * _) (Cert.Tokens.total (fun n h => (outsAt0 m c n h).2) (iblk m c 0) (iblk m c 1) _ _ (fun t h j => ?_) (fun t h j => ?_)
    t ((flush0_2 t).mp hf) _ _ _ (fun s k hl => ?_) fun s k hl => ?_)
  · rw [outsAt0_A m c t h (by omega) (by omega)]; frame_out; rw [hfirst]
  · by_cases h3 : t.val % 4 = 3
    · rw [outsAt0_C m c t h (by omega) h3]; frame_out; rw [hnext]; exact congrArg (· + _) (congrFun ((Memref.isWhole_whole _).read_unread _) _)
    · rw [outsAt0_B m c t h (by omega) h3]; frame_out; rw [hnext]; exact congrArg (· + _) (congrFun ((Memref.isWhole_whole _).read_unread _) _)
  all_goals blk_point [iblk, V, idx t, idx ⟨_, Pipeline.run_point_lt_of_flush t ((flush0_2 t).mp hf) s⟩]

end Cert.Kernel5Ideal.Out

end
-- ==== Proof.Dwin.lean ====
/- The value facts of `Cert.Kernel6Ideal` (the gradient of a feed-forward layer's input weights), beside its reference. -/
module

public import proofs.«01_k».proof.Proof.Gen.Kernel6Ideal.Value
public import proofs.«01_k».proof.Proof.Gen.Reference6Ideal.Run
public import proofs.«01_k».proof.Proof.Tokens
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.In

section
open Cert.Reference6Ideal Cert.Reference6Ideal.Gen

/-- The reference's result over its arguments. -/
abbrev REF (a0 : FVec Ideal S8192x2816 .bf16) (a1 : FVec Ideal S8192x1024 .bf16) : FVec Ideal S2816x1024 .bf16 :=
  truncf .bf16 (transpose S2816x1024 [1, 0] (transpose S1024x2816 [1, 0] (Host.dotGeneral dot_S8192x2816_S8192x1024_S2816x1024_0_0_1_1_n_n none (extf .f32 a0 bitsLt_bf16_f32) (extf .f32 a1 bitsLt_bf16_f32)) transposes_S2816x1024_S1024x2816_1_0) transposes_S1024x2816_S2816x1024_1_0) bitsLt_bf16_f32
end

open Cert.Kernel6Ideal Cert.Kernel6Ideal.Gen

theorem hfirst (x0 : Vec Ideal S2048x1408 .bf16) (x1 : Vec Ideal S2048x1024 .bf16) (j) : k0_pay2 (F := Ideal) x0 x1 j = Cert.Tokens.prod x0 x1 (j 0) (j 1) := by
  unfold Cert.Tokens.prod; pointwise [k0_pay2, k0_pay1]

theorem hnext (x0 : Vec Ideal S2048x1408 .bf16) (x1 : Vec Ideal S2048x1024 .bf16) (acc : Vec Ideal S1408x1024 .f32) (j) :
    k0_pay3 (F := Ideal) x0 x1 acc j = acc j + Cert.Tokens.prod x0 x1 (j 0) (j 1) := by
  unfold Cert.Tokens.prod; pointwise [k0_pay3, k0_pay1]

/-- The payload of the output: the accumulated sum. -/
theorem hout (acc : Vec Ideal S1408x1024 .f32) (j) : k0_pay4 (F := Ideal) acc j = acc j := by
  pointwise [k0_pay4]

/-- The reference as a sum over the tokens. -/
theorem href (a0 : FVec Ideal S8192x2816 .bf16) (a1 : FVec Ideal S8192x1024 .bf16) (j) :
    REF a0 a1 j = Cert.Tokens.prod a0 a1 (j 0) (j 1) := by
  unfold Cert.Tokens.prod
  pointwise [REF]

variable (m : (ℓ : Loc nD τ sig) → Buf (Elt Ideal) ℓ)

/-- Every window's block index at every grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- At a flushing point the output block is the accumulated block, read through the last payload. -/
theorem out_eq (c : Dev nD) (t : Fin cfg0.N) (h : t.val % 4 = 3) :
    (outsAt0 m c t.val t.isLt).1 = k0_pay4 (F := Ideal) ((outsAt0 m c t.val t.isLt).2) := by
  rw [outsAt0_C m c t (by omega) (by omega) h]; frame_out

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), hout, href]
  refine Cert.Tokens.total (fun n h => (outsAt0 m c n h).2) (iblk m c 0) (iblk m c 1) _ _ (fun t h j => ?_) (fun t h j => ?_)
    t ((flush0_2 t).mp hf) _ _ _ (fun s k hl => ?_) fun s k hl => ?_
  · rw [outsAt0_A m c t h (by omega) (by omega)]; frame_out; rw [hfirst]
  · by_cases h3 : t.val % 4 = 3
    · rw [outsAt0_C m c t h (by omega) h3]; frame_out; rw [hnext]; exact congrArg (· + _) (congrFun ((Memref.isWhole_whole _).read_unread _) _)
    · rw [outsAt0_B m c t h (by omega) h3]; frame_out; rw [hnext]; exact congrArg (· + _) (congrFun ((Memref.isWhole_whole _).read_unread _) _)
  all_goals blk_point [iblk, V, idx t, idx ⟨_, Pipeline.run_point_lt_of_flush t ((flush0_2 t).mp hf) s⟩]

end Cert.Kernel6Ideal.In

end
-- ==== Proof.FfnIn.lean ====
/- The value facts of `Cert.Kernel7Ideal` (the gated projection of a feed-forward layer), beside its reference. -/
module

public import proofs.«01_k».proof.Proof.Gen.Kernel7Ideal.Value
public import proofs.«01_k».proof.Proof.Gen.Reference7Ideal.Run
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.FfnIn

/-- The logistic function through the hyperbolic tangent is the quotient, at the infinities too. -/
theorem sg_eq (x : EReal) :
    Ideal.ofBits .f32 0x3F000000#32 * Ideal.tanh (Ideal.ofBits .f32 0x3F000000#32 * x) + Ideal.ofBits .f32 0x3F000000#32 = Ideal.div 1 (1 + Ideal.exp (-x)) := by
  rw [show Ideal.div 1 (1 + Ideal.exp (-x)) = Ideal.logistic x from rfl, Reals.half]
  induction x with
  | bot =>
    rw [EReal.coe_mul_bot_of_pos (by norm_num), Ideal.tanh_bot, Ideal.logistic_bot]
    norm_num [← EReal.coe_one, ← EReal.coe_neg, ← EReal.coe_mul, ← EReal.coe_add]
  | top =>
    rw [EReal.coe_mul_top_of_pos (by norm_num), Ideal.tanh_top, Ideal.logistic_top]
    norm_num [← EReal.coe_one, ← EReal.coe_mul, ← EReal.coe_add]
  | coe r =>
    rw [Ideal.logistic_coe, ← Reals.half_tanh, ← EReal.coe_mul (1 / 2) r, Ideal.tanh_coe]
    norm_cast

section
open Cert.Reference7Ideal Cert.Reference7Ideal.Gen

/-- The projection, over the host's operations. -/
abbrev PR (a0 : FVec Ideal S8192x1024 .bf16) (a1 : FVec Ideal S1024x5632 .f32) : FVec Ideal S8192x5632 .f32 :=
  Host.dotGeneral dot_S8192x1024_S1024x5632_S8192x5632_1_0_0_1_n_n none (extf .f32 a0 Cert.Reference7Ideal.Gen.bitsLt_bf16_f32) a1

/-- Its first half, -/
abbrev HA (a0 : FVec Ideal S8192x1024 .bf16) (a1 : FVec Ideal S1024x5632 .f32) : FVec Ideal S8192x2816 .f32 :=
  extractStridedSlice S8192x2816 ![0, 0] (PR a0 a1) slices_S8192x5632_S8192x2816_0_0

/-- and its second half. -/
abbrev HB (a0 : FVec Ideal S8192x1024 .bf16) (a1 : FVec Ideal S1024x5632 .f32) : FVec Ideal S8192x2816 .f32 :=
  extractStridedSlice S8192x2816 ![0, 2816] (PR a0 a1) slices_S8192x5632_S8192x2816_0_2816

/-- The reference's three results over its arguments. -/
abbrev REFA (a0 : FVec Ideal S8192x1024 .bf16) (a1 : FVec Ideal S1024x5632 .f32) : FVec Ideal S8192x2816 .bf16 :=
  truncf .bf16 (HA a0 a1) Cert.Reference7Ideal.Gen.bitsLt_bf16_f32
@[inherit_doc REFA] abbrev REFB (a0 : FVec Ideal S8192x1024 .bf16) (a1 : FVec Ideal S1024x5632 .f32) : FVec Ideal S8192x2816 .bf16 :=
  truncf .bf16 (HB a0 a1) Cert.Reference7Ideal.Gen.bitsLt_bf16_f32
@[inherit_doc REFA] abbrev REFU (a0 : FVec Ideal S8192x1024 .bf16) (a1 : FVec Ideal S1024x5632 .f32) : FVec Ideal S8192x2816 .bf16 :=
  truncf .bf16 (mulf (mulf (HA a0 a1) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (HA a0 a1)))))) (HB a0 a1)) Cert.Reference7Ideal.Gen.bitsLt_bf16_f32
end

open Cert.Kernel7Ideal Cert.Kernel7Ideal.Gen

variable (m : (ℓ : Loc nD τ sig) → Buf (Elt Ideal) ℓ)

/-- Every window's block index at every grid point. -/
theorem idx : ∀ t : Fin cfg0.N, win0_0.index t = ![t.val % 16, 0]
    ∧ win0_1.index t = ![t.val / 16, 0]
    ∧ win0_2.index t = ![t.val / 16 + 2, 0]
    ∧ win0_3.index t = ![t.val % 16, t.val / 16]
    ∧ win0_4.index t = ![t.val % 16, t.val / 16]
    ∧ win0_5.index t = ![t.val % 16, t.val / 16] :=
  (by decide +kernel : ∀ t : Fin grid0.N, _)

/-- What the body stores at block index `y` of point `t` for output window 3. -/
theorem pointA (c : Dev nD) (t : Fin cfg0.N) (y) :
    k0_pay3 (iblk m c 0 t) (iblk m c 1 t) y = REFA (m ((c : Thread nD τ).loc main_arg0)) (m ((c : Thread nD τ).loc main_arg1)) (((cfg0.win 3).blk t).view.emb y) := by
  pointwise [k0_pay3, k0_pay1, REFA, HA, PR]
  blk_point [iblk, V, idx t]

theorem finalA (c : Dev nD) : (dats m 0 c).arrAt 3 (cfgs 0).N = REFA (m ((c : Thread nD τ).loc main_arg0)) (m ((c : Thread nD τ).loc main_arg1)) := by
  refine (dats m 0 c).arrAt_eq_of_covers 3 _ (by decide +kernel) fun t hf y => ?_
  blk_simp; rw [after0_3]; frame_out
  exact pointA m c t y

/-- What the body stores at block index `y` of point `t` for output window 4. -/
theorem pointB (c : Dev nD) (t : Fin cfg0.N) (y) :
    k0_pay4 (iblk m c 0 t) (iblk m c 2 t) y = REFB (m ((c : Thread nD τ).loc main_arg0)) (m ((c : Thread nD τ).loc main_arg1)) (((cfg0.win 4).blk t).view.emb y) := by
  pointwise [k0_pay4, k0_pay2, REFB, HB, PR]
  blk_point [iblk, V, idx t]

theorem finalB (c : Dev nD) : (dats m 0 c).arrAt 4 (cfgs 0).N = REFB (m ((c : Thread nD τ).loc main_arg0)) (m ((c : Thread nD τ).loc main_arg1)) := by
  refine (dats m 0 c).arrAt_eq_of_covers 4 _ (by decide +kernel) fun t hf y => ?_
  blk_simp; rw [after0_4]; frame_out
  exact pointB m c t y

/-- What the body stores at block index `y` of point `t` for output window 5. -/
theorem pointU (c : Dev nD) (t : Fin cfg0.N) (y) :
    k0_pay5 (iblk m c 0 t) (iblk m c 1 t) (iblk m c 2 t) y = REFU (m ((c : Thread nD τ).loc main_arg0)) (m ((c : Thread nD τ).loc main_arg1)) (((cfg0.win 5).blk t).view.emb y) := by
  pointwise [k0_pay5, k0_pay1, k0_pay2, REFU, HA, HB, PR]
  rw [sg_eq]
  blk_point [iblk, V, idx t]

theorem finalU (c : Dev nD) : (dats m 0 c).arrAt 5 (cfgs 0).N = REFU (m ((c : Thread nD τ).loc main_arg0)) (m ((c : Thread nD τ).loc main_arg1)) := by
  refine (dats m 0 c).arrAt_eq_of_covers 5 _ (by decide +kernel) fun t hf y => ?_
  blk_simp; rw [after0_5]; frame_out
  exact pointU m c t y

end Cert.Kernel7Ideal.FfnIn

end
-- ==== Proof.Proj.lean ====
/- The value facts of the calls that are one product, with or without a residual, beside their references. -/
module

public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! ## The second product of a feed-forward layer, halved and added to the layer's input -/

namespace Cert.Kernel8Ideal.FfnOut

section
open Cert.Reference8Ideal Cert.Reference8Ideal.Gen

/-- The reference's result over its arguments. -/
abbrev REF (a0 : FVec Ideal S8192x1024 .f32) (a1 : FVec Ideal S8192x2816 .bf16) (a2 : FVec Ideal S2816x1024 .f32) : FVec Ideal S8192x1024 .f32 :=
  addf a0 (mulf (broadcastInDim S8192x1024 ![] bcast_S_S8192x1024 (constant S_ .f32 0x3F000000#32)) (Host.dotGeneral dot_S8192x2816_S2816x1024_S8192x1024_1_0_0_1_n_n none (extf .f32 a1 bitsLt_bf16_f32) a2))
end

open Cert.Kernel8Ideal Cert.Kernel8Ideal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  pointwise [k0_pay1, REF]
  rw [add_comm, mul_comm]
  blk_point [iblk, V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel8Ideal.FfnOut

/-! ## The projection of the forgetting attention's layer -/

namespace Cert.Kernel9Ideal.Proj

section
open Cert.Reference9Ideal Cert.Reference9Ideal.Gen

/-- The reference's result over its arguments. -/
abbrev REF (a0 : FVec Ideal S8192x1024 .bf16) (a1 : FVec Ideal S1024x2688 .f32) : FVec Ideal S8192x2688 .f32 :=
  Host.dotGeneral dot_S8192x1024_S1024x2688_S8192x2688_1_0_0_1_n_n none (extf .f32 a0 bitsLt_bf16_f32) a1
end

open Cert.Kernel9Ideal Cert.Kernel9Ideal.Gen

variable (m : (ℓ : Loc nD τ sig) → Buf (Elt Ideal) ℓ)

/-- Every window's block index at every grid point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel9Ideal.Proj

/-! ## The cotangent of that projection's input -/

namespace Cert.Kernel10Ideal.Dh

section
open Cert.Reference10Ideal Cert.Reference10Ideal.Gen

/-- The reference's result over its arguments. -/
abbrev REF (a0 : FVec Ideal S8192x2688 .f32) (a1 : FVec Ideal S1024x2688 .f32) : FVec Ideal S8192x1024 .f32 :=
  Host.dotGeneral dot_S8192x2688_S1024x2688_S8192x1024_1_1_0_0_n_n none a0 a1
end

open Cert.Kernel10Ideal Cert.Kernel10Ideal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel10Ideal.Dh

/-! ## The output projection of a mixing layer, added to the layer's input -/

namespace Cert.Kernel12Ideal.Wout

section
open Cert.Reference12Ideal Cert.Reference12Ideal.Gen

/-- The reference's result over its arguments. -/
abbrev REF (a0 : FVec Ideal S8192x1024 .f32) (a1 : FVec Ideal S8192x1024 .bf16) (a2 : FVec Ideal S1024x1024 .f32) : FVec Ideal S8192x1024 .f32 :=
  addf a0 (Host.dotGeneral dot_S8192x1024_S1024x1024_S8192x1024_1_0_0_1_n_n none (extf .f32 a1 bitsLt_bf16_f32) a2)
end

open Cert.Kernel12Ideal Cert.Kernel12Ideal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  pointwise [k0_pay1, REF]
  rw [add_comm]
  blk_point [iblk, V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel12Ideal.Wout

/-! ## The cotangent of that output projection's input -/

namespace Cert.Kernel13Ideal.Dcat

section
open Cert.Reference13Ideal Cert.Reference13Ideal.Gen

/-- The reference's result over its arguments. -/
abbrev REF (a0 : FVec Ideal S8192x1024 .f32) (a1 : FVec Ideal S1024x1024 .f32) : FVec Ideal S8192x1024 .f32 :=
  Host.dotGeneral dot_S8192x1024_S1024x1024_S8192x1024_1_1_0_0_n_n none a0 a1
end

open Cert.Kernel13Ideal Cert.Kernel13Ideal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel13Ideal.Dcat

end
-- ==== Proof.Dmix.lean ====
/- The value facts of the gradients of the mixing layers' weights, beside their references. -/
module

public import proofs.«01_k».proof.Proof.Gen.Kernel11Ideal.Value
public import proofs.«01_k».proof.Proof.Gen.Reference11Ideal.Run
public import proofs.«01_k».proof.Proof.Gen.Kernel14Ideal.Value
public import proofs.«01_k».proof.Proof.Gen.Reference14Ideal.Run
public import proofs.«01_k».proof.Proof.Tokens
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! ## The gradient of the forgetting attention's projection -/

namespace Cert.Kernel11Ideal.Dfox

section
open Cert.Reference11Ideal Cert.Reference11Ideal.Gen

/-- The reference's result over its arguments. -/
abbrev REF (a0 : FVec Ideal S8192x1024 .bf16) (a1 : FVec Ideal S8192x2688 .f32) : FVec Ideal S1024x2688 .bf16 :=
  truncf .bf16 (transpose S1024x2688 [1, 0] (Host.dotGeneral dot_S8192x2688_S8192x1024_S2688x1024_0_0_1_1_n_n none a1 (extf .f32 a0 bitsLt_bf16_f32)) transposes_S2688x1024_S1024x2688_1_0) bitsLt_bf16_f32
end

open Cert.Kernel11Ideal Cert.Kernel11Ideal.Gen

theorem hfirst (x0 : Vec Ideal S2048x1024 .bf16) (x1 : Vec Ideal S2048x896 .f32) (j) : k0_pay2 (F := Ideal) x0 x1 j = Cert.Tokens.prod x0 x1 (j 0) (j 1) := by
  unfold Cert.Tokens.prod; pointwise [k0_pay2, k0_pay1]

theorem hnext (x0 : Vec Ideal S2048x1024 .bf16) (x1 : Vec Ideal S2048x896 .f32) (acc : Vec Ideal S1024x896 .f32) (j) :
    k0_pay3 (F := Ideal) x0 x1 acc j = acc j + Cert.Tokens.prod x0 x1 (j 0) (j 1) := by
  unfold Cert.Tokens.prod; pointwise [k0_pay3, k0_pay1]

/-- The payload of the output: the accumulated sum. -/
theorem hout (acc : Vec Ideal S1024x896 .f32) (j) : k0_pay4 (F := Ideal) acc j = acc j := by
  pointwise [k0_pay4]

/-- The reference as a sum over the tokens. -/
theorem href (a0 : FVec Ideal S8192x1024 .bf16) (a1 : FVec Ideal S8192x2688 .f32) (j) :
    REF a0 a1 j = Cert.Tokens.prod a0 a1 (j 0) (j 1) := by
  unfold Cert.Tokens.prod
  pointwise [REF]
  exact Finset.sum_congr rfl fun k _ => mul_comm _ _

variable (m : (ℓ : Loc nD τ sig) → Buf (Elt Ideal) ℓ)

/-- Every window's block index at every grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- At a flushing point the output block is the accumulated block, read through the last payload. -/
theorem out_eq (c : Dev nD) (t : Fin cfg0.N) (h : t.val % 4 = 3) :
    (outsAt0 m c t.val t.isLt).1 = k0_pay4 (F := Ideal) ((outsAt0 m c t.val t.isLt).2) := by
  rw [outsAt0_C m c t (by omega) (by omega) h]; frame_out

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), hout, href]
  refine Cert.Tokens.total (fun n h => (outsAt0 m c n h).2) (iblk m c 0) (iblk m c 1) _ _ (fun t h j => ?_) (fun t h j => ?_)
    t ((flush0_2 t).mp hf) _ _ _ (fun s k hl => ?_) fun s k hl => ?_
  · rw [outsAt0_A m c t h (by omega) (by omega)]; frame_out; rw [hfirst]
  · by_cases h3 : t.val % 4 = 3
    · rw [outsAt0_C m c t h (by omega) h3]; frame_out; rw [hnext]; exact congrArg (· + _) (congrFun ((Memref.isWhole_whole _).read_unread _) _)
    · rw [outsAt0_B m c t h (by omega) h3]; frame_out; rw [hnext]; exact congrArg (· + _) (congrFun ((Memref.isWhole_whole _).read_unread _) _)
  all_goals blk_point [iblk, V, idx t, idx ⟨_, Pipeline.run_point_lt_of_flush t ((flush0_2 t).mp hf) s⟩]

end Cert.Kernel11Ideal.Dfox

/-! ## The gradient of a mixing layer's output projection -/

namespace Cert.Kernel14Ideal.Dmix

section
open Cert.Reference14Ideal Cert.Reference14Ideal.Gen

/-- The reference's result over its arguments. -/
abbrev REF (a0 : FVec Ideal S8192x1024 .bf16) (a1 : FVec Ideal S8192x1024 .f32) : FVec Ideal S1024x1024 .bf16 :=
  truncf .bf16 (transpose S1024x1024 [1, 0] (Host.dotGeneral dot_S8192x1024_S8192x1024_S1024x1024_0_0_1_1_n_n none a1 (extf .f32 a0 bitsLt_bf16_f32)) transposes_S1024x1024_S1024x1024_1_0) bitsLt_bf16_f32
end

open Cert.Kernel14Ideal Cert.Kernel14Ideal.Gen

theorem hfirst (x0 : Vec Ideal S2048x1024 .bf16) (x1 : Vec Ideal S2048x1024 .f32) (j) : k0_pay2 (F := Ideal) x0 x1 j = Cert.Tokens.prod x0 x1 (j 0) (j 1) := by
  unfold Cert.Tokens.prod; pointwise [k0_pay2, k0_pay1]

theorem hnext (x0 : Vec Ideal S2048x1024 .bf16) (x1 : Vec Ideal S2048x1024 .f32) (acc : Vec Ideal S1024x1024 .f32) (j) :
    k0_pay3 (F := Ideal) x0 x1 acc j = acc j + Cert.Tokens.prod x0 x1 (j 0) (j 1) := by
  unfold Cert.Tokens.prod; pointwise [k0_pay3, k0_pay1]

/-- The payload of the output: the accumulated sum. -/
theorem hout (acc : Vec Ideal S1024x1024 .f32) (j) : k0_pay4 (F := Ideal) acc j = acc j := by
  pointwise [k0_pay4]

/-- The reference as a sum over the tokens. -/
theorem href (a0 : FVec Ideal S8192x1024 .bf16) (a1 : FVec Ideal S8192x1024 .f32) (j) :
    REF a0 a1 j = Cert.Tokens.prod a0 a1 (j 0) (j 1) := by
  unfold Cert.Tokens.prod
  pointwise [REF]
  exact Finset.sum_congr rfl fun k _ => mul_comm _ _

variable (m : (ℓ : Loc nD τ sig) → Buf (Elt Ideal) ℓ)

/-- Every window's block index at every grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- At a flushing point the output block is the accumulated block, read through the last payload. -/
theorem out_eq (c : Dev nD) (t : Fin cfg0.N) (h : t.val % 4 = 3) :
    (outsAt0 m c t.val t.isLt).1 = k0_pay4 (F := Ideal) ((outsAt0 m c t.val t.isLt).2) := by
  rw [outsAt0_C m c t (by omega) (by omega) h]; frame_out

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), hout, href]
  refine Cert.Tokens.total (fun n h => (outsAt0 m c n h).2) (iblk m c 0) (iblk m c 1) _ _ (fun t h j => ?_) (fun t h j => ?_)
    t ((flush0_2 t).mp hf) _ _ _ (fun s k hl => ?_) fun s k hl => ?_
  · have hN := lt_of_lt_of_eq t.isLt (show cfg0.N = 4 from N_0)
    rw [outsAt0_A m c t h (by omega) (by omega)]; frame_out; rw [hfirst]
  · by_cases h3 : t.val % 4 = 3
    · rw [outsAt0_C m c t h (by omega) h3]; frame_out; rw [hnext]; exact congrArg (· + _) (congrFun ((Memref.isWhole_whole _).read_unread _) _)
    · rw [outsAt0_B m c t h (by omega) h3]; frame_out; rw [hnext]; exact congrArg (· + _) (congrFun ((Memref.isWhole_whole _).read_unread _) _)
  all_goals blk_point [iblk, V, idx t, idx ⟨_, Pipeline.run_point_lt_of_flush t ((flush0_2 t).mp hf) s⟩]

end Cert.Kernel14Ideal.Dmix

end
-- ==== Proof.Fox.lean ====
/- The run of the forgetting attention's backward kernel over any float values: what each point of the grid leaves in
   the staged outputs and in the kernel's running sums, and the frame that follows. -/
module

public import proofs.«01_k».proof.Proof.Gen.Kernel3Ideal.Frame
public import proofs.«01_k».proof.Proof.Gen.Kernel3Ideal.Skeleton
public import Idealize.ShloMosaic.Lib.VecWindow

@[expose] public section

set_option maxRecDepth 16384
set_option maxHeartbeats 1000000

noncomputable section

namespace Cert.Kernel3Ideal.Fox

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running sums: the queries' gradient and row sums of a whole head, and the key, value and column sums of the
    current column of blocks. -/
structure St (F : FTy → Type) [FloatOps F] where
  dq : Vec F S1x8192x64 .f32
  cq : Vec F S1x8192x1 .f32
  dk : Vec F S1024x64 .f32
  dv : Vec F S1024x64 .f32
  dc : Vec F S1x1024 .f32

/-- The input blocks a point reads. -/
structure In (F : FTy → Type) [FloatOps F] where
  q : Vec F S1x1024x64 .bf16
  k : Vec F S1x1024x64 .bf16
  v : Vec F S1x1024x64 .f32
  c : Vec F S1x1x1024 .f32
  o : Vec F S1x1024x64 .f32
  l : Vec F S1x1024x1 .f32
  d : Vec F S1x1024x64 .f32

/-- The three outputs of a column. -/
abbrev Cols (F : FTy → Type) [FloatOps F] := Vec F S1x1024x64 .f32 × Vec F S1x1024x64 .f32 × Vec F S1x1x1024 .f32

/-- The head's sums at zero. -/
def start (s : St F) : St F := { s with dq := k0_pay1, cq := k0_pay2 }

/-- The column's sums at zero. -/
def reset (s : St F) : St F := { s with dk := k0_pay3, dv := k0_pay4, dc := k0_pay5 }

/-- What a block contributes to each of the sums, over the inputs and the sum so far. -/
structure Terms (F : FTy → Type) [FloatOps F] where
  dq : In F → Vec F S1x1024x64 .f32 → Vec F S1x1024x64 .f32
  cq : In F → Vec F S1x1024x1 .f32 → Vec F S1x1024x1 .f32
  dk : In F → Vec F S1024x64 .f32 → Vec F S1024x64 .f32
  dv : In F → Vec F S1024x64 .f32 → Vec F S1024x64 .f32
  dc : In F → Vec F S1x1024 .f32 → Vec F S1x1024 .f32

/-- The sums after a block with the contributions `g`, whose rows start at `o` and `p` in the head's two arrays. -/
def Terms.add (g : Terms F) (o p : Fin 3 → ℕ) (ho : ∀ a, o a + S1x1024x64.size a ≤ S1x8192x64.size a)
    (hp : ∀ a, p a + S1x1024x1.size a ≤ S1x8192x1.size a) (x : In F) (s : St F) : St F where
  dq := VecWindow.put s.dq o S1x1024x64.size (g.dq x (VecWindow.window s.dq o S1x1024x64.size ho))
  cq := VecWindow.put s.cq p S1x1024x1.size (g.cq x (VecWindow.window s.cq p S1x1024x1.size hp))
  dk := g.dk x s.dk
  dv := g.dv x s.dv
  dc := g.dc x s.dc

/-- The contributions of a block below the diagonal. -/
def belowTerms : Terms F where
  dq x a := k0_pay21 (k0_pay12 x.k) (k0_pay17 x.q x.k x.d x.c x.l x.v x.o) a
  cq x a := k0_pay6 (k0_pay23 (k0_pay16 x.q x.k x.d x.c x.l x.v x.o) a)
  dk x a := k0_pay20 (k0_pay11 x.q) (k0_pay17 x.q x.k x.d x.c x.l x.v x.o) a
  dv x a := k0_pay19 a (k0_pay18 x.q x.k x.d x.c x.l)
  dc x a := k0_pay22 (k0_pay16 x.q x.k x.d x.c x.l x.v x.o) a

/-- The contributions of a block on the diagonal. -/
def diagTerms : Terms F where
  dq x a := k0_pay33 (k0_pay25 x.k) (k0_pay30 x.q x.k x.d x.c x.l x.v x.o) a
  cq x a := k0_pay7 (k0_pay29 x.q x.k x.d x.c x.l x.v x.o) a
  dk x a := k0_pay32 (k0_pay24 x.q) (k0_pay30 x.q x.k x.d x.c x.l x.v x.o) a
  dv x a := k0_pay31 (k0_pay27 x.d) (k0_pay28 x.q x.k x.c x.l) a
  dc x a := k0_pay34 (k0_pay29 x.q x.k x.d x.c x.l x.v x.o) a

/-- A block below the diagonal. -/
def below (i : grid0.Coords) (h : k0_cond3 i = 1#1) (x : In F) (s : St F) : St F :=
  belowTerms.add (k0_off1 i) (k0_off2 i) (k0_off1_inb i h) (k0_off2_inb i h) x s

/-- A block on the diagonal. -/
def diag (i : grid0.Coords) (h : k0_cond4 i = 1#1) (x : In F) (s : St F) : St F :=
  diagTerms.add (k0_off3 i) (k0_off4 i) (k0_off3_inb i h) (k0_off4_inb i h) x s

/-- What a point does to the sums. -/
def step (i : grid0.Coords) (x : In F) (s : St F) : St F :=
  if h : k0_cond4 i = 1#1 then diag i h x (reset (if k0_cond1 i = 1#1 then start s else s))
  else if h : k0_cond3 i = 1#1 then below i h x s else s

/-- The condition under which the column's sums are zeroed, as the kernel computes it. -/
abbrev onDiag (i : grid0.Coords) : Prop :=
  Scalar.cmpi .ne (Scalar.extui (Scalar.cmpi .eq
    (Scalar.select (Scalar.cmpi .slt (BitVec.ofNat 32 (i 2).val) (Scalar.subi 8#32 (BitVec.ofNat 32 (i 1).val)))
      (Scalar.addi (BitVec.ofNat 32 (i 1).val) (BitVec.ofNat 32 (i 2).val)) (Scalar.subi (BitVec.ofNat 32 (i 2).val) 1#32))
    (Scalar.select (Scalar.cmpi .slt (BitVec.ofNat 32 (i 2).val) (Scalar.subi 8#32 (BitVec.ofNat 32 (i 1).val)))
      (BitVec.ofNat 32 (i 1).val) (Scalar.subi 7#32 (BitVec.ofNat 32 (i 1).val))))) 0#32 = 1#1

theorem onDiag_iff (i : grid0.Coords) : onDiag i ↔ k0_cond4 i = 1#1 := Iff.rfl

section Run

variable (c : Dev nD) (i : grid0.Coords)
  (arg3 : Memref sig .tc .vmem S1x1024x64 .bf16) (harg3 : arg3.IsWhole) (arg4 : Memref sig .tc .vmem S1x1024x64 .bf16) (harg4 : arg4.IsWhole)
  (arg5 : Memref sig .tc .vmem S1x1024x64 .f32) (harg5 : arg5.IsWhole) (arg6 : Memref sig .tc .vmem S1x1x1024 .f32) (harg6 : arg6.IsWhole)
  (arg7 : Memref sig .tc .vmem S1x1024x64 .f32) (harg7 : arg7.IsWhole) (arg8 : Memref sig .tc .vmem S1x1024x1 .f32) (harg8 : arg8.IsWhole)
  (arg9 : Memref sig .tc .vmem S1x1024x64 .f32) (harg9 : arg9.IsWhole) (arg10 : Memref sig .tc .vmem S1x8192x64 .f32) (harg10 : arg10.IsWhole)
  (arg11 : Memref sig .tc .vmem S1x1024x64 .f32) (harg11 : arg11.IsWhole) (arg12 : Memref sig .tc .vmem S1x1024x64 .f32) (harg12 : arg12.IsWhole)
  (arg13 : Memref sig .tc .vmem S1x1x1024 .f32) (harg13 : arg13.IsWhole) (arg14 : Memref sig .tc .vmem S1x8192x1 .f32) (harg14 : arg14.IsWhole)
  (arg15 : Memref sig .tc .vmem S1024x64 .f32) (harg15 : arg15.IsWhole) (arg16 : Memref sig .tc .vmem S1024x64 .f32) (harg16 : arg16.IsWhole)
  (arg17 : Memref sig .tc .vmem S1x1024 .f32) (harg17 : arg17.IsWhole)

/-- The input buffers at the blocks `x`. -/
def ins (x : In F) : sProp 𝕄 :=
  iprop(owns (c : Thread nD τ) arg3 fullShare x.q ∗ owns (c : Thread nD τ) arg4 fullShare x.k ∗ owns (c : Thread nD τ) arg5 fullShare x.v
    ∗ owns (c : Thread nD τ) arg6 fullShare x.c ∗ owns (c : Thread nD τ) arg7 fullShare x.o ∗ owns (c : Thread nD τ) arg8 fullShare x.l
    ∗ owns (c : Thread nD τ) arg9 fullShare x.d)

/-- The buffers of the sums at `s`, and the three outputs of a column at `y`. -/
def outs (s : St F) (y11 : Vec F S1x1024x64 .f32) (y12 : Vec F S1x1024x64 .f32) (y13 : Vec F S1x1x1024 .f32) : sProp 𝕄 :=
  iprop(owns (c : Thread nD τ) arg10 fullShare s.dq ∗ owns (c : Thread nD τ) arg11 fullShare y11 ∗ owns (c : Thread nD τ) arg12 fullShare y12
    ∗ owns (c : Thread nD τ) arg13 fullShare y13 ∗ owns (c : Thread nD τ) arg14 fullShare s.cq ∗ owns (c : Thread nD τ) arg15 fullShare s.dk
    ∗ owns (c : Thread nD τ) arg16 fullShare s.dv ∗ owns (c : Thread nD τ) arg17 fullShare s.dc)

theorem load_q {κ : Kind} {sp : Space} {e : EltTy} (v : View sig κ sp S1x1024x64 e) (f : v.ty.Contents (Elt F)) (inb : ∀ a, ![0, 0, 0] a + ![1, 1024, 64] a ≤ S1x1024x64.size a) :
    v.readAt (Elt F) (Rect.unit ![0, 0, 0] ![1, 1024, 64] inb).toLoadRect f = v.read (Elt F) f := View.readAt_full v f inb

theorem load_c {κ : Kind} {sp : Space} {e : EltTy} (v : View sig κ sp S1x1x1024 e) (f : v.ty.Contents (Elt F)) (inb : ∀ a, ![0, 0, 0] a + ![1, 1, 1024] a ≤ S1x1x1024.size a) :
    v.readAt (Elt F) (Rect.unit ![0, 0, 0] ![1, 1, 1024] inb).toLoadRect f = v.read (Elt F) f := View.readAt_full v f inb

theorem load_l {κ : Kind} {sp : Space} {e : EltTy} (v : View sig κ sp S1x1024x1 e) (f : v.ty.Contents (Elt F)) (inb : ∀ a, ![0, 0, 0] a + ![1, 1024, 1] a ≤ S1x1024x1.size a) :
    v.readAt (Elt F) (Rect.unit ![0, 0, 0] ![1, 1024, 1] inb).toLoadRect f = v.read (Elt F) f := View.readAt_full v f inb

theorem load_k {κ : Kind} {sp : Space} {e : EltTy} (v : View sig κ sp S1024x64 e) (f : v.ty.Contents (Elt F)) (inb : ∀ a, ![0, 0] a + ![1024, 64] a ≤ S1024x64.size a) :
    v.readAt (Elt F) (Rect.unit ![0, 0] ![1024, 64] inb).toLoadRect f = v.read (Elt F) f := View.readAt_full v f inb

theorem load_s {κ : Kind} {sp : Space} {e : EltTy} (v : View sig κ sp S1x1024 e) (f : v.ty.Contents (Elt F)) (inb : ∀ a, ![0, 0] a + ![1, 1024] a ≤ S1x1024.size a) :
    v.readAt (Elt F) (Rect.unit ![0, 0] ![1, 1024] inb).toLoadRect f = v.read (Elt F) f := View.readAt_full v f inb

theorem writes_none {κ : Kind} {sp : Space} {s : Shape} {e : EltTy} (v : View sig κ sp s e) (f : v.ty.Contents (Elt F)) :
    v.writes (Elt F) f [] = f := rfl

/-- A buffer whose array reads `v` is held at `v`. -/
theorem held {sp : Space} {sh : Shape} {e : EltTy} (m : Memref sig .tc sp sh e) {f : (m.view.ty).Contents (Elt F)} {v : sh.Idx → Elt F e}
    (h : m.view.read (Elt F) f = v) : (m.view.loc (c : Thread nD τ) ↦[m.view.set]{fullShare} f : sProp 𝕄)
      ⊢ iprop(∃ g, ⌜m.view.read (Elt F) g = v⌝ ∗ (m.view.loc (c : Thread nD τ) ↦[m.view.set]{fullShare} g)) := by
  iintro H; iexists f; isplitr
  · ipureintro; exact h
  · iexact H

/-! The kernel's body in five stages, each under its own condition. -/

/-- Zeroing the head's sums. -/
def zeroHead : Prog (TpuEff nD τ sig (Elt F) Λ₀ .tc) PUnit := do
  let _ ← Prog.lift (.load arg10 (Rect.unit (s := S1x8192x64) ![0, 0, 0] S1x8192x64.size inb_S1x8192x64_S1x8192x64_0_0_0).toLoadRect (View.loadsAt_vmem h_S1x8192x64))
  Prog.lift (.store arg10 (Rect.unit (s := S1x8192x64) ![0, 0, 0] S1x8192x64.size inb_S1x8192x64_S1x8192x64_0_0_0) (k0_pay1 (F := F)) Finset.univ (View.stores_vmem_bits_univ h_S1x8192x64 rfl) (.inl rfl))
  let _ ← Prog.lift (.load arg14 (Rect.unit (s := S1x8192x1) ![0, 0, 0] S1x8192x1.size inb_S1x8192x1_S1x8192x1_0_0_0).toLoadRect (View.loadsAt_vmem h_S1x8192x1))
  Prog.lift (.store arg14 (Rect.unit (s := S1x8192x1) ![0, 0, 0] S1x8192x1.size inb_S1x8192x1_S1x8192x1_0_0_0) (k0_pay2 (F := F)) Finset.univ (View.stores_vmem_bits_univ h_S1x8192x1 rfl) (.inl rfl))

/-- Zeroing the column's sums. -/
def zeroColumn : Prog (TpuEff nD τ sig (Elt F) Λ₀ .tc) PUnit := do
  let _ ← Prog.lift (.load arg15 (Rect.unit (s := S1024x64) ![0, 0] S1024x64.size inb_S1024x64_S1024x64_0_0).toLoadRect (View.loadsAt_vmem h_S1024x64))
  Prog.lift (.store arg15 (Rect.unit (s := S1024x64) ![0, 0] S1024x64.size inb_S1024x64_S1024x64_0_0) (k0_pay3 (F := F)) Finset.univ (View.stores_vmem_bits_univ h_S1024x64 rfl) (.inl rfl))
  let _ ← Prog.lift (.load arg16 (Rect.unit (s := S1024x64) ![0, 0] S1024x64.size inb_S1024x64_S1024x64_0_0).toLoadRect (View.loadsAt_vmem h_S1024x64))
  Prog.lift (.store arg16 (Rect.unit (s := S1024x64) ![0, 0] S1024x64.size inb_S1024x64_S1024x64_0_0) (k0_pay4 (F := F)) Finset.univ (View.stores_vmem_bits_univ h_S1024x64 rfl) (.inl rfl))
  let _ ← Prog.lift (.load arg17 (Rect.unit (s := S1x1024) ![0, 0] S1x1024.size inb_S1x1024_S1x1024_0_0).toLoadRect (View.loadsAt_vmem h_S1x1024))
  Prog.lift (.store arg17 (Rect.unit (s := S1x1024) ![0, 0] S1x1024.size inb_S1x1024_S1x1024_0_0) (k0_pay5 (F := F)) Finset.univ (View.stores_vmem_bits_univ h_S1x1024 rfl) (.inl rfl))

/-- Adding a block with the contributions `g`. -/
def addTo (g : Terms F) (o p : Fin 3 → ℕ) (ho : ∀ a, o a + S1x1024x64.size a ≤ S1x8192x64.size a)
    (hp : ∀ a, p a + S1x1024x1.size a ≤ S1x8192x1.size a) : Prog (TpuEff nD τ sig (Elt F) Λ₀ .tc) PUnit := do
  let q : Vec F S1x1024x64 .bf16 ← Prog.lift (.load arg3 (Rect.unit (s := S1x1024x64) ![0, 0, 0] S1x1024x64.size inb_S1x1024x64_S1x1024x64_0_0_0).toLoadRect (View.loadsAt_vmem h_S1x1024x64))
  let k : Vec F S1x1024x64 .bf16 ← Prog.lift (.load arg4 (Rect.unit (s := S1x1024x64) ![0, 0, 0] S1x1024x64.size inb_S1x1024x64_S1x1024x64_0_0_0).toLoadRect (View.loadsAt_vmem h_S1x1024x64))
  let d : Vec F S1x1024x64 .f32 ← Prog.lift (.load arg9 (Rect.unit (s := S1x1024x64) ![0, 0, 0] S1x1024x64.size inb_S1x1024x64_S1x1024x64_0_0_0).toLoadRect (View.loadsAt_vmem h_S1x1024x64))
  let c : Vec F S1x1x1024 .f32 ← Prog.lift (.load arg6 (Rect.unit (s := S1x1x1024) ![0, 0, 0] S1x1x1024.size inb_S1x1x1024_S1x1x1024_0_0_0).toLoadRect (View.loadsAt_vmem h_S1x1x1024))
  let l : Vec F S1x1024x1 .f32 ← Prog.lift (.load arg8 (Rect.unit (s := S1x1024x1) ![0, 0, 0] S1x1024x1.size inb_S1x1024x1_S1x1024x1_0_0_0).toLoadRect (View.loadsAt_vmem h_S1x1024x1))
  let v : Vec F S1x1024x64 .f32 ← Prog.lift (.load arg5 (Rect.unit (s := S1x1024x64) ![0, 0, 0] S1x1024x64.size inb_S1x1024x64_S1x1024x64_0_0_0).toLoadRect (View.loadsAt_vmem h_S1x1024x64))
  let o' : Vec F S1x1024x64 .f32 ← Prog.lift (.load arg7 (Rect.unit (s := S1x1024x64) ![0, 0, 0] S1x1024x64.size inb_S1x1024x64_S1x1024x64_0_0_0).toLoadRect (View.loadsAt_vmem h_S1x1024x64))
  let a_dv : Vec F S1024x64 .f32 ← Prog.lift (.load arg16 (Rect.unit (s := S1024x64) ![0, 0] S1024x64.size inb_S1024x64_S1024x64_0_0).toLoadRect (View.loadsAt_vmem h_S1024x64))
  let _ : Vec F S1024x64 .f32 ← Prog.lift (.load arg16 (Rect.unit (s := S1024x64) ![0, 0] S1024x64.size inb_S1024x64_S1024x64_0_0).toLoadRect (View.loadsAt_vmem h_S1024x64))
  Prog.lift (.store arg16 (Rect.unit (s := S1024x64) ![0, 0] S1024x64.size inb_S1024x64_S1024x64_0_0) (g.dv ⟨q, k, v, c, o', l, d⟩ a_dv) Finset.univ (View.stores_vmem_bits_univ h_S1024x64 rfl) (.inl rfl))
  let a_dk : Vec F S1024x64 .f32 ← Prog.lift (.load arg15 (Rect.unit (s := S1024x64) ![0, 0] S1024x64.size inb_S1024x64_S1024x64_0_0).toLoadRect (View.loadsAt_vmem h_S1024x64))
  let _ : Vec F S1024x64 .f32 ← Prog.lift (.load arg15 (Rect.unit (s := S1024x64) ![0, 0] S1024x64.size inb_S1024x64_S1024x64_0_0).toLoadRect (View.loadsAt_vmem h_S1024x64))
  Prog.lift (.store arg15 (Rect.unit (s := S1024x64) ![0, 0] S1024x64.size inb_S1024x64_S1024x64_0_0) (g.dk ⟨q, k, v, c, o', l, d⟩ a_dk) Finset.univ (View.stores_vmem_bits_univ h_S1024x64 rfl) (.inl rfl))
  let a_dq : Vec F S1x1024x64 .f32 ← Prog.lift (.load arg10 (Rect.unit (s := S1x8192x64) o S1x1024x64.size ho).toLoadRect (View.loadsAt_vmem h_S1x1024x64))
  let _ : Vec F S1x1024x64 .f32 ← Prog.lift (.load arg10 (Rect.unit (s := S1x8192x64) o S1x1024x64.size ho).toLoadRect (View.loadsAt_vmem h_S1x1024x64))
  Prog.lift (.store arg10 (Rect.unit (s := S1x8192x64) o S1x1024x64.size ho) (g.dq ⟨q, k, v, c, o', l, d⟩ a_dq) Finset.univ (View.stores_vmem_bits_univ h_S1x1024x64 rfl) (.inl rfl))
  let a_dc : Vec F S1x1024 .f32 ← Prog.lift (.load arg17 (Rect.unit (s := S1x1024) ![0, 0] S1x1024.size inb_S1x1024_S1x1024_0_0).toLoadRect (View.loadsAt_vmem h_S1x1024))
  let _ : Vec F S1x1024 .f32 ← Prog.lift (.load arg17 (Rect.unit (s := S1x1024) ![0, 0] S1x1024.size inb_S1x1024_S1x1024_0_0).toLoadRect (View.loadsAt_vmem h_S1x1024))
  Prog.lift (.store arg17 (Rect.unit (s := S1x1024) ![0, 0] S1x1024.size inb_S1x1024_S1x1024_0_0) (g.dc ⟨q, k, v, c, o', l, d⟩ a_dc) Finset.univ (View.stores_vmem_bits_univ h_S1x1024 rfl) (.inl rfl))
  let a_cq : Vec F S1x1024x1 .f32 ← Prog.lift (.load arg14 (Rect.unit (s := S1x8192x1) p S1x1024x1.size hp).toLoadRect (View.loadsAt_vmem h_S1x1024x1))
  let _ : Vec F S1x1024x1 .f32 ← Prog.lift (.load arg14 (Rect.unit (s := S1x8192x1) p S1x1024x1.size hp).toLoadRect (View.loadsAt_vmem h_S1x1024x1))
  Prog.lift (.store arg14 (Rect.unit (s := S1x8192x1) p S1x1024x1.size hp) (g.cq ⟨q, k, v, c, o', l, d⟩ a_cq) Finset.univ (View.stores_vmem_bits_univ h_S1x1024x1 rfl) (.inl rfl))

/-- Writing the column's sums out. -/
def writeColumn : Prog (TpuEff nD τ sig (Elt F) Λ₀ .tc) PUnit := do
  let v24 : Vec F S1024x64 .f32 ← Prog.lift (.load arg15 (Rect.unit (s := S1024x64) ![0, 0] S1024x64.size inb_S1024x64_S1024x64_0_0).toLoadRect (View.loadsAt_vmem h_S1024x64))
  let _ ← Prog.lift (.load arg11 (Rect.unit (s := S1x1024x64) ![0, 0, 0] S1x1024x64.size inb_S1x1024x64_S1x1024x64_0_0_0).toLoadRect (View.loadsAt_vmem h_S1x1024x64))
  Prog.lift (.store arg11 (Rect.unit (s := S1x1024x64) ![0, 0, 0] S1x1024x64.size inb_S1x1024x64_S1x1024x64_0_0_0) (k0_pay8 v24) Finset.univ (View.stores_vmem_bits_univ h_S1x1024x64 rfl) (.inl rfl))
  let v28 : Vec F S1024x64 .f32 ← Prog.lift (.load arg16 (Rect.unit (s := S1024x64) ![0, 0] S1024x64.size inb_S1024x64_S1024x64_0_0).toLoadRect (View.loadsAt_vmem h_S1024x64))
  let _ ← Prog.lift (.load arg12 (Rect.unit (s := S1x1024x64) ![0, 0, 0] S1x1024x64.size inb_S1x1024x64_S1x1024x64_0_0_0).toLoadRect (View.loadsAt_vmem h_S1x1024x64))
  Prog.lift (.store arg12 (Rect.unit (s := S1x1024x64) ![0, 0, 0] S1x1024x64.size inb_S1x1024x64_S1x1024x64_0_0_0) (k0_pay9 v28) Finset.univ (View.stores_vmem_bits_univ h_S1x1024x64 rfl) (.inl rfl))
  let v32 : Vec F S1x1024 .f32 ← Prog.lift (.load arg17 (Rect.unit (s := S1x1024) ![0, 0] S1x1024.size inb_S1x1024_S1x1024_0_0).toLoadRect (View.loadsAt_vmem h_S1x1024))
  let _ ← Prog.lift (.load arg13 (Rect.unit (s := S1x1x1024) ![0, 0, 0] S1x1x1024.size inb_S1x1x1024_S1x1x1024_0_0_0).toLoadRect (View.loadsAt_vmem h_S1x1x1024))
  Prog.lift (.store arg13 (Rect.unit (s := S1x1x1024) ![0, 0, 0] S1x1x1024.size inb_S1x1x1024_S1x1x1024_0_0_0) (k0_pay10 v32) Finset.univ (View.stores_vmem_bits_univ h_S1x1x1024 rfl) (.inl rfl))

/-- A stage under its condition. -/
def stage (p : Prop) [Decidable p] (P : p → Prog (TpuEff nD τ sig (Elt F) Λ₀ .tc) PUnit) : Prog (TpuEff nD τ sig (Elt F) Λ₀ .tc) PUnit :=
  if h : p then P h else pure ⟨⟩

theorem stage_bind (p : Prop) [Decidable p] (P : p → Prog (TpuEff nD τ sig (Elt F) Λ₀ .tc) PUnit)
    (A : p → Prog (TpuEff nD τ sig (Elt F) Λ₀ .tc) PUnit) (k k' : Prog (TpuEff nD τ sig (Elt F) Λ₀ .tc) PUnit)
    (hA : ∀ h, A h = P h >>= fun _ => k') (hk : k' = k) : (if h : p then A h else k') = (stage p P >>= fun _ => k) := by
  subst hk
  unfold stage
  split
  · exact hA _
  · rfl

/-- The kernel's body is its five stages in order. -/
theorem stages :
    cc0_dattn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 =
      (stage (k0_cond1 i = 1#1) (fun _ => zeroHead arg10 arg14) >>= fun _ =>
       stage (onDiag i) (fun _ => zeroColumn arg15 arg16 arg17) >>= fun _ =>
       stage (k0_cond3 i = 1#1) (fun h => addTo arg3 arg4 arg5 arg6 arg7 arg8 arg9 arg10 arg14 arg15 arg16 arg17 belowTerms (k0_off1 i) (k0_off2 i) (k0_off1_inb i h) (k0_off2_inb i h)) >>= fun _ =>
       stage (k0_cond4 i = 1#1) (fun h => addTo arg3 arg4 arg5 arg6 arg7 arg8 arg9 arg10 arg14 arg15 arg16 arg17 diagTerms (k0_off3 i) (k0_off4 i) (k0_off3_inb i h) (k0_off4_inb i h)) >>= fun _ =>
       stage (k0_cond5 i = 1#1) (fun _ => writeColumn arg11 arg12 arg13 arg15 arg16 arg17) >>= fun _ => pure ⟨⟩) := by
  rw [cc0_dattn_eq_skeleton]; unfold cc0_dattn_skel
  refine stage_bind _ _ _ _ _ (fun _ => ?_) ?_
  · rfl
  refine stage_bind _ _ _ _ _ (fun _ => ?_) ?_
  · rfl
  refine stage_bind _ _ _ _ _ (fun _ => ?_) ?_
  · simp only [k0_part1_eq_skeleton, k0_part2_eq_skeleton]; rfl
  refine stage_bind _ _ _ _ _ (fun _ => ?_) ?_
  · simp only [k0_part3_eq_skeleton, k0_part4_eq_skeleton]; rfl
  refine stage_bind _ _ _ _ _ (fun _ => ?_) ?_
  · rfl
  rfl

/-- What a stage holds: the inputs at `x`, the sums at `s` and the column's outputs at `y`. -/
def mem (x : In F) (s : St F) (y : Cols F) : sProp 𝕄 := iprop(ins c arg3 arg4 arg5 arg6 arg7 arg8 arg9 x ∗ outs c arg10 arg11 arg12 arg13 arg14 arg15 arg16 arg17 s y.1 y.2.1 y.2.2)

/-- A program that reads the inputs at `x` and takes the sums and the outputs from `s`, `y` to `s'`, `y'`. -/
def Takes (P : Prog (TpuEff nD τ sig (Elt F) Λ₀ .tc) PUnit) (x : In F) (s : St F) (y : Cols F) (s' : St F) (y' : Cols F) : Prop :=
  ∀ (E : Set ℕ) (K : PUnit → sProp 𝕄), iprop(mem c arg3 arg4 arg5 arg6 arg7 arg8 arg9 arg10 arg11 arg12 arg13 arg14 arg15 arg16 arg17 x s y ∗ (mem c arg3 arg4 arg5 arg6 arg7 arg8 arg9 arg10 arg11 arg12 arg13 arg14 arg15 arg16 arg17 x s' y' -∗ K ⟨⟩))
    ⊢ wp frame (wpE (defs₀ (F := F)) Variants.none c none) E P K

variable {c arg3 arg4 arg5 arg6 arg7 arg8 arg9 arg10 arg11 arg12 arg13 arg14 arg15 arg16 arg17} in
/-- Stages compose. -/
theorem Takes.bind {P Q : Prog (TpuEff nD τ sig (Elt F) Λ₀ .tc) PUnit} {x : In F} {s s' s'' : St F} {y y' y'' : Cols F}
    (h : Takes c arg3 arg4 arg5 arg6 arg7 arg8 arg9 arg10 arg11 arg12 arg13 arg14 arg15 arg16 arg17 P x s y s' y') (h' : Takes c arg3 arg4 arg5 arg6 arg7 arg8 arg9 arg10 arg11 arg12 arg13 arg14 arg15 arg16 arg17 Q x s' y' s'' y'') :
    Takes c arg3 arg4 arg5 arg6 arg7 arg8 arg9 arg10 arg11 arg12 arg13 arg14 arg15 arg16 arg17 (P >>= fun _ => Q) x s y s'' y'' := by
  intro E K
  rw [wp_bind]
  iintro ⟨H, Hk⟩
  iapply (h E _)
  isplitl [H]
  · iexact H
  iintro H
  iapply (h' E K)
  isplitl [H]
  · iexact H
  · iexact Hk

/-- Doing nothing. -/
theorem takes_pure (x : In F) (s : St F) (y : Cols F) : Takes c arg3 arg4 arg5 arg6 arg7 arg8 arg9 arg10 arg11 arg12 arg13 arg14 arg15 arg16 arg17 (pure ⟨⟩) x s y s y := by
  intro E K
  iintro ⟨H, Hk⟩
  sl_step
  iapply Hk
  iexact H

variable {c arg3 arg4 arg5 arg6 arg7 arg8 arg9 arg10 arg11 arg12 arg13 arg14 arg15 arg16 arg17} in
/-- A stage under its condition. -/
theorem Takes.stage {p : Prop} [Decidable p] {P : p → Prog (TpuEff nD τ sig (Elt F) Λ₀ .tc) PUnit} {x : In F} {s s' : St F} {y y' : Cols F}
    (h : ∀ hp, Takes c arg3 arg4 arg5 arg6 arg7 arg8 arg9 arg10 arg11 arg12 arg13 arg14 arg15 arg16 arg17 (P hp) x s y s' y') (hn : ¬ p → s' = s ∧ y' = y) : Takes c arg3 arg4 arg5 arg6 arg7 arg8 arg9 arg10 arg11 arg12 arg13 arg14 arg15 arg16 arg17 (stage p P) x s y s' y' := by
  unfold Fox.stage
  split
  · exact h _
  · next hp => obtain ⟨rfl, rfl⟩ := hn hp; exact takes_pure c arg3 arg4 arg5 arg6 arg7 arg8 arg9 arg10 arg11 arg12 arg13 arg14 arg15 arg16 arg17 x _ _

theorem zeroHead_takes (x : In F) (s : St F) (y : Cols F) : Takes c arg3 arg4 arg5 arg6 arg7 arg8 arg9 arg10 arg11 arg12 arg13 arg14 arg15 arg16 arg17 (zeroHead arg10 arg14) x s y (start s) y := by
  intro E K
  unfold zeroHead mem outs owns
  iintro ⟨⟨Hi, ⟨%f10, -, H10⟩, H11, H12, H13, ⟨%f14, -, H14⟩, Hr⟩, Hk⟩
  sl_exec
  sl_step
  iapply Hk
  isplitl [Hi]
  · iexact Hi
  isplitl [H10]
  · iapply (held c arg10 (View.read_writes_full _ _ _ _ _)); iexact H10
  isplitl [H11]
  · iexact H11
  isplitl [H12]
  · iexact H12
  isplitl [H13]
  · iexact H13
  isplitl [H14]
  · iapply (held c arg14 (View.read_writes_full _ _ _ _ _)); iexact H14
  · iexact Hr

theorem zeroColumn_takes (x : In F) (s : St F) (y : Cols F) : Takes c arg3 arg4 arg5 arg6 arg7 arg8 arg9 arg10 arg11 arg12 arg13 arg14 arg15 arg16 arg17 (zeroColumn arg15 arg16 arg17) x s y (reset s) y := by
  intro E K
  unfold zeroColumn mem outs owns
  iintro ⟨⟨Hi, H10, H11, H12, H13, H14, ⟨%f15, -, H15⟩, ⟨%f16, -, H16⟩, ⟨%f17, -, H17⟩⟩, Hk⟩
  sl_exec
  sl_step
  iapply Hk
  isplitl [Hi]
  · iexact Hi
  isplitl [H10]
  · iexact H10
  isplitl [H11]
  · iexact H11
  isplitl [H12]
  · iexact H12
  isplitl [H13]
  · iexact H13
  isplitl [H14]
  · iexact H14
  isplitl [H15]
  · iapply (held c arg15 (View.read_writes_full _ _ _ _ _)); iexact H15
  isplitl [H16]
  · iapply (held c arg16 (View.read_writes_full _ _ _ _ _)); iexact H16
  · iapply (held c arg17 (View.read_writes_full _ _ _ _ _)); iexact H17

theorem writeColumn_takes (x : In F) (s : St F) (y : Cols F) :
    Takes c arg3 arg4 arg5 arg6 arg7 arg8 arg9 arg10 arg11 arg12 arg13 arg14 arg15 arg16 arg17 (writeColumn arg11 arg12 arg13 arg15 arg16 arg17) x s y s (k0_pay8 s.dk, k0_pay9 s.dv, k0_pay10 s.dc) := by
  intro E K
  unfold writeColumn mem outs owns
  iintro ⟨⟨Hi, H10, ⟨%f11, -, H11⟩, ⟨%f12, -, H12⟩, ⟨%f13, -, H13⟩, H14, ⟨%f15, %h15, H15⟩, ⟨%f16, %h16, H16⟩, ⟨%f17, %h17, H17⟩⟩, Hk⟩
  sl_exec
  sl_step
  iapply Hk
  isplitl [Hi]
  · iexact Hi
  isplitl [H10]
  · iexact H10
  isplitl [H11]
  · iapply (held c arg11 ((View.read_writes_full _ _ _ _ _).trans (congrArg k0_pay8 ((load_k _ _ _).trans h15)))); iexact H11
  isplitl [H12]
  · iapply (held c arg12 ((View.read_writes_full _ _ _ _ _).trans (congrArg k0_pay9 ((load_k _ _ _).trans h16)))); iexact H12
  isplitl [H13]
  · iapply (held c arg13 ((View.read_writes_full _ _ _ _ _).trans (congrArg k0_pay10 ((load_s _ _ _).trans h17)))); iexact H13
  isplitl [H14]
  · iexact H14
  isplitl [H15]
  · iapply (held c arg15 h15); iexact H15
  isplitl [H16]
  · iapply (held c arg16 h16); iexact H16
  · iapply (held c arg17 h17); iexact H17

variable {c arg3 arg4 arg5 arg6 arg7 arg8 arg9 arg10 arg11 arg12 arg13 arg14 arg15 arg16 arg17} in
/-- The inputs and the sums from their arrays, once each is known to read as it should. -/
theorem mem_held {x : In F} {s : St F} {y : Cols F}
    {f3 : arg3.view.ty.Contents (Elt F)} {f4 : arg4.view.ty.Contents (Elt F)} {f5 : arg5.view.ty.Contents (Elt F)} {f6 : arg6.view.ty.Contents (Elt F)}
    {f7 : arg7.view.ty.Contents (Elt F)} {f8 : arg8.view.ty.Contents (Elt F)} {f9 : arg9.view.ty.Contents (Elt F)} {f10 : arg10.view.ty.Contents (Elt F)}
    {f14 : arg14.view.ty.Contents (Elt F)} {f15 : arg15.view.ty.Contents (Elt F)} {f16 : arg16.view.ty.Contents (Elt F)} {f17 : arg17.view.ty.Contents (Elt F)}
    (h3 : arg3.view.read (Elt F) f3 = x.q) (h4 : arg4.view.read (Elt F) f4 = x.k) (h5 : arg5.view.read (Elt F) f5 = x.v)
    (h6 : arg6.view.read (Elt F) f6 = x.c) (h7 : arg7.view.read (Elt F) f7 = x.o) (h8 : arg8.view.read (Elt F) f8 = x.l)
    (h9 : arg9.view.read (Elt F) f9 = x.d) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (∃ f, ⌜arg11.view.read (Elt F) f = y.1⌝ ∗ (arg11.view.loc (c : Thread nD τ) ↦[arg11.view.set]{fullShare} f)) ∗ (∃ f, ⌜arg12.view.read (Elt F) f = y.2.1⌝ ∗ (arg12.view.loc (c : Thread nD τ) ↦[arg12.view.set]{fullShare} f)) ∗ (∃ f, ⌜arg13.view.read (Elt F) f = y.2.2⌝ ∗ (arg13.view.loc (c : Thread nD τ) ↦[arg13.view.set]{fullShare} f)) ∗ ⌜arg10.view.read (Elt F) f10 = s.dq ∧ arg14.view.read (Elt F) f14 = s.cq
      ∧ arg15.view.read (Elt F) f15 = s.dk ∧ arg16.view.read (Elt F) f16 = s.dv ∧ arg17.view.read (Elt F) f17 = s.dc⌝) ⊢ mem c arg3 arg4 arg5 arg6 arg7 arg8 arg9 arg10 arg11 arg12 arg13 arg14 arg15 arg16 arg17 x s y := by
  unfold mem ins outs owns
  iintro ⟨H3, H4, H5, H6, H7, H8, H9, H10, H14, H15, H16, H17, H11, H12, H13, %h⟩
  obtain ⟨h10, h14, h15, h16, h17⟩ := h
  isplitl [H3 H4 H5 H6 H7 H8 H9]
  · isplitl [H3]
    · iapply (held c arg3 h3); iexact H3
    isplitl [H4]
    · iapply (held c arg4 h4); iexact H4
    isplitl [H5]
    · iapply (held c arg5 h5); iexact H5
    isplitl [H6]
    · iapply (held c arg6 h6); iexact H6
    isplitl [H7]
    · iapply (held c arg7 h7); iexact H7
    isplitl [H8]
    · iapply (held c arg8 h8); iexact H8
    · iapply (held c arg9 h9); iexact H9
  isplitl [H10]
  · iapply (held c arg10 h10); iexact H10
  isplitl [H11]
  · iexact H11
  isplitl [H12]
  · iexact H12
  isplitl [H13]
  · iexact H13
  isplitl [H14]
  · iapply (held c arg14 h14); iexact H14
  isplitl [H15]
  · iapply (held c arg15 h15); iexact H15
  isplitl [H16]
  · iapply (held c arg16 h16); iexact H16
  · iapply (held c arg17 h17); iexact H17

/-- A block is added to the sums. -/
theorem addTo_takes (g : Terms F) (o p : Fin 3 → ℕ) (ho : ∀ a, o a + S1x1024x64.size a ≤ S1x8192x64.size a)
    (hp : ∀ a, p a + S1x1024x1.size a ≤ S1x8192x1.size a) (x : In F) (s : St F) (y : Cols F) :
    Takes c arg3 arg4 arg5 arg6 arg7 arg8 arg9 arg10 arg11 arg12 arg13 arg14 arg15 arg16 arg17 (addTo arg3 arg4 arg5 arg6 arg7 arg8 arg9 arg10 arg14 arg15 arg16 arg17 g o p ho hp) x s y (g.add o p ho hp x s) y := by
  intro E K
  unfold addTo
  haveI : ClosedOff o := ⟨o, rfl⟩
  haveI : ClosedOff p := ⟨p, rfl⟩
  generalize hM : mem c arg3 arg4 arg5 arg6 arg7 arg8 arg9 arg10 arg11 arg12 arg13 arg14 arg15 arg16 arg17 x (g.add o p ho hp x s) y = M
  unfold mem ins outs owns
  iintro ⟨⟨⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩,
    ⟨%f10, %h10, H10⟩, H11, H12, H13, ⟨%f14, %h14, H14⟩, ⟨%f15, %h15, H15⟩, ⟨%f16, %h16, H16⟩, ⟨%f17, %h17, H17⟩⟩, Hk⟩
  sl_exec
  sl_step
  iapply Hk
  rw [← hM]
  iapply (mem_held (s := g.add o p ho hp x s) h3 h4 h5 h6 h7 h8 h9)
  iframe
  ipureintro
  refine ⟨(View.read_writes_cons_put _ _ _ _ _ rfl).trans ?_, (View.read_writes_cons_put _ _ _ _ _ rfl).trans ?_,
      (View.read_writes_full _ _ _ _ _).trans ?_, (View.read_writes_full _ _ _ _ _).trans ?_, (View.read_writes_full _ _ _ _ _).trans ?_⟩
  all_goals
    simp only [load_q, load_c, load_l, load_k, load_s, View.readAt_unit arg10.view _ ho rfl ho, View.readAt_unit arg14.view _ hp rfl hp,
      h3, h4, h5, h6, h7, h8, h9, h10, h14, h15, h16, h17, writes_none]
    rfl

variable {c arg3 arg4 arg5 arg6 arg7 arg8 arg9 arg10 arg11 arg12 arg13 arg14 arg15 arg16 arg17} in
/-- A stage under its condition, and what follows it. -/
theorem Takes.cons {p : Prop} [Decidable p] {P : p → Prog (TpuEff nD τ sig (Elt F) Λ₀ .tc) PUnit} {Q : Prog (TpuEff nD τ sig (Elt F) Λ₀ .tc) PUnit}
    {x : In F} {s s' s'' : St F} {y y' y'' : Cols F} (h : ∀ hp, Takes c arg3 arg4 arg5 arg6 arg7 arg8 arg9 arg10 arg11 arg12 arg13 arg14 arg15 arg16 arg17 (P hp) x s y s' y') (hn : ¬ p → s' = s ∧ y' = y)
    (hQ : Takes c arg3 arg4 arg5 arg6 arg7 arg8 arg9 arg10 arg11 arg12 arg13 arg14 arg15 arg16 arg17 Q x s' y' s'' y'') : Takes c arg3 arg4 arg5 arg6 arg7 arg8 arg9 arg10 arg11 arg12 arg13 arg14 arg15 arg16 arg17 (Fox.stage p P >>= fun _ => Q) x s y s'' y'' :=
  (Takes.stage h hn).bind hQ

attribute [local irreducible] Takes Fox.stage cc0_dattn k0_cond1 k0_cond3 k0_cond4 k0_cond5

/-- The whole body, from what each stage leaves. -/
theorem body_takes (x : In F) (s s₁ s₂ s₃ s₄ : St F) (y y' : Cols F)
    (h₁ : k0_cond1 i = 1#1 → s₁ = start s) (n₁ : ¬ k0_cond1 i = 1#1 → s₁ = s)
    (h₂ : onDiag i → s₂ = reset s₁) (n₂ : ¬ onDiag i → s₂ = s₁)
    (h₃ : ∀ h : k0_cond3 i = 1#1, s₃ = below i h x s₂) (n₃ : ¬ k0_cond3 i = 1#1 → s₃ = s₂)
    (h₄ : ∀ h : k0_cond4 i = 1#1, s₄ = diag i h x s₃) (n₄ : ¬ k0_cond4 i = 1#1 → s₄ = s₃)
    (h₅ : k0_cond5 i = 1#1 → y' = (k0_pay8 s₄.dk, k0_pay9 s₄.dv, k0_pay10 s₄.dc)) (n₅ : ¬ k0_cond5 i = 1#1 → y' = y) :
    Takes c arg3 arg4 arg5 arg6 arg7 arg8 arg9 arg10 arg11 arg12 arg13 arg14 arg15 arg16 arg17 (cc0_dattn i arg3 harg3 arg4 harg4 arg5 harg5 arg6 harg6 arg7 harg7 arg8 harg8 arg9 harg9 arg10 harg10 arg11 harg11 arg12 harg12 arg13 harg13 arg14 harg14 arg15 harg15 arg16 harg16 arg17 harg17) x s y s₄ y' := by
  rw [stages]
  have t₁ : ∀ _ : k0_cond1 i = 1#1, Takes c arg3 arg4 arg5 arg6 arg7 arg8 arg9 arg10 arg11 arg12 arg13 arg14 arg15 arg16 arg17 (zeroHead arg10 arg14) x s y s₁ y := fun h => by rw [h₁ h]; exact zeroHead_takes c arg3 arg4 arg5 arg6 arg7 arg8 arg9 arg10 arg11 arg12 arg13 arg14 arg15 arg16 arg17 x s y
  have t₂ : ∀ _ : onDiag i, Takes c arg3 arg4 arg5 arg6 arg7 arg8 arg9 arg10 arg11 arg12 arg13 arg14 arg15 arg16 arg17 (zeroColumn arg15 arg16 arg17) x s₁ y s₂ y := fun h => by rw [h₂ h]; exact zeroColumn_takes c arg3 arg4 arg5 arg6 arg7 arg8 arg9 arg10 arg11 arg12 arg13 arg14 arg15 arg16 arg17 x s₁ y
  have t₃ : ∀ h, Takes c arg3 arg4 arg5 arg6 arg7 arg8 arg9 arg10 arg11 arg12 arg13 arg14 arg15 arg16 arg17 (addTo arg3 arg4 arg5 arg6 arg7 arg8 arg9 arg10 arg14 arg15 arg16 arg17 belowTerms (k0_off1 i) (k0_off2 i) (k0_off1_inb i h) (k0_off2_inb i h)) x s₂ y s₃ y := fun h => by rw [h₃ h]; exact addTo_takes c arg3 arg4 arg5 arg6 arg7 arg8 arg9 arg10 arg11 arg12 arg13 arg14 arg15 arg16 arg17 _ _ _ _ _ x s₂ y
  have t₄ : ∀ h, Takes c arg3 arg4 arg5 arg6 arg7 arg8 arg9 arg10 arg11 arg12 arg13 arg14 arg15 arg16 arg17 (addTo arg3 arg4 arg5 arg6 arg7 arg8 arg9 arg10 arg14 arg15 arg16 arg17 diagTerms (k0_off3 i) (k0_off4 i) (k0_off3_inb i h) (k0_off4_inb i h)) x s₃ y s₄ y := fun h => by rw [h₄ h]; exact addTo_takes c arg3 arg4 arg5 arg6 arg7 arg8 arg9 arg10 arg11 arg12 arg13 arg14 arg15 arg16 arg17 _ _ _ _ _ x s₃ y
  have t₅ : ∀ _ : k0_cond5 i = 1#1, Takes c arg3 arg4 arg5 arg6 arg7 arg8 arg9 arg10 arg11 arg12 arg13 arg14 arg15 arg16 arg17 (writeColumn arg11 arg12 arg13 arg15 arg16 arg17) x s₄ y s₄ y' := fun h => by rw [h₅ h]; exact writeColumn_takes c arg3 arg4 arg5 arg6 arg7 arg8 arg9 arg10 arg11 arg12 arg13 arg14 arg15 arg16 arg17 x s₄ y
  clear h₁ h₂ h₃ h₄ h₅
  have e₅ := Takes.cons t₅ (fun h => ⟨rfl, n₅ h⟩) (takes_pure c arg3 arg4 arg5 arg6 arg7 arg8 arg9 arg10 arg11 arg12 arg13 arg14 arg15 arg16 arg17 x s₄ y')
  have e₄ := Takes.cons t₄ (fun h => ⟨n₄ h, rfl⟩) e₅
  have e₃ := Takes.cons t₃ (fun h => ⟨n₃ h, rfl⟩) e₄
  have e₂ := Takes.cons t₂ (fun h => ⟨n₂ h, rfl⟩) e₃
  exact Takes.cons t₁ (fun h => ⟨n₁ h, rfl⟩) e₂

end Run

end Cert.Kernel3Ideal.Fox

end
-- ==== Proof.FoxFrame.lean ====
/- The backward kernel of the forgetting attention as a launch: the sums along the grid, and the frame. -/
module

public import proofs.«01_k».proof.Proof.Fox
public import Idealize.ShloMosaic.Lib.Claim

@[expose] public section

set_option maxRecDepth 16384
set_option maxHeartbeats 1000000

noncomputable section

namespace Cert.Kernel3Ideal.Fox

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Which of the five kinds a point is. -/
def Kind5 (i : grid0.Coords) : Prop :=
  (k0_cond1 i = 1#1 ∧ k0_cond4 i = 1#1 ∧ ¬ k0_cond3 i = 1#1 ∧ ¬ k0_cond5 i = 1#1)
    ∨ (¬ k0_cond1 i = 1#1 ∧ k0_cond4 i = 1#1 ∧ ¬ k0_cond3 i = 1#1)
    ∨ (¬ k0_cond1 i = 1#1 ∧ ¬ k0_cond4 i = 1#1 ∧ k0_cond3 i = 1#1)

instance (i : grid0.Coords) : Decidable (Kind5 i) := by unfold Kind5; infer_instance

theorem kind (t : Fin cfg0.N) : Kind5 (grid0.coords t) := (by decide +kernel : ∀ t : Fin grid0.N, Kind5 (grid0.coords t)) t

theorem first_iff (t : Fin cfg0.N) : k0_cond1 (grid0.coords t) = 1#1 ↔ t.val % 36 = 0 :=
  (by decide +kernel : ∀ t : Fin grid0.N, k0_cond1 (grid0.coords t) = 1#1 ↔ t.val % 36 = 0) t

section Run

variable (c : Dev nD) (i : grid0.Coords)
  (arg3 : Memref sig .tc .vmem S1x1024x64 .bf16) (harg3 : arg3.IsWhole) (arg4 : Memref sig .tc .vmem S1x1024x64 .bf16) (harg4 : arg4.IsWhole)
  (arg5 : Memref sig .tc .vmem S1x1024x64 .f32) (harg5 : arg5.IsWhole) (arg6 : Memref sig .tc .vmem S1x1x1024 .f32) (harg6 : arg6.IsWhole)
  (arg7 : Memref sig .tc .vmem S1x1024x64 .f32) (harg7 : arg7.IsWhole) (arg8 : Memref sig .tc .vmem S1x1024x1 .f32) (harg8 : arg8.IsWhole)
  (arg9 : Memref sig .tc .vmem S1x1024x64 .f32) (harg9 : arg9.IsWhole) (arg10 : Memref sig .tc .vmem S1x8192x64 .f32) (harg10 : arg10.IsWhole)
  (arg11 : Memref sig .tc .vmem S1x1024x64 .f32) (harg11 : arg11.IsWhole) (arg12 : Memref sig .tc .vmem S1x1024x64 .f32) (harg12 : arg12.IsWhole)
  (arg13 : Memref sig .tc .vmem S1x1x1024 .f32) (harg13 : arg13.IsWhole) (arg14 : Memref sig .tc .vmem S1x8192x1 .f32) (harg14 : arg14.IsWhole)
  (arg15 : Memref sig .tc .vmem S1024x64 .f32) (harg15 : arg15.IsWhole) (arg16 : Memref sig .tc .vmem S1024x64 .f32) (harg16 : arg16.IsWhole)
  (arg17 : Memref sig .tc .vmem S1x1024 .f32) (harg17 : arg17.IsWhole)

/-- One point of the grid. -/
theorem run_step (hi : Kind5 i)
    (x : In F) (s : St F) (y11 : Vec F S1x1024x64 .f32) (y12 : Vec F S1x1024x64 .f32) (y13 : Vec F S1x1x1024 .f32)
    (E : Set ℕ) (K : PUnit → sProp 𝕄) :
    iprop(ins c arg3 arg4 arg5 arg6 arg7 arg8 arg9 x ∗ outs c arg10 arg11 arg12 arg13 arg14 arg15 arg16 arg17 s y11 y12 y13
        ∗ (iprop(ins c arg3 arg4 arg5 arg6 arg7 arg8 arg9 x ∗ outs c arg10 arg11 arg12 arg13 arg14 arg15 arg16 arg17 (step i x s)
          (if k0_cond5 i = 1#1 then k0_pay8 (step i x s).dk else y11) (if k0_cond5 i = 1#1 then k0_pay9 (step i x s).dv else y12)
          (if k0_cond5 i = 1#1 then k0_pay10 (step i x s).dc else y13)) -∗ K ⟨⟩))
      ⊢ wp frame (wpE (defs₀ (F := F)) Variants.none c none) E
        (cc0_dattn i arg3 harg3 arg4 harg4 arg5 harg5 arg6 harg6 arg7 harg7 arg8 harg8 arg9 harg9 arg10 harg10 arg11 harg11 arg12 harg12 arg13 harg13
          arg14 harg14 arg15 harg15 arg16 harg16 arg17 harg17) K := by
  have T : Takes c arg3 arg4 arg5 arg6 arg7 arg8 arg9 arg10 arg11 arg12 arg13 arg14 arg15 arg16 arg17
      (cc0_dattn i arg3 harg3 arg4 harg4 arg5 harg5 arg6 harg6 arg7 harg7 arg8 harg8 arg9 harg9 arg10 harg10 arg11 harg11 arg12 harg12 arg13 harg13 arg14 harg14 arg15 harg15 arg16 harg16 arg17 harg17) x s (y11, y12, y13) (step i x s)
      (if k0_cond5 i = 1#1 then k0_pay8 (step i x s).dk else y11, if k0_cond5 i = 1#1 then k0_pay9 (step i x s).dv else y12,
        if k0_cond5 i = 1#1 then k0_pay10 (step i x s).dc else y13) := by
    have h₅ : k0_cond5 i = 1#1 → ((if k0_cond5 i = 1#1 then k0_pay8 (step i x s).dk else y11, if k0_cond5 i = 1#1 then k0_pay9 (step i x s).dv else y12,
        if k0_cond5 i = 1#1 then k0_pay10 (step i x s).dc else y13) : Cols F) = (k0_pay8 (step i x s).dk, k0_pay9 (step i x s).dv, k0_pay10 (step i x s).dc) :=
      fun h => by simp only [if_pos h]
    have n₅ : ¬ k0_cond5 i = 1#1 → ((if k0_cond5 i = 1#1 then k0_pay8 (step i x s).dk else y11, if k0_cond5 i = 1#1 then k0_pay9 (step i x s).dv else y12,
        if k0_cond5 i = 1#1 then k0_pay10 (step i x s).dc else y13) : Cols F) = (y11, y12, y13) :=
      fun h => by simp only [if_neg h]
    by_cases h4 : k0_cond4 i = 1#1
    · have h3 : ¬ k0_cond3 i = 1#1 := hi.elim (fun h => h.2.2.1) fun h => h.elim (fun h => h.2.2) fun h => absurd h4 h.2.1
      exact body_takes c i arg3 harg3 arg4 harg4 arg5 harg5 arg6 harg6 arg7 harg7 arg8 harg8 arg9 harg9 arg10 harg10 arg11 harg11 arg12 harg12 arg13 harg13 arg14 harg14 arg15 harg15 arg16 harg16 arg17 harg17 x s (if k0_cond1 i = 1#1 then start s else s) (reset (if k0_cond1 i = 1#1 then start s else s))
        (reset (if k0_cond1 i = 1#1 then start s else s)) (step i x s) _ _ (fun h => if_pos h) (fun h => if_neg h) (fun _ => rfl) (fun h => absurd h4 h)
        (fun h => absurd h h3) (fun _ => rfl) (fun h => dif_pos h) (fun h => absurd h4 h) h₅ n₅
    · obtain ⟨h1, -, h3⟩ := hi.elim (fun h => absurd h.2.1 h4) fun h => h.elim (fun h => absurd h.2.1 h4) id
      exact body_takes c i arg3 harg3 arg4 harg4 arg5 harg5 arg6 harg6 arg7 harg7 arg8 harg8 arg9 harg9 arg10 harg10 arg11 harg11 arg12 harg12 arg13 harg13 arg14 harg14 arg15 harg15 arg16 harg16 arg17 harg17 x s s s (below i h3 x s) (step i x s) _ _ (fun h => absurd h h1) (fun _ => rfl) (fun h => absurd h h4) (fun _ => rfl)
        (fun _ => rfl) (fun h => absurd h3 h) (fun h => absurd h h4) (fun h => (dif_neg h).trans (dif_pos h3)) h₅ n₅
  have T' := T E K
  unfold mem at T'
  iintro ⟨Hi, Ho, Hk⟩
  iapply T'
  isplitl [Hi Ho]
  · isplitl [Hi]
    · iexact Hi
    · iexact Ho
  · iexact Hk

end Run

/-- At a head's first point the sums before it do not matter. -/
theorem step_start (i : grid0.Coords) (hi : Kind5 i) (h1 : k0_cond1 i = 1#1) (x : In F) (s s' : St F) : step i x s = step i x s' := by
  have h4 : k0_cond4 i = 1#1 := by
    rcases hi with ⟨_, h, _, _⟩ | ⟨h, _⟩ | ⟨h, _⟩
    · exact h
    · exact absurd h1 h
    · exact absurd h1 h
  unfold step
  simp only [dif_pos h4, if_pos h1]
  rfl

variable (m : (ℓ : Loc nD τ sig) → Buf (Elt F) ℓ) (ρ : Dev nD → PrngReg)

/-- The blocks a point reads. -/
def inp (c : Dev nD) (t : Fin cfg0.N) : In F where
  q := iblk m c 0 t
  k := iblk m c 1 t
  v := iblk m c 2 t
  c := iblk m c 3 t
  o := iblk m c 4 t
  l := iblk m c 5 t
  d := iblk m c 6 t

/-- The sums after point `n`. -/
def sts (c : Dev nD) : (n : ℕ) → n < cfg0.N → St F
  | 0, h => step (grid0.coords ⟨0, h⟩) (inp m c ⟨0, h⟩) ⟨k0_pay1, k0_pay2, k0_pay3, k0_pay4, k0_pay5⟩
  | n + 1, h => step (grid0.coords ⟨n + 1, h⟩) (inp m c ⟨n + 1, h⟩) (sts c n (Nat.lt_of_succ_lt h))

theorem sts_first (c : Dev nD) (t : Fin cfg0.N) (h : t.val % 36 = 0) (s : St F) :
    sts m c t.val t.isLt = step (grid0.coords t) (inp m c t) s := by
  obtain ⟨n, hn⟩ := t
  cases n with
  | zero => exact step_start _ (kind _) ((first_iff _).mpr h) _ _ _
  | succ n => exact step_start _ (kind _) ((first_iff _).mpr h) _ _ _

theorem sts_next (c : Dev nD) (t : Fin cfg0.N) (h : t.val ≠ 0) :
    sts m c t.val t.isLt = step (grid0.coords t) (inp m c t) (sts m c (t.val - 1) (Nat.lt_of_le_of_lt (Nat.sub_le _ _) t.isLt)) := by
  obtain ⟨n, hn⟩ := t
  cases n with
  | zero => exact absurd rfl h
  | succ n => rfl

abbrev scM0_0 : Memref sig .tc .vmem S1024x64 .f32 := Memref.whole cc0_scratch0
abbrev scM0_1 : Memref sig .tc .vmem S1024x64 .f32 := Memref.whole cc0_scratch1
abbrev scM0_2 : Memref sig .tc .vmem S1x1024 .f32 := Memref.whole cc0_scratch2

theorem PhiA0_eq (c : Dev nD) : (Pipeline.ΦA spec0 c : sProp 𝕄) = iprop(iprop((∃ d, owns (c : Thread nD τ) scM0_0 fullShare d)
    ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel's own buffers before point `n`. -/
def PhiS (c : Dev nD) : (n : ℕ) → n ≤ cfg0.N → sProp 𝕄
  | 0, _ => Pipeline.ΦA spec0 c
  | n + 1, hn => iprop(iprop(owns (c : Thread nD τ) scM0_0 fullShare (sts m c n hn).dk ∗ owns (c : Thread nD τ) scM0_1 fullShare (sts m c n hn).dv
      ∗ owns (c : Thread nD τ) scM0_2 fullShare (sts m c n hn).dc) ∗ (∃ r, prngReg c r))

theorem PhiS_succ (c : Dev nD) (n : ℕ) (hn : n < cfg0.N) :
    PhiS m c (n + 1) hn = iprop(iprop(owns (c : Thread nD τ) scM0_0 fullShare (sts m c n hn).dk ∗ owns (c : Thread nD τ) scM0_1 fullShare (sts m c n hn).dv
      ∗ owns (c : Thread nD τ) scM0_2 fullShare (sts m c n hn).dc) ∗ (∃ r, prngReg c r)) := rfl

theorem PhiS_open (c : Dev nD) (n : ℕ) (h : n ≤ cfg0.N) :
    PhiS m c n h ⊢ iprop(∃ s : St F, ⌜∀ h0 : n ≠ 0, s = sts m c (n - 1) (by omega)⌝ ∗ iprop(owns (c : Thread nD τ) scM0_0 fullShare s.dk
      ∗ owns (c : Thread nD τ) scM0_1 fullShare s.dv ∗ owns (c : Thread nD τ) scM0_2 fullShare s.dc) ∗ (∃ r, prngReg c r)) := by
  cases n with
  | zero =>
    rw [show PhiS m c 0 h = Pipeline.ΦA spec0 c from rfl, PhiA0_eq]
    iintro ⟨⟨⟨%d0, H0⟩, ⟨%d1, H1⟩, ⟨%d2, H2⟩⟩, Hg⟩
    iexists (⟨k0_pay1, k0_pay2, d0, d1, d2⟩ : St F)
    isplitr
    · ipureintro; intro h0; exact absurd rfl h0
    isplitl [H0 H1 H2]
    · isplitl [H0]
      · iexact H0
      isplitl [H1]
      · iexact H1
      iexact H2
    iexact Hg
  | succ n =>
    rw [PhiS_succ]
    iintro ⟨⟨H0, H1, H2⟩, Hg⟩
    iexists (sts m c n h)
    isplitr
    · ipureintro; intro _; rfl
    isplitl [H0 H1 H2]
    · isplitl [H0]
      · iexact H0
      isplitl [H1]
      · iexact H1
      iexact H2
    iexact Hg

/-- The launch's data: what each staged buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (sts m c t.val t.isLt).dq
    | ⟨8, _⟩ => k0_pay8 (sts m c t.val t.isLt).dk
    | ⟨9, _⟩ => k0_pay9 (sts m c t.val t.isLt).dv
    | ⟨10, _⟩ => k0_pay10 (sts m c t.val t.isLt).dc
    | ⟨11, _⟩ => (sts m c t.val t.isLt).cq
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (sts m c t.val t.isLt).dq := by dsimp only [dats]
theorem after0_8 (c : Dev nD) (t : Fin cfg0.N) : (dats m 0 c).after 8 t = k0_pay8 (sts m c t.val t.isLt).dk := by dsimp only [dats]
theorem after0_9 (c : Dev nD) (t : Fin cfg0.N) : (dats m 0 c).after 9 t = k0_pay9 (sts m c t.val t.isLt).dv := by dsimp only [dats]
theorem after0_10 (c : Dev nD) (t : Fin cfg0.N) : (dats m 0 c).after 10 t = k0_pay10 (sts m c t.val t.isLt).dc := by dsimp only [dats]
theorem after0_11 (c : Dev nD) (t : Fin cfg0.N) : (dats m 0 c).after 11 t = (sts m c t.val t.isLt).cq := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem live7 (i : grid0.Coords) : cfg0.idle 7 i = false := (by decide +kernel : ∀ i : grid0.Coords, idle0 7 i = false) i
theorem live11 (i : grid0.Coords) : cfg0.idle 11 i = false := live7 i
theorem flush_col : ∀ t : Fin cfg0.N, (¬ k0_cond5 (grid0.coords t) = 1#1) →
    (cfg0.win 8).flush t = false ∧ (cfg0.win 9).flush t = false ∧ (cfg0.win 10).flush t = false :=
  (by decide +kernel : ∀ t : Fin grid0.N, (¬ k0_cond5 (grid0.coords t) = 1#1) → win0_8.flush t = false ∧ win0_9.flush t = false ∧ win0_10.flush t = false)

attribute [local irreducible] k0_cond1 k0_cond3 k0_cond4 k0_cond5

theorem idle8_eq (i : grid0.Coords) : cfg0.idle 8 i = !(k0_cond5 i == 1#1) := rfl
theorem live_col (i : grid0.Coords) (h : k0_cond5 i = 1#1) : cfg0.idle 8 i = false ∧ cfg0.idle 9 i = false ∧ cfg0.idle 10 i = false := by
  rw [idle8_eq, h]; exact ⟨rfl, rfl, rfl⟩
theorem idle_col (i : grid0.Coords) (h : ¬ k0_cond5 i = 1#1) : cfg0.idle 8 i = true ∧ cfg0.idle 9 i = true ∧ cfg0.idle 10 i = true := by
  rw [idle8_eq, beq_false_of_ne h]; exact ⟨rfl, rfl, rfl⟩

/-- Past a head's first point the queries' sums are as the point before left them. -/
theorem before0_7 (c : Dev nD) (t : Fin cfg0.N) (h : ¬ t.val % 36 = 0) (d) :
    (dats m 0 c).before 7 t d = (sts m c (t.val - 1) (Nat.lt_of_le_of_lt (Nat.sub_le _ _) t.isLt)).dq := by
  have hN : t.val < 432 := lt_of_lt_of_eq t.isLt (show cfg0.N = 432 from N_0)
  rw [Dat.before_out_kept _ 7 rfl t (by omega) (Bool.eq_false_iff.mpr fun h => by have := (flush0_7 _).mp h; dsimp only at this; omega)
    live7 (fun _ _ => rfl)]
  dsimp only [dats]

theorem before0_11 (c : Dev nD) (t : Fin cfg0.N) (h : ¬ t.val % 36 = 0) (d) :
    (dats m 0 c).before 11 t d = (sts m c (t.val - 1) (Nat.lt_of_le_of_lt (Nat.sub_le _ _) t.isLt)).cq := by
  have hN : t.val < 432 := lt_of_lt_of_eq t.isLt (show cfg0.N = 432 from N_0)
  rw [Dat.before_out_kept _ 11 rfl t (by omega) (Bool.eq_false_iff.mpr fun h => by have := (flush0_11 _).mp h; dsimp only at this; omega)
    live11 (fun _ _ => rfl)]
  dsimp only [dats]

/-- An output the point writes is left at its value. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- An output only a column's last point writes: its value there, and what was before it elsewhere. -/
theorem leaves_col (c : Dev nD) (w : Fin cfg0.W) (t : Fin cfg0.N) (hl : k0_cond5 (grid0.coords t) = 1#1 → cfg0.idle w (grid0.coords t) = false)
    (hi : ¬ k0_cond5 (grid0.coords t) = 1#1 → cfg0.idle w (grid0.coords t) = true ∧ (cfg0.win w).flush t = false) (d) :
    owns (c : Thread nD τ) ((cfg0.win w).stage (cfg0.slots t w)) fullShare
        (if k0_cond5 (grid0.coords t) = 1#1 then (dats m 0 c).after w t else (dats m 0 c).before w t d)
      ⊢ (dats m 0 c).leavesExact w t := by
  by_cases h5 : k0_cond5 (grid0.coords t) = 1#1
  · rw [if_pos h5, leaves_live m c w t (hl h5)]
  · rw [if_neg h5, Dat.leavesExact_idle (dats m 0 c) w t (hi h5).1 (hi h5).2]
    iintro H
    iexists _; iexact H

theorem leaves8 (c : Dev nD) (t : Fin cfg0.N) (d) :
    owns (c : Thread nD τ) (win0_8.stage (cfg0.slots t 8)) fullShare (if k0_cond5 (grid0.coords t) = 1#1 then (k0_pay8 (sts m c t.val t.isLt).dk) else (dats m 0 c).before 8 t d)
      ⊢ (dats m 0 c).leavesExact 8 t :=
  after0_8 m c t ▸ leaves_col m c 8 t (fun h => (live_col _ h).1) (fun h => ⟨(idle_col _ h).1, (flush_col t h).1⟩) d

theorem leaves9 (c : Dev nD) (t : Fin cfg0.N) (d) :
    owns (c : Thread nD τ) (win0_9.stage (cfg0.slots t 9)) fullShare (if k0_cond5 (grid0.coords t) = 1#1 then (k0_pay9 (sts m c t.val t.isLt).dv) else (dats m 0 c).before 9 t d)
      ⊢ (dats m 0 c).leavesExact 9 t :=
  after0_9 m c t ▸ leaves_col m c 9 t (fun h => (live_col _ h).2.1) (fun h => ⟨(idle_col _ h).2.1, (flush_col t h).2.1⟩) d

theorem leaves10 (c : Dev nD) (t : Fin cfg0.N) (d) :
    owns (c : Thread nD τ) (win0_10.stage (cfg0.slots t 10)) fullShare (if k0_cond5 (grid0.coords t) = 1#1 then (k0_pay10 (sts m c t.val t.isLt).dc) else (dats m 0 c).before 10 t d)
      ⊢ (dats m 0 c).leavesExact 10 t :=
  after0_10 m c t ▸ leaves_col m c 10 t (fun h => (live_col _ h).2.2) (fun h => ⟨(idle_col _ h).2.2, (flush_col t h).2.2⟩) d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 7 t (live7 _), after0_7]
  rw [leaves_live m c 11 t (live11 _), after0_11]
  rw [PhiS_castSucc]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HQ := (PhiS_open m c t.val (Nat.le_of_lt t.isLt)) $$ HP
  icases HQ with ⟨%s0, %hs0, ⟨S0, S1, S2⟩, Hg⟩
  have hs : step (grid0.coords t) (inp m c t) ⟨(dats m 0 c).before 7 t d7, (dats m 0 c).before 11 t d11, s0.dk, s0.dv, s0.dc⟩ = sts m c t.val t.isLt := by
    by_cases h : t.val % 36 = 0
    · exact (sts_first m c t h _).symm
    · have h0 : t.val ≠ 0 := fun e => h (by rw [e])
      rw [sts_next m c t h0, before0_7 m c t h, before0_11 m c t h, hs0 h0]
  iapply (run_step c (grid0.coords t) _ _ _ _ _ _ _ _ _ _ _ _ _ _ _ _ _ _ _ _ _ _ _ _ _ _ _ _ _ _ (kind t) (inp m c t)
    ⟨(dats m 0 c).before 7 t d7, (dats m 0 c).before 11 t d11, s0.dk, s0.dv, s0.dc⟩ ((dats m 0 c).before 8 t d8) ((dats m 0 c).before 9 t d9)
    ((dats m 0 c).before 10 t d10) Set.univ _)
  rw [hs]
  unfold ins outs inp
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8 H9 H10 H11 S0 S1 S2]
  · isplitl [H7]; · iexact H7
    isplitl [H8]; · iexact H8
    isplitl [H9]; · iexact H9
    isplitl [H10]; · iexact H10
    isplitl [H11]; · iexact H11
    isplitl [S0]; · iexact S0
    isplitl [S1]; · iexact S1
    iexact S2
  iintro ⟨⟨H0, H1, H2, H3, H4, H5, H6⟩, ⟨H7, H8, H9, H10, H11, S0, S1, S2⟩⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m c t d8) $$ H8
  isplitl [H9]; · iapply (leaves9 m c t d9) $$ H9
  isplitl [H10]; · iapply (leaves10 m c t d10) $$ H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  dsimp only
  exact Idealize.SL.BI.Entails.refl _

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  iintro HP
  ihave HQ := (PhiS_open m c cfg0.N (Nat.le_refl _)) $$ HP
  icases HQ with ⟨%s0, %hs0, ⟨S0, S1, S2⟩, Hg⟩
  isplitl [S0 S1 S2]
  · isplitl [S0]
    · iexists _; iexact S0
    isplitl [S1]
    · iexists _; iexact S1
    iexists _; iexact S2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments and the counters as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel3Ideal.Fox

end
-- ==== Proof.FoxTerms.lean ====
/- The forgetting attention's gradients as array terms, and what the kernel forms of a row and a key beside them. -/
module

public import proofs.«01_k».proof.Proof.Gen.Reference3Ideal.Run
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel3Ideal.Fox

open Cert.Reference3Ideal Cert.Reference3Ideal.Gen

/-- Queries, keys, values and output gradients. -/
abbrev TA := FVec Ideal S12x8192x64 .f32
/-- One number to a query and a key. -/
abbrev TB := FVec Ideal S12x8192x8192 .f32
/-- One number to a row. -/
abbrev TC := FVec Ideal S12x8192 .f32

/-- The scaled queries. -/
def QS (a0 : TA) : TA := mulf a0 (broadcastInDim S12x8192x64 ![] bcast_S_S12x8192x64 (constant S_ .f32 0x3E000000#32))

/-- Which keys a query sees. -/
def MS : IVec S12x8192x8192 1 :=
  broadcastInDim S12x8192x8192 ![0, 1, 2] bcast_S1x8192x8192_S12x8192x8192_0_1_2 (broadcastInDim S1x8192x8192 ![1, 2] bcast_S8192x8192_S1x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))

/-- The logits. -/
def L (q k : TA) (c : TC) : TB :=
  select MS (subf (addf (Host.dotGeneral dot_S12x8192x64_S12x8192x64_S12x8192x8192_2_2_1_1_0_0 none q k)
      (broadcastInDim S12x8192x8192 ![0, 1, 2] bcast_S12x8192x1_S12x8192x8192_0_1_2 (broadcastInDim S12x8192x1 ![0, 1] bcast_S12x8192_S12x8192x1_0_1 c)))
      (broadcastInDim S12x8192x8192 ![0, 1, 2] bcast_S12x1x8192_S12x8192x8192_0_1_2 (broadcastInDim S12x1x8192 ![0, 2] bcast_S12x8192_S12x1x8192_0_2 c)))
    (broadcastInDim S12x8192x8192 ![] bcast_S_S12x8192x8192 (constant S_ .f32 0xFF800000#32))

/-- The row maxima of logits. -/
def MX (l : TB) : TC := Host.reduce FloatOps.maximumf l (constant S_ .f32 0xFF800000#32) reducesTo_S12x8192x8192_S12x8192_d2 h_S_

/-- The exponentials of logits below `M`. -/
def EX (l : TB) (M : TC) : TB :=
  Host.exp (subf l (broadcastInDim S12x8192x8192 ![0, 1, 2] bcast_S12x8192x1_S12x8192x8192_0_1_2 (broadcastInDim S12x8192x1 ![0, 1] bcast_S12x8192_S12x8192x1_0_1 M)))

/-- Row maxima, kept above minus infinity. -/
def CL (M : TC) : TC := maximumf (broadcastInDim S12x8192 ![] bcast_S_S12x8192 (constant S_ .f32 0xFF800000#32)) M

/-- The row sums of exponentials. -/
def ZS (e : TB) : FVec Ideal S12x8192x1 .f32 :=
  broadcastInDim S12x8192x1 ![0, 1] bcast_S12x8192_S12x8192x1_0_1 (Host.reduceAdd e (constant S_ .f32 0x00000000#32) reducesTo_S12x8192x8192_S12x8192_d2 h_S_)

/-- The probabilities. -/
def PR (e : TB) : TB := Host.divf e (broadcastInDim S12x8192x8192 ![0, 1, 2] bcast_S12x8192x1_S12x8192x8192_0_1_2 (ZS e))

/-- The cotangents of the probabilities. -/
def DP (v g : TA) : TB := Host.dotGeneral dot_S12x8192x64_S12x8192x64_S12x8192x8192_2_2_1_1_0_0 none g v

/-- The cotangents of the logits, from the exponentials and the cotangents of the probabilities. -/
def DS (e dp : TB) : TB :=
  select MS (mulf (addf (Host.divf dp (broadcastInDim S12x8192x8192 ![0, 1, 2] bcast_S12x8192x1_S12x8192x8192_0_1_2 (ZS e)))
    (broadcastInDim S12x8192x8192 ![0, 1] bcast_S12x8192_S12x8192x8192_0_1 (Host.reduceAdd (Host.negf (shapeCast S12x8192x1 (Host.reduceAdd
      (mulf (mulf dp (broadcastInDim S12x8192x8192 ![0, 1, 2] bcast_S12x8192x1_S12x8192x8192_0_1_2 (Host.divf (broadcastInDim S12x8192x1 ![] bcast_S_S12x8192x1 (constant S_ .f32 0x3F800000#32)) (mulf (ZS e) (ZS e))))) e)
      (constant S_ .f32 0x00000000#32) reducesTo_S12x8192x8192_S12x8192_d2 h_S_) shapeCasts_S12x8192_S12x8192x1)) (constant S_ .f32 0x00000000#32) reducesTo_S12x8192x1_S12x8192_d2 h_S_))) e)
    (broadcastInDim S12x8192x8192 ![] bcast_S_S12x8192x8192 (constant S_ .f32 0x00000000#32))

/-- The exponentials of the reference. -/
def E (a0 a1 : TA) (a3 : TC) : TB := EX (L (QS a0) a1 a3) (CL (MX (L (QS a0) a1 a3)))

/-- The queries' gradient, from the logits' cotangents. -/
def RDQ (s : TB) (a1 : TA) : TA := Host.dotGeneral dot_S12x8192x8192_S12x8192x64_S12x8192x64_2_1_1_2_0_0 none s a1

/-- The keys' gradient. -/
def RDK (s : TB) (q : TA) : TA := Host.dotGeneral dot_S12x8192x8192_S12x8192x64_S12x8192x64_1_1_2_2_0_0 none s q

/-- The values' gradient, from the probabilities. -/
def RDV (p : TB) (a4 : TA) : TA :=
  transpose S12x8192x64 [0, 2, 1] (Host.dotGeneral dot_S12x8192x64_S12x8192x8192_S12x64x8192_1_1_2_2_0_0 none a4 p) transposes_S12x64x8192_S12x8192x64_0_2_1

/-- The gradient of the keys' decay. -/
def RDC (s : TB) : FVec Ideal S12x1x8192 .f32 :=
  broadcastInDim S12x1x8192 ![0, 2] bcast_S12x8192_S12x1x8192_0_2 (Host.reduceAdd (shapeCast S12x1x8192 (Host.reduceAdd (Host.negf s)
    (constant S_ .f32 0x00000000#32) reducesTo_S12x8192x8192_S12x8192_d1 h_S_) shapeCasts_S12x8192_S12x1x8192) (constant S_ .f32 0x00000000#32) reducesTo_S12x1x8192_S12x8192_d1 h_S_)

/-- The gradient of the queries' decay. -/
def RCQ (s : TB) : FVec Ideal S12x8192x1 .f32 :=
  broadcastInDim S12x8192x1 ![0, 1] bcast_S12x8192_S12x8192x1_0_1 (Host.reduceAdd (shapeCast S12x8192x1 (Host.reduceAdd s
    (constant S_ .f32 0x00000000#32) reducesTo_S12x8192x8192_S12x8192_d2 h_S_) shapeCasts_S12x8192_S12x8192x1) (constant S_ .f32 0x00000000#32) reducesTo_S12x8192x1_S12x8192_d2 h_S_)

section
variable (m : (ℓ : Loc Cert.Reference3Ideal.nD Cert.Reference3Ideal.τ Cert.Reference3Ideal.sig) → Buf (Elt Ideal) ℓ) (c : Dev Cert.Reference3Ideal.nD)

/-- The reference's cotangents of the logits. -/
abbrev rS : TB := DS (E (m ((c.tc : Thread nD τ).loc main_arg0)) (m ((c.tc : Thread nD τ).loc main_arg1)) (m ((c.tc : Thread nD τ).loc main_arg3)))
  (DP (m ((c.tc : Thread nD τ).loc main_arg2)) (m ((c.tc : Thread nD τ).loc main_arg4)))

theorem res0 : Value.res_main_v70 m c = RDQ (rS m c) (m ((c.tc : Thread nD τ).loc main_arg1)) := rfl
theorem res1 : Value.res_main_v69 m c = RDK (rS m c) (QS (m ((c.tc : Thread nD τ).loc main_arg0))) := rfl
theorem res2 : Value.res_main_v47 m c = RDV (PR (E (m ((c.tc : Thread nD τ).loc main_arg0)) (m ((c.tc : Thread nD τ).loc main_arg1)) (m ((c.tc : Thread nD τ).loc main_arg3))))
  (m ((c.tc : Thread nD τ).loc main_arg4)) := rfl
theorem res3 : Value.res_main_v71 m c = RDC (rS m c) := rfl
theorem res4 : Value.res_main_v72 m c = RCQ (rS m c) := rfl
end

/-- Row numbers compare as words as they do as numbers. -/
theorem sle_nat (a b : ℕ) (ha : a < 8192) (hb : b < 8192) : IntOp.cmpi .sle (BitVec.ofNat 32 a) (BitVec.ofNat 32 b) = if a ≤ b then 1#1 else 0#1 := by
  have e : ∀ n : ℕ, n < 8192 → (BitVec.ofNat 32 n).toInt = n := fun n hn => by
    rw [BitVec.toInt_eq_toNat_of_lt (by rw [BitVec.toNat_ofNat]; omega), BitVec.toNat_ofNat, Nat.mod_eq_of_lt (by omega)]
  have h : (BitVec.ofNat 32 a).sle (BitVec.ofNat 32 b) = decide (a ≤ b) := by
    rw [BitVec.sle_eq_decide, e a ha, e b hb]
    exact decide_eq_decide.mpr Int.ofNat_le
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

theorem select_if {α : Type} (p : Prop) [Decidable p] (a b : α) : Scalar.select (if p then 1#1 else 0#1) a b = if p then a else b := by
  by_cases h : p
  · simp only [if_pos h]; rfl
  · simp only [if_neg h]; rfl

theorem MS_at (h : Fin 12) (r j : Fin 8192) : MS (ix3 h r j) = if j.val ≤ r.val then 1#1 else 0#1 := by
  pointwise [MS]
  exact sle_nat _ _ j.isLt r.isLt
theorem QS_at (a0) (h : Fin 12) (r : Fin 8192) (d : Fin 64) : QS a0 (ix3 h r d) = a0 (ix3 h r d) * Ideal.ofBits .f32 0x3E000000#32 := by
  pointwise [QS]
theorem L_at (q k c) (h : Fin 12) (r : Fin 8192) (j : Fin 8192) : L q k c (ix3 h r j) =
    if j.val ≤ r.val then ∑ x : Fin 64, q (ix3 h r x) * k (ix3 h j x) + c (ix2 h r) - c (ix2 h j) else ⊥ := by
  pointwise [L]
  rw [MS_at, select_if, Reals.neg_inf]
theorem DP_at (v g) (h : Fin 12) (r : Fin 8192) (j : Fin 8192) : DP v g (ix3 h r j) = ∑ x : Fin 64, g (ix3 h r x) * v (ix3 h j x) := by
  pointwise [DP]
theorem EX_at (l M) (h : Fin 12) (r : Fin 8192) (j : Fin 8192) : EX l M (ix3 h r j) = Ideal.exp (l (ix3 h r j) - M (ix2 h r)) := by
  pointwise [EX]
theorem CL_eq (M) : CL M = M := by
  funext j
  pointwise [CL]
  rw [Reals.neg_inf, max_eq_right bot_le]
theorem PR_at (e) (h : Fin 12) (r : Fin 8192) (j : Fin 8192) : PR e (ix3 h r j) = Ideal.div (e (ix3 h r j)) (∑ x : Fin 8192, e (ix3 h r x)) := by
  pointwise [PR, ZS]
theorem DS_at (e dp) (h : Fin 12) (r : Fin 8192) (j : Fin 8192) : DS e dp (ix3 h r j) =
    if j.val ≤ r.val then
    (Ideal.div (dp (ix3 h r j)) (∑ x : Fin 8192, e (ix3 h r x)) + ∑ _y : Fin 1, -∑ x : Fin 8192, dp (ix3 h r x) * Ideal.div 1 ((∑ x : Fin 8192, e (ix3 h r x)) * ∑ x : Fin 8192, e (ix3 h r x)) * e (ix3 h r x)) * e (ix3 h r j)
    else 0 := by
  pointwise [DS, ZS]
  rw [MS_at, select_if]
theorem RDV_at (p a4) (h : Fin 12) (j : Fin 8192) (d : Fin 64) : RDV p a4 (ix3 h j d) = ∑ r : Fin 8192, a4 (ix3 h r d) * p (ix3 h r j) := by
  pointwise [RDV]
theorem RDQ_at (s a1) (h : Fin 12) (r : Fin 8192) (d : Fin 64) : RDQ s a1 (ix3 h r d) = ∑ j : Fin 8192, s (ix3 h r j) * a1 (ix3 h j d) := by
  pointwise [RDQ]
theorem RDK_at (s q) (h : Fin 12) (j : Fin 8192) (d : Fin 64) : RDK s q (ix3 h j d) = ∑ r : Fin 8192, s (ix3 h r j) * q (ix3 h r d) := by
  pointwise [RDK]
theorem RDC_at (s) (h : Fin 12) (j : Fin 8192) : RDC s (ix3 h 0 j) = ∑ r : Fin 8192, -s (ix3 h r j) := by
  pointwise [RDC]
  rw [Fin.sum_univ_one]
theorem RCQ_at (s) (h : Fin 12) (r : Fin 8192) : RCQ s (ix3 h r 0) = ∑ j : Fin 8192, s (ix3 h r j) := by
  pointwise [RCQ]
  rw [Fin.sum_univ_one]

/-- The attention's output. -/
def O (e : TB) (a2 : TA) : TA := Host.dotGeneral dot_S12x8192x8192_S12x8192x64_S12x8192x64_2_1_1_2_0_0 none (PR e) a2
theorem O_at (e a2) (h : Fin 12) (r : Fin 8192) (d : Fin 64) : O e a2 (ix3 h r d) = ∑ j : Fin 8192, PR e (ix3 h r j) * a2 (ix3 h j d) := by
  pointwise [O]

/-- The logarithms of the row sums, above the row maxima, less the queries' decay. -/
def LSE (e : TB) (M c : TC) : FVec Ideal S12x8192x1 .f32 :=
  subf (addf (broadcastInDim S12x8192x1 ![0, 1] bcast_S12x8192_S12x8192x1_0_1 M) (Host.log (ZS e))) (broadcastInDim S12x8192x1 ![0, 1] bcast_S12x8192_S12x8192x1_0_1 c)
theorem LSE_at (e M c) (h : Fin 12) (r : Fin 8192) : LSE e M c (ix3 h r 0) = M (ix2 h r) + Ideal.log (∑ j : Fin 8192, e (ix3 h r j)) - c (ix2 h r) := by
  pointwise [LSE, ZS]

/-- The keys' decay as the kernel reads it. -/
def CK (c : TC) : FVec Ideal S12x1x8192 .f32 := broadcastInDim S12x1x8192 ![0, 2] bcast_S12x8192_S12x1x8192_0_2 c
theorem CK_at (c) (h : Fin 12) (j : Fin 8192) : CK c (ix3 h 0 j) = c (ix2 h j) := by
  pointwise [CK]

/-- The row maxima of logits, minus infinity or real and one real, are real. -/
theorem MX_real (l : TB) (hl : ∀ i, l i = ⊥ ∨ ∃ r : ℝ, l i = (r : EReal)) (h : Fin 12) (r : Fin 8192) (h0 : ∃ x : ℝ, l (ix3 h r 0) = (x : EReal)) :
    ∃ x : ℝ, MX l (ix2 h r) = (x : EReal) := by
  have e := Host.reduce_eq_fold_single (FloatOps.maximumf (F := Ideal) (φ := .f32)) l (constant S_ .f32 0xFF800000#32) reducesTo_S12x8192x8192_S12x8192_d2 (by decide) h_S_ (ix2 h r)
  have e0 : (constant (F := Ideal) S_ .f32 0xFF800000#32) (Shape.Idx.first h_S_) = ⊥ := Reals.neg_inf
  rw [e0] at e
  have e1 : (by decide : S12x8192x8192.Reduces [2] S12x8192).lift (ix2 h r) (0 : Fin 8192) = ix3 h r 0 := by
    funext a
    fin_cases a <;> rfl
  obtain ⟨x, hx⟩ := Softmax.max_real (n := 8192) (fun k => l ((by decide : S12x8192x8192.Reduces [2] S12x8192).lift (ix2 h r) k)) (fun j => hl _) ⟨0, by rw [e1]; exact h0⟩
  exact ⟨x, e.trans hx⟩

/-- What the kernel forms of a query row and a key, of the saved arrays. -/
def PK (q a1 : TA) (ck : FVec Ideal S12x1x8192 .f32) (lse : FVec Ideal S12x8192x1 .f32) (h : Fin 12) (r j : Fin 8192) : EReal :=
  Ideal.exp ((if j.val ≤ r.val then ∑ x : Fin 64, q (ix3 h r x) * a1 (ix3 h j x) - ck (ix3 h 0 j) else ⊥) - lse (ix3 h r 0))

/-- The kernel's cotangent of a logit. -/
def DK (q a1 a2 a4 o : TA) (ck : FVec Ideal S12x1x8192 .f32) (lse : FVec Ideal S12x8192x1 .f32) (h : Fin 12) (r j : Fin 8192) : EReal :=
  PK q a1 ck lse h r j * (∑ x : Fin 64, a4 (ix3 h r x) * a2 (ix3 h j x) - ∑ x : Fin 64, a4 (ix3 h r x) * o (ix3 h r x))

/-- On finite arrays the kernel's probabilities and cotangents of the logits are the reference's, are real, and vanish past the diagonal. -/
theorem same (a0 a1 a2 : TA) (a3 : TC) (a4 : TA)
    (h0 : ∀ i, ∃ r : ℝ, a0 i = (r : EReal)) (h1 : ∀ i, ∃ r : ℝ, a1 i = (r : EReal)) (h2 : ∀ i, ∃ r : ℝ, a2 i = (r : EReal)) (h3 : ∀ i, ∃ r : ℝ, a3 i = (r : EReal))
    (h4 : ∀ i, ∃ r : ℝ, a4 i = (r : EReal)) (h : Fin 12) (r j : Fin 8192) :
    PK (QS a0) a1 (CK a3) (LSE (E a0 a1 a3) (MX (L (QS a0) a1 a3)) a3) h r j = PR (E a0 a1 a3) (ix3 h r j)
    ∧ DK (QS a0) a1 a2 a4 (O (E a0 a1 a3) a2) (CK a3) (LSE (E a0 a1 a3) (MX (L (QS a0) a1 a3)) a3) h r j = DS (E a0 a1 a3) (DP a2 a4) (ix3 h r j)
    ∧ (∃ x : ℝ, DS (E a0 a1 a3) (DP a2 a4) (ix3 h r j) = (x : EReal))
    ∧ (r.val < j.val → PR (E a0 a1 a3) (ix3 h r j) = 0 ∧ DS (E a0 a1 a3) (DP a2 a4) (ix3 h r j) = 0) := by
  have hq : ∀ i, ∃ x : ℝ, QS a0 i = (x : EReal) := fun i => by
    obtain ⟨x, hx⟩ := h0 i
    idx_vars i
    exact ⟨x * (1 / 8), by rw [QS_at, hx, Reals.eighth, ← EReal.coe_mul]⟩
  choose q hq using hq
  choose k hk using h1
  choose c hc using h3
  choose v hv using h2
  choose g hg using h4
  have hreal : ∀ (h : Fin 12) (r j : Fin 8192), j.val ≤ r.val → L (QS a0) a1 a3 (ix3 h r j) = ((∑ x, q (ix3 h r x) * k (ix3 h j x) + c (ix2 h r) - c (ix2 h j) : ℝ) : EReal) := fun h r j hj => by
    rw [L_at, if_pos hj]
    simp only [hq, hk, hc, ← EReal.coe_mul, ← Reals.coe_sum, ← EReal.coe_add, ← EReal.coe_sub]
  have hl : ∀ i, L (QS a0) a1 a3 i = ⊥ ∨ ∃ x : ℝ, L (QS a0) a1 a3 i = (x : EReal) := fun i => by
    idx_vars i
    by_cases hj : i2.val ≤ i1.val
    · exact .inr ⟨_, hreal i0 i1 i2 hj⟩
    · rw [L_at, if_neg hj]; exact .inl rfl
  have hz0 : ∃ x : ℝ, L (QS a0) a1 a3 (ix3 h r 0) = (x : EReal) := ⟨_, hreal h r 0 (Nat.zero_le _)⟩
  obtain ⟨M, hM⟩ := MX_real _ hl h r hz0
  obtain ⟨e, he, hz⟩ := Softmax.row (fun j => L (QS a0) a1 a3 (ix3 h r j)) (fun j => hl _) ⟨0, hz0⟩ M
  have hE : ∀ j, E a0 a1 a3 (ix3 h r j) = (e j : EReal) := fun j => by
    rw [E, EX_at, CL_eq, hM]; exact he j
  have hZ : ∑ j : Fin 8192, E a0 a1 a3 (ix3 h r j) = ((∑ j, e j : ℝ) : EReal) := by
    simp only [hE, ← Reals.coe_sum]
  have hs : ∀ j : Fin 8192, (if j.val ≤ r.val then ∑ x : Fin 64, QS a0 (ix3 h r x) * a1 (ix3 h j x) - CK a3 (ix3 h 0 j) else ⊥) - LSE (E a0 a1 a3) (MX (L (QS a0) a1 a3)) a3 (ix3 h r 0)
      = L (QS a0) a1 a3 (ix3 h r j) - ((M : EReal) + Ideal.log ((∑ j, e j : ℝ) : EReal)) := fun j => by
    rw [LSE_at, hZ, hM, Ideal.log_coe, if_neg (not_le.mpr hz)]
    by_cases hj : j.val ≤ r.val
    · rw [if_pos hj, hreal h r j hj, CK_at]
      simp only [hq, hk, hc, ← EReal.coe_mul, ← Reals.coe_sum, ← EReal.coe_add, ← EReal.coe_sub]
      generalize ∑ x : Fin 64, q (ix3 h r x) * k (ix3 h j x) = A
      generalize Real.log _ = B
      refine congrArg Real.toEReal ?_
      ring
    · rw [if_neg hj, L_at, if_neg hj, EReal.bot_sub, EReal.bot_sub]
  have hP : ∀ j, PK (QS a0) a1 (CK a3) (LSE (E a0 a1 a3) (MX (L (QS a0) a1 a3)) a3) h r j = Ideal.div (e j) ((∑ j, e j : ℝ) : EReal) := fun j => by
    rw [PK, hs, Softmax.prob _ (hl _) _ _ hz]
    exact congrArg (Ideal.div · _) (he j)
  have e1 : ∀ x, O (E a0 a1 a3) a2 (ix3 h r x) = ∑ k, Ideal.div (e k) ((∑ j, e j : ℝ) : EReal) * (v (ix3 h k x) : EReal) := fun x => by
    rw [O_at]
    exact Finset.sum_congr rfl fun k _ => by rw [PR_at, hE, hZ, hv]
  have hp : PR (E a0 a1 a3) (ix3 h r j) = Ideal.div (e j) ((∑ j, e j : ℝ) : EReal) := by rw [PR_at, hE, hZ]
  have hout : r.val < j.val → Ideal.div (e j : EReal) ((∑ j, e j : ℝ) : EReal) = 0 := fun hj => by
    have hb : L (QS a0) a1 a3 (ix3 h r j) = ⊥ := by rw [L_at, if_neg (not_le.mpr hj)]
    have h0 : (e j : EReal) = 0 := by rw [← he j]; show Ideal.exp (L (QS a0) a1 a3 (ix3 h r j) - M) = 0; rw [hb, EReal.bot_sub, Ideal.exp_bot]
    rw [h0, ← EReal.coe_zero, Reals.div_coe _ hz.ne', zero_div]
  have hd : DK (QS a0) a1 a2 a4 (O (E a0 a1 a3) a2) (CK a3) (LSE (E a0 a1 a3) (MX (L (QS a0) a1 a3)) a3) h r j = DS (E a0 a1 a3) (DP a2 a4) (ix3 h r j) := by
    rw [DK, hP, DS_at]
    by_cases hj : j.val ≤ r.val
    · rw [if_pos hj]
      simp only [e1, DP_at, hE, ← Reals.coe_sum, hv, hg]
      exact (Softmax.grad e _ hz.ne' (fun k x => v (ix3 h k x)) (fun x => g (ix3 h r x)) j).symm
    · rw [if_neg hj, hout (not_le.mp hj), zero_mul]
  refine ⟨(hP j).trans hp.symm, hd, ?_, fun hj => ⟨hp.trans (hout hj), by rw [DS_at, if_neg (not_le.mpr hj)]⟩⟩
  rw [← hd, DK, hP]
  simp only [e1, hv, hg, Reals.div_coe _ hz.ne', ← EReal.coe_mul, ← Reals.coe_sum, ← EReal.coe_sub]
  exact ⟨_, rfl⟩

end Cert.Kernel3Ideal.Fox

end
-- ==== Proof.FoxRead.lean ====
/- What the forgetting attention's backward kernel reads: its operands at the launch, and the block of each a point holds. -/
module

public import proofs.«01_k».proof.Proof.FoxFrame
public import proofs.«01_k».proof.Proof.FoxTerms

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Fox

open Cert.Kernel3Ideal Cert.Kernel3Ideal.Gen

section
variable (m : (ℓ : Loc nD τ sig) → Buf (Elt Ideal) ℓ) (c : Dev nD)

/-- The arguments. -/
abbrev g0 : TA := m ((c : Thread nD τ).loc main_arg0)
abbrev g1 : TA := m ((c : Thread nD τ).loc main_arg1)
abbrev g2 : TA := m ((c : Thread nD τ).loc main_arg2)
abbrev g3 : TC := m ((c : Thread nD τ).loc main_arg3)
abbrev g4 : TA := m ((c : Thread nD τ).loc main_arg4)

/-- The queries the kernel reads. -/
theorem V_q : V m c main_v55 = QS (g0 m c) := by
  entry_read
  rfl

/-- The keys the kernel reads. -/
theorem V_k : V m c main_v56 = g1 m c := by
  entry_read
  rfl

/-- The keys' decay the kernel reads. -/
theorem V_ck : V m c main_v57 = CK (g3 m c) := by
  entry_read
  rfl

/-- The saved row sums the kernel reads. -/
theorem V_lse : V m c main_v27 = LSE (E (g0 m c) (g1 m c) (g3 m c)) (MX (L (QS (g0 m c)) (g1 m c) (g3 m c))) (g3 m c) := by
  rw [E, CL_eq]
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  rfl

/-- The saved output the kernel reads. -/
theorem V_o : V m c main_v54 = O (E (g0 m c) (g1 m c) (g3 m c)) (g2 m c) := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  rfl
end

/-- The block of queries of a point. -/
def bi (n : ℕ) : ℕ := if n % 9 < 8 - n % 36 / 9 then n % 36 / 9 + n % 9 else n % 9 - 1
/-- The block of keys of a point. -/
def bj (n : ℕ) : ℕ := if n % 9 < 8 - n % 36 / 9 then n % 36 / 9 else 7 - n % 36 / 9

theorem bj_le (n : ℕ) : bj n ≤ bi n ∧ bi n < 8 := by
  unfold bi bj
  split <;> omega

/-- Every window's block index at every grid point. -/
theorem idx : ∀ t : Fin cfg0.N, win0_0.index t = ![t.val / 36, bi t.val, 0]
    ∧ win0_1.index t = ![t.val / 36, bj t.val, 0]
    ∧ win0_2.index t = ![t.val / 36, bj t.val, 0]
    ∧ win0_3.index t = ![t.val / 36, 0, bj t.val]
    ∧ win0_4.index t = ![t.val / 36, bi t.val, 0]
    ∧ win0_5.index t = ![t.val / 36, bi t.val, 0]
    ∧ win0_6.index t = ![t.val / 36, bi t.val, 0]
    ∧ win0_7.index t = ![t.val / 36, 0, 0]
    ∧ win0_8.index t = ![t.val / 36, bj t.val, 0]
    ∧ win0_9.index t = ![t.val / 36, bj t.val, 0]
    ∧ win0_10.index t = ![t.val / 36, 0, bj t.val]
    ∧ win0_11.index t = ![t.val / 36, 0, 0] :=
  (by decide +kernel : ∀ t : Fin grid0.N, _)

/-- The rows of queries a point's stores cover. -/
theorem off1 : ∀ t : Fin cfg0.N, k0_off1 (grid0.coords t) = ![0, 1024 * bi t.val, 0] :=
  (by decide +kernel : ∀ t : Fin grid0.N, k0_off1 (grid0.coords t) = ![0, 1024 * bi t.val, 0])
theorem off2 : ∀ t : Fin cfg0.N, k0_off2 (grid0.coords t) = ![0, 1024 * bi t.val, 0] :=
  (by decide +kernel : ∀ t : Fin grid0.N, k0_off2 (grid0.coords t) = ![0, 1024 * bi t.val, 0])
theorem off3 : ∀ t : Fin cfg0.N, k0_off3 (grid0.coords t) = ![0, 1024 * bi t.val, 0] :=
  (by decide +kernel : ∀ t : Fin grid0.N, k0_off3 (grid0.coords t) = ![0, 1024 * bi t.val, 0])
theorem off4 : ∀ t : Fin cfg0.N, k0_off4 (grid0.coords t) = ![0, 1024 * bi t.val, 0] :=
  (by decide +kernel : ∀ t : Fin grid0.N, k0_off4 (grid0.coords t) = ![0, 1024 * bi t.val, 0])

/-- Which points start a column, and which end one. -/
theorem conds : ∀ t : Fin cfg0.N, (k0_cond4 (grid0.coords t) = 1#1 ↔ bi t.val = bj t.val) ∧ (k0_cond3 (grid0.coords t) = 1#1 ↔ bj t.val < bi t.val)
    ∧ (k0_cond5 (grid0.coords t) = 1#1 ↔ bi t.val = 7) :=
  (by decide +kernel : ∀ t : Fin grid0.N, (k0_cond4 (grid0.coords t) = 1#1 ↔ bi t.val = bj t.val) ∧ (k0_cond3 (grid0.coords t) = 1#1 ↔ bj t.val < bi t.val)
    ∧ (k0_cond5 (grid0.coords t) = 1#1 ↔ bi t.val = 7))

section
variable (c : Dev nD) (W : (b : Ref sig .tc) → Buf (Elt Ideal) ((c : Thread nD τ).loc b)) (t : Fin cfg0.N) (h : Fin 12) (hh : h.val = t.val / 36)
include hh

/-- The rows and keys a block holds, over any array. -/
theorem cell0 (i : Fin 1024) (r : Fin 8192) (hr : r.val = 1024 * bi t.val + i.val) (x : Fin 64) :
    ((cfg0.win 0).blk t).view.read (Elt Ideal) (W (Pipeline.arrRef spec0 0)) (ix3 0 i x) = W main_v55 (ix3 h r x) := by
  generalize W main_v55 = X
  show X (((cfg0.win 0).blk t).view.emb (ix3 0 i x)) = X (ix3 h r x)
  blk_point [idx t]

theorem cell1 (i : Fin 1024) (r : Fin 8192) (hr : r.val = 1024 * bj t.val + i.val) (x : Fin 64) :
    ((cfg0.win 1).blk t).view.read (Elt Ideal) (W (Pipeline.arrRef spec0 1)) (ix3 0 i x) = W main_v56 (ix3 h r x) := by
  generalize W main_v56 = X
  show X (((cfg0.win 1).blk t).view.emb (ix3 0 i x)) = X (ix3 h r x)
  blk_point [idx t]

theorem cell2 (i : Fin 1024) (r : Fin 8192) (hr : r.val = 1024 * bj t.val + i.val) (x : Fin 64) :
    ((cfg0.win 2).blk t).view.read (Elt Ideal) (W (Pipeline.arrRef spec0 2)) (ix3 0 i x) = W main_arg2 (ix3 h r x) := by
  generalize W main_arg2 = X
  show X (((cfg0.win 2).blk t).view.emb (ix3 0 i x)) = X (ix3 h r x)
  blk_point [idx t]

theorem cell3 (i : Fin 1024) (r : Fin 8192) (hr : r.val = 1024 * bj t.val + i.val) :
    ((cfg0.win 3).blk t).view.read (Elt Ideal) (W (Pipeline.arrRef spec0 3)) (ix3 0 0 i) = W main_v57 (ix3 h 0 r) := by
  generalize W main_v57 = X
  show X (((cfg0.win 3).blk t).view.emb (ix3 0 0 i)) = X (ix3 h 0 r)
  blk_point [idx t]

theorem cell4 (i : Fin 1024) (r : Fin 8192) (hr : r.val = 1024 * bi t.val + i.val) (x : Fin 64) :
    ((cfg0.win 4).blk t).view.read (Elt Ideal) (W (Pipeline.arrRef spec0 4)) (ix3 0 i x) = W main_v54 (ix3 h r x) := by
  generalize W main_v54 = X
  show X (((cfg0.win 4).blk t).view.emb (ix3 0 i x)) = X (ix3 h r x)
  blk_point [idx t]

theorem cell5 (i : Fin 1024) (r : Fin 8192) (hr : r.val = 1024 * bi t.val + i.val) :
    ((cfg0.win 5).blk t).view.read (Elt Ideal) (W (Pipeline.arrRef spec0 5)) (ix3 0 i 0) = W main_v27 (ix3 h r 0) := by
  generalize W main_v27 = X
  show X (((cfg0.win 5).blk t).view.emb (ix3 0 i 0)) = X (ix3 h r 0)
  blk_point [idx t]

theorem cell6 (i : Fin 1024) (r : Fin 8192) (hr : r.val = 1024 * bi t.val + i.val) (x : Fin 64) :
    ((cfg0.win 6).blk t).view.read (Elt Ideal) (W (Pipeline.arrRef spec0 6)) (ix3 0 i x) = W main_arg4 (ix3 h r x) := by
  generalize W main_arg4 = X
  show X (((cfg0.win 6).blk t).view.emb (ix3 0 i x)) = X (ix3 h r x)
  blk_point [idx t]
end

end Cert.Kernel3Ideal.Fox

end
-- ==== Proof.FoxStep.lean ====
/- What a point of the forgetting attention's backward kernel adds to each running sum, entry by entry. -/
module

public import proofs.«01_k».proof.Proof.FoxRead

@[expose] public section

set_option maxRecDepth 16384

noncomputable section

open Idealize.ShloMosaic Idealize.ShloMosaic.TcCoe Idealize.SL.Sem
open scoped BigOperators

namespace Cert.Kernel3Ideal.Fox

/-- A row inside the band just put reads the payload. -/
theorem put_hit {α : Type} {N T D o : ℕ} (X : (⟨3, ![1, N, D]⟩ : Shape).Idx → α) {off : Fin 3 → ℕ} (ho : off = ![0, o, 0])
    (w : ((a : Fin 3) → Fin ((![1, T, D] : Fin 3 → ℕ) a)) → α) (r : Fin N) (d : Fin D) (i : Fin T) (hr : r.val = o + i.val) :
    VecWindow.put (s := ⟨3, ![1, N, D]⟩) X off ![1, T, D] w (ix3 0 r d) = w (ix3 0 i d) := by
  subst ho
  have hi := i.isLt
  have hd := d.isLt
  have hm : ∀ a : Fin 3, (![0, o, 0] : Fin 3 → ℕ) a ≤ ((ix3 0 r d : (⟨3, ![1, N, D]⟩ : Shape).Idx) a).val
      ∧ ((ix3 0 r d : (⟨3, ![1, N, D]⟩ : Shape).Idx) a).val < (![0, o, 0] : Fin 3 → ℕ) a + (![1, T, D] : Fin 3 → ℕ) a := fun a => by
    fin_cases a
    · exact ⟨Nat.le_refl _, by show 0 < 0 + 1; omega⟩
    · show o ≤ r.val ∧ r.val < o + T
      omega
    · show 0 ≤ d.val ∧ d.val < 0 + D
      omega
  refine (dif_pos hm).trans (congrArg w ?_)
  funext a
  refine Fin.ext ?_
  fin_cases a
  · rfl
  · show r.val - o = i.val
    omega
  · show d.val - 0 = d.val
    omega

/-- A row outside the band just put reads what was there. -/
theorem put_miss {α : Type} {N T D o : ℕ} (X : (⟨3, ![1, N, D]⟩ : Shape).Idx → α) {off : Fin 3 → ℕ} (ho : off = ![0, o, 0])
    (w : ((a : Fin 3) → Fin ((![1, T, D] : Fin 3 → ℕ) a)) → α) (r : Fin N) (d : Fin D) (hr : r.val < o ∨ o + T ≤ r.val) :
    VecWindow.put (s := ⟨3, ![1, N, D]⟩) X off ![1, T, D] w (ix3 0 r d) = X (ix3 0 r d) := by
  subst ho
  refine dif_neg fun h => ?_
  have h1 : o ≤ r.val ∧ r.val < o + T := h 1
  omega

/-- A band of rows, at an index. -/
theorem window_at {α : Type} {N T D o : ℕ} (X : (⟨3, ![1, N, D]⟩ : Shape).Idx → α) {off : Fin 3 → ℕ} (ho : off = ![0, o, 0])
    (inb : ∀ a : Fin 3, off a + (![1, T, D] : Fin 3 → ℕ) a ≤ (![1, N, D] : Fin 3 → ℕ) a) (r : Fin N) (d : Fin D) (i : Fin T) (hr : r.val = o + i.val) :
    VecWindow.window (s := ⟨3, ![1, N, D]⟩) X off ![1, T, D] inb (ix3 0 i d) = X (ix3 0 r d) := by
  subst ho
  refine congrArg X ?_
  funext a
  refine Fin.ext ?_
  fin_cases a
  · rfl
  · show o + 1 * i.val = r.val
    omega
  · show 0 + 1 * d.val = d.val
    omega

open Cert.Kernel3Ideal Cert.Kernel3Ideal.Gen

section
variable (q k : Vec Ideal S1x1024x64 .bf16) (d v o : Vec Ideal S1x1024x64 .f32) (c : Vec Ideal S1x1x1024 .f32) (l : Vec Ideal S1x1024x1 .f32)

theorem pay15_at (i j : Fin 1024) : k0_pay15 (F := Ideal) q k c l (ix2 i j) = Ideal.exp (∑ x : Fin 64, q (ix3 0 i x) * k (ix3 0 j x) - c (ix3 0 0 j) - l (ix3 0 i 0)) := by
  pointwise [k0_pay15, k0_pay11, k0_pay12]
theorem pay28_at (i j : Fin 1024) : k0_pay28 (F := Ideal) q k c l (ix2 i j) = Ideal.exp ((if j.val ≤ i.val then ∑ x : Fin 64, q (ix3 0 i x) * k (ix3 0 j x) - c (ix3 0 0 j) else ⊥) - l (ix3 0 i 0)) := by
  pointwise [k0_pay28, k0_pay24, k0_pay25]
  have hi := i.isLt
  have hj := j.isLt
  rw [Reals.neg_inf, sle_nat _ _ (by omega) (by omega), select_if]
theorem pay16_at (i j : Fin 1024) : k0_pay16 (F := Ideal) q k d c l v o (ix2 i j) = k0_pay15 (F := Ideal) q k c l (ix2 i j) * (∑ x : Fin 64, d (ix3 0 i x) * v (ix3 0 j x) - ∑ x : Fin 64, d (ix3 0 i x) * o (ix3 0 i x)) := by
  pointwise [k0_pay16, k0_pay13, k0_pay14]
theorem pay29_at (i j : Fin 1024) : k0_pay29 (F := Ideal) q k d c l v o (ix2 i j) = k0_pay28 (F := Ideal) q k c l (ix2 i j) * (∑ x : Fin 64, d (ix3 0 i x) * v (ix3 0 j x) - ∑ x : Fin 64, d (ix3 0 i x) * o (ix3 0 i x)) := by
  pointwise [k0_pay29, k0_pay26, k0_pay27]
end

theorem pay1_at (j) : k0_pay1 (F := Ideal) j = 0 := by
  pointwise [k0_pay1]
theorem pay2_at (j) : k0_pay2 (F := Ideal) j = 0 := by
  pointwise [k0_pay2]
theorem pay3_at (j) : k0_pay3 (F := Ideal) j = 0 := by
  pointwise [k0_pay3]
theorem pay4_at (j) : k0_pay4 (F := Ideal) j = 0 := by
  pointwise [k0_pay4]
theorem pay5_at (j) : k0_pay5 (F := Ideal) j = 0 := by
  pointwise [k0_pay5]
theorem pay8_at (x) (j : Fin 1024) (d : Fin 64) : k0_pay8 (F := Ideal) x (ix3 0 j d) = x (ix2 j d) := by
  pointwise [k0_pay8]
theorem pay9_at (x) (j : Fin 1024) (d : Fin 64) : k0_pay9 (F := Ideal) x (ix3 0 j d) = x (ix2 j d) := by
  pointwise [k0_pay9]
theorem pay10_at (x) (j : Fin 1024) : k0_pay10 (F := Ideal) x (ix3 0 0 j) = x (ix2 0 j) := by
  pointwise [k0_pay10]
theorem pay20_at (q s x) (j : Fin 1024) (d : Fin 64) : k0_pay20 (F := Ideal) (k0_pay11 q) s x (ix2 j d) = x (ix2 j d) + ∑ i : Fin 1024, s (ix2 i j) * q (ix3 0 i d) := by
  pointwise [k0_pay20, k0_pay11]
theorem pay32_at (q s x) (j : Fin 1024) (d : Fin 64) : k0_pay32 (F := Ideal) (k0_pay24 q) s x (ix2 j d) = x (ix2 j d) + ∑ i : Fin 1024, s (ix2 i j) * q (ix3 0 i d) := by
  pointwise [k0_pay32, k0_pay24]
theorem pay19_at (q k d c l x) (j : Fin 1024) (e : Fin 64) : k0_pay19 (F := Ideal) x (k0_pay18 q k d c l) (ix2 j e) = x (ix2 j e) + ∑ i : Fin 1024, k0_pay15 (F := Ideal) q k c l (ix2 i j) * d (ix3 0 i e) := by
  pointwise [k0_pay19, k0_pay18, k0_pay14, k0_pay13]
theorem pay31_at (p d x) (j : Fin 1024) (e : Fin 64) : k0_pay31 (F := Ideal) (k0_pay27 d) p x (ix2 j e) = x (ix2 j e) + ∑ i : Fin 1024, p (ix2 i j) * d (ix3 0 i e) := by
  pointwise [k0_pay31, k0_pay27, k0_pay26]
theorem pay22_at (s x) (j : Fin 1024) : k0_pay22 (F := Ideal) s x (ix2 0 j) = x (ix2 0 j) - ∑ i : Fin 1024, s (ix2 i j) := by
  pointwise [k0_pay22]
theorem pay34_at (s x) (j : Fin 1024) : k0_pay34 (F := Ideal) s x (ix2 0 j) = x (ix2 0 j) - ∑ i : Fin 1024, s (ix2 i j) := by
  pointwise [k0_pay34]
theorem pay21_at (k s x) (i : Fin 1024) (d : Fin 64) : k0_pay21 (F := Ideal) (k0_pay12 k) s x (ix3 0 i d) = x (ix3 0 i d) + ∑ j : Fin 1024, s (ix2 i j) * k (ix3 0 j d) := by
  pointwise [k0_pay21, k0_pay12]
theorem pay33_at (k s x) (i : Fin 1024) (d : Fin 64) : k0_pay33 (F := Ideal) (k0_pay25 k) s x (ix3 0 i d) = x (ix3 0 i d) + ∑ j : Fin 1024, s (ix2 i j) * k (ix3 0 j d) := by
  pointwise [k0_pay33, k0_pay25]
theorem pay6_at (s x) (i : Fin 1024) : k0_pay6 (F := Ideal) (k0_pay23 s x) (ix3 0 i 0) = x (ix3 0 i 0) + ∑ j : Fin 1024, s (ix2 i j) := by
  pointwise [k0_pay6, k0_pay23]
theorem pay7_at (s x) (i : Fin 1024) : k0_pay7 (F := Ideal) s x (ix3 0 i 0) = x (ix3 0 i 0) + ∑ j : Fin 1024, s (ix2 i j) := by
  pointwise [k0_pay7]

/-- The probabilities of a point. -/
def pB (i : grid0.Coords) (x : In Ideal) : FVec Ideal S1024x1024 .f32 :=
  if k0_cond4 i = 1#1 then k0_pay28 x.q x.k x.c x.l else k0_pay15 x.q x.k x.c x.l

/-- The cotangents of the logits of a point. -/
def dB (i : grid0.Coords) (x : In Ideal) : FVec Ideal S1024x1024 .f32 :=
  if k0_cond4 i = 1#1 then k0_pay29 x.q x.k x.d x.c x.l x.v x.o else k0_pay16 x.q x.k x.d x.c x.l x.v x.o

/-- What a point's block contributes. -/
def blockTerms (i : grid0.Coords) : Terms Ideal := if k0_cond4 i = 1#1 then diagTerms else belowTerms

/-- The sums a point's block is added to. -/
def base (i : grid0.Coords) (s : St Ideal) : St Ideal := if k0_cond4 i = 1#1 then reset (if k0_cond1 i = 1#1 then start s else s) else s

section
variable (i : grid0.Coords) (x : In Ideal) (s : St Ideal)
attribute [local irreducible] k0_cond1 k0_cond3 k0_cond4 k0_cond5 k0_off1 k0_off2 k0_off3 k0_off4

theorem terms_dq (a : Fin 1024) (d : Fin 64) (w) : (blockTerms i).dq x w (ix3 0 a d) = w (ix3 0 a d) + ∑ b : Fin 1024, dB i x (ix2 a b) * x.k (ix3 0 b d) := by
  unfold blockTerms dB
  by_cases h4 : k0_cond4 i = 1#1
  · rw [if_pos h4, if_pos h4]; exact pay33_at _ _ _ a d
  · rw [if_neg h4, if_neg h4]; exact pay21_at _ _ _ a d
theorem terms_cq (a : Fin 1024) (w) : (blockTerms i).cq x w (ix3 0 a 0) = w (ix3 0 a 0) + ∑ b : Fin 1024, dB i x (ix2 a b) := by
  unfold blockTerms dB
  by_cases h4 : k0_cond4 i = 1#1
  · rw [if_pos h4, if_pos h4]; exact pay7_at _ _ a
  · rw [if_neg h4, if_neg h4]; exact pay6_at _ _ a
theorem terms_dk (j : Fin 1024) (d : Fin 64) (w) : (blockTerms i).dk x w (ix2 j d) = w (ix2 j d) + ∑ a : Fin 1024, dB i x (ix2 a j) * x.q (ix3 0 a d) := by
  unfold blockTerms dB
  by_cases h4 : k0_cond4 i = 1#1
  · rw [if_pos h4, if_pos h4]; exact pay32_at _ _ _ j d
  · rw [if_neg h4, if_neg h4]; exact pay20_at _ _ _ j d
theorem terms_dv (j : Fin 1024) (d : Fin 64) (w) : (blockTerms i).dv x w (ix2 j d) = w (ix2 j d) + ∑ a : Fin 1024, pB i x (ix2 a j) * x.d (ix3 0 a d) := by
  unfold blockTerms pB
  by_cases h4 : k0_cond4 i = 1#1
  · rw [if_pos h4, if_pos h4]; exact pay31_at _ _ _ j d
  · rw [if_neg h4, if_neg h4]; exact pay19_at _ _ _ _ _ _ j d
theorem terms_dc (j : Fin 1024) (w) : (blockTerms i).dc x w (ix2 0 j) = w (ix2 0 j) - ∑ a : Fin 1024, dB i x (ix2 a j) := by
  unfold blockTerms dB
  by_cases h4 : k0_cond4 i = 1#1
  · rw [if_pos h4, if_pos h4]; exact pay34_at _ _ j
  · rw [if_neg h4, if_neg h4]; exact pay22_at _ _ j

/-- Before a block the column's sums are zero on the diagonal, -/
theorem base_col : (∀ j, (base i s).dk j = if k0_cond4 i = 1#1 then 0 else s.dk j) ∧ (∀ j, (base i s).dv j = if k0_cond4 i = 1#1 then 0 else s.dv j)
    ∧ ∀ j, (base i s).dc j = if k0_cond4 i = 1#1 then 0 else s.dc j := by
  unfold base
  by_cases h4 : k0_cond4 i = 1#1
  · simp only [if_pos h4]; exact ⟨pay3_at, pay4_at, pay5_at⟩
  · simp only [if_neg h4, implies_true, and_self]

/-- and the head's sums at a head's first point. -/
theorem base_head (hi : Kind5 i) : (∀ j, (base i s).dq j = if k0_cond1 i = 1#1 then 0 else s.dq j)
    ∧ ∀ j, (base i s).cq j = if k0_cond1 i = 1#1 then 0 else s.cq j := by
  unfold base
  by_cases h1 : k0_cond1 i = 1#1
  · rw [if_pos (show k0_cond4 i = 1#1 by rcases hi with h | h | h; exacts [h.2.1, absurd h1 h.1, absurd h1 h.1])]
    simp only [if_pos h1]; exact ⟨pay1_at, pay2_at⟩
  · simp only [if_neg h1]
    by_cases h4 : k0_cond4 i = 1#1
    · rw [if_pos h4]; exact ⟨fun _ => rfl, fun _ => rfl⟩
    · rw [if_neg h4]; exact ⟨fun _ => rfl, fun _ => rfl⟩

/-- A point adds its block: the rows it starts at are those of its kind of block. -/
theorem step_add (hi : Kind5 i) : ∃ (o p : Fin 3 → ℕ) (ho : _) (hp : _), (o = k0_off3 i ∨ o = k0_off1 i) ∧ (p = k0_off4 i ∨ p = k0_off2 i)
    ∧ step i x s = (blockTerms i).add o p ho hp x (base i s) := by
  unfold blockTerms base
  by_cases h4 : k0_cond4 i = 1#1
  · exact ⟨_, _, k0_off3_inb i h4, k0_off4_inb i h4, .inl rfl, .inl rfl, by rw [if_pos h4, if_pos h4]; exact dif_pos h4⟩
  · have h3 : k0_cond3 i = 1#1 := by rcases hi with h | h | h; exacts [absurd h.2.1 h4, absurd h.2.1 h4, h.2.2]
    exact ⟨_, _, k0_off1_inb i h3, k0_off2_inb i h3, .inr rfl, .inr rfl, by rw [if_neg h4, if_neg h4]; exact (dif_neg h4).trans (dif_pos h3)⟩

theorem step_dk (hi : Kind5 i) (j : Fin 1024) (d : Fin 64) :
    (step i x s).dk (ix2 j d) = (if k0_cond4 i = 1#1 then 0 else s.dk (ix2 j d)) + ∑ a : Fin 1024, dB i x (ix2 a j) * x.q (ix3 0 a d) := by
  obtain ⟨_, _, _, _, -, -, e⟩ := step_add i x s hi
  rw [e, ← (base_col i s).1]; exact terms_dk i x j d _

theorem step_dv (hi : Kind5 i) (j : Fin 1024) (d : Fin 64) :
    (step i x s).dv (ix2 j d) = (if k0_cond4 i = 1#1 then 0 else s.dv (ix2 j d)) + ∑ a : Fin 1024, pB i x (ix2 a j) * x.d (ix3 0 a d) := by
  obtain ⟨_, _, _, _, -, -, e⟩ := step_add i x s hi
  rw [e, ← (base_col i s).2.1]; exact terms_dv i x j d _

theorem step_dc (hi : Kind5 i) (j : Fin 1024) :
    (step i x s).dc (ix2 0 j) = (if k0_cond4 i = 1#1 then 0 else s.dc (ix2 0 j)) - ∑ a : Fin 1024, dB i x (ix2 a j) := by
  obtain ⟨_, _, _, _, -, -, e⟩ := step_add i x s hi
  rw [e, ← (base_col i s).2.2]; exact terms_dc i x j _

variable {o : ℕ} (o1 : k0_off1 i = ![0, o, 0]) (o2 : k0_off2 i = ![0, o, 0]) (o3 : k0_off3 i = ![0, o, 0]) (o4 : k0_off4 i = ![0, o, 0])

include o1 o3 in
theorem step_dq_hit (hi : Kind5 i) (r : Fin 8192) (d : Fin 64) (a : Fin 1024) (hr : r.val = o + a.val) :
    (step i x s).dq (ix3 0 r d) = (if k0_cond1 i = 1#1 then 0 else s.dq (ix3 0 r d)) + ∑ b : Fin 1024, dB i x (ix2 a b) * x.k (ix3 0 b d) := by
  obtain ⟨_, _, _, _, h, -, e⟩ := step_add i x s hi
  have h := h.elim (·.trans o3) (·.trans o1)
  rw [e, ← (base_head i s hi).1]
  exact (put_hit _ h _ r d a hr).trans ((terms_dq i x a d _).trans (congrArg (· + _) (window_at _ h _ r d a hr)))

include o1 o3 in
theorem step_dq_miss (hi : Kind5 i) (r : Fin 8192) (d : Fin 64) (hr : r.val < o ∨ o + 1024 ≤ r.val) :
    (step i x s).dq (ix3 0 r d) = if k0_cond1 i = 1#1 then 0 else s.dq (ix3 0 r d) := by
  obtain ⟨_, _, _, _, h, -, e⟩ := step_add i x s hi
  rw [e, ← (base_head i s hi).1]
  exact put_miss _ (h.elim (·.trans o3) (·.trans o1)) _ r d hr

include o2 o4 in
theorem step_cq_hit (hi : Kind5 i) (r : Fin 8192) (a : Fin 1024) (hr : r.val = o + a.val) :
    (step i x s).cq (ix3 0 r 0) = (if k0_cond1 i = 1#1 then 0 else s.cq (ix3 0 r 0)) + ∑ b : Fin 1024, dB i x (ix2 a b) := by
  obtain ⟨_, _, _, _, -, h, e⟩ := step_add i x s hi
  have h := h.elim (·.trans o4) (·.trans o2)
  rw [e, ← (base_head i s hi).2]
  exact (put_hit _ h _ r 0 a hr).trans ((terms_cq i x a _).trans (congrArg (· + _) (window_at _ h _ r 0 a hr)))

include o2 o4 in
theorem step_cq_miss (hi : Kind5 i) (r : Fin 8192) (hr : r.val < o ∨ o + 1024 ≤ r.val) :
    (step i x s).cq (ix3 0 r 0) = if k0_cond1 i = 1#1 then 0 else s.cq (ix3 0 r 0) := by
  obtain ⟨_, _, _, _, -, h, e⟩ := step_add i x s hi
  rw [e, ← (base_head i s hi).2]
  exact put_miss _ (h.elim (·.trans o4) (·.trans o2)) _ r 0 hr
end

end Cert.Kernel3Ideal.Fox

end
-- ==== Proof.FoxValue.lean ====
/- What the forgetting attention's backward kernel leaves, as sums over all rows and keys. -/
module

public import proofs.«01_k».proof.Proof.FoxStep

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Fox

open Cert.Kernel3Ideal Cert.Kernel3Ideal.Gen

/-! ## Sums over the points of a head -/

/-- The row of a natural number. -/
def row (n : ℕ) : Fin 8192 := ⟨n % 8192, Nat.mod_lt _ (by norm_num)⟩

theorem row_val (i : ℕ) (hi : i < 8) (a : Fin 1024) : (row (1024 * i + a.val)).val = 1024 * i + a.val := by
  have ha := a.isLt
  exact Nat.mod_eq_of_lt (by omega)

/-- A row's place in its block. -/
def lane (r : Fin 8192) : Fin 1024 := ⟨r.val % 1024, Nat.mod_lt _ (by norm_num)⟩

theorem lane_val (r : Fin 8192) (b : ℕ) (hb : r.val / 1024 = b) : r.val = 1024 * b + (lane r).val ∧ row (1024 * b + (lane r).val) = r := by
  have e : r.val = 1024 * b + (lane r).val := by
    show r.val = 1024 * b + r.val % 1024
    omega
  exact ⟨e, Fin.ext (by rw [← e]; exact Nat.mod_eq_of_lt r.isLt)⟩

/-- Eight blocks of rows are all the rows. -/
theorem sum8 (f : Fin 8192 → EReal) : ∑ i ∈ Finset.range 8, ∑ a : Fin 1024, f (row (1024 * i + a.val)) = ∑ r, f r := by
  rw [Finset.sum_range]
  refine Fin.sum_mul_add_congr fun s k hl => congrArg f (Fin.ext ?_)
  rw [row_val s.val s.isLt k]
  show 1024 * s.val + k.val = s.val * 1024 + k.val
  omega

/-- The point before one that does not start a column is in its column, a block of queries up. -/
theorem prev (n : ℕ) (h : bi n ≠ bj n) : n % 36 ≠ 0 ∧ bi (n - 1) + 1 = bi n ∧ bj (n - 1) = bj n ∧ (n - 1) / 36 = n / 36 := by
  unfold bi bj at *
  split at h <;> rename_i h' <;> simp only [if_pos, if_neg, h', not_false_eq_true] at h ⊢
  · rw [if_pos (by omega), if_pos (by omega)]; omega
  · rw [if_neg (by omega), if_neg (by omega)]; omega

/-- A running sum a column restarts is the column's sum so far. -/
theorem column (X : ℕ → EReal) (T : ℕ → ℕ → ℕ → EReal)
    (h : ∀ n, n < 432 → X n = (if bi n = bj n then 0 else X (n - 1)) + T (n / 36) (bj n) (bi n)) :
    ∀ n, n < 432 → X n = ∑ i ∈ Finset.Ico (bj n) (bi n + 1), T (n / 36) (bj n) i := by
  intro n
  induction n using Nat.strong_induction_on with
  | _ n ih =>
    intro hn
    rw [h n hn]
    by_cases hb : bi n = bj n
    · rw [if_pos hb, hb, zero_add, Finset.sum_Ico_succ_top (Nat.le_refl _), Finset.Ico_self, Finset.sum_empty, zero_add]
    · obtain ⟨h0, h1, h2, h3⟩ := prev n hb
      have hle := (bj_le n).1
      rw [if_neg hb, ih (n - 1) (by omega) (by omega), h1, h2, h3, Finset.sum_Ico_succ_top (by omega)]

/-- At the last block of queries a column's sum is over every block, when the blocks above the diagonal add nothing. -/
theorem column_all (T : ℕ → EReal) (n : ℕ) (hb : bi n = 7) (hz : ∀ i, i < bj n → T i = 0) :
    ∑ i ∈ Finset.Ico (bj n) (bi n + 1), T i = ∑ i ∈ Finset.range 8, T i := by
  rw [hb]
  refine Finset.sum_subset (fun i hi => ?_) (fun i hi hn => hz i ?_)
  · simp only [Finset.mem_Ico, Finset.mem_range] at *; omega
  · simp only [Finset.mem_Ico, Finset.mem_range] at *; omega

theorem bi_mod (n : ℕ) : bi (n % 36) = bi n ∧ bj (n % 36) = bj n := by
  unfold bi bj
  rw [show n % 36 % 36 = n % 36 by omega, show n % 36 % 9 = n % 9 by omega]
  exact ⟨rfl, rfl⟩

/-- A running sum a head restarts is the head's sum so far. -/
theorem head (X : ℕ → EReal) (F : ℕ → ℕ → EReal) (ρ : ℕ)
    (h : ∀ n, n < 432 → X n = (if n % 36 = 0 then 0 else X (n - 1)) + (if ρ = bi n then F (n / 36) (bj n) else 0)) :
    ∀ n, n < 432 → X n = ∑ s ∈ Finset.range (n % 36 + 1), if ρ = bi s then F (n / 36) (bj s) else 0 := by
  intro n
  induction n using Nat.strong_induction_on with
  | _ n ih =>
    intro hn
    rw [h n hn, Finset.sum_range_succ, (bi_mod n).1, (bi_mod n).2]
    by_cases hb : n % 36 = 0
    · rw [if_pos hb, hb, Finset.range_zero, Finset.sum_empty]
    · rw [if_neg hb, ih (n - 1) (by omega) (by omega), show (n - 1) % 36 + 1 = n % 36 by omega, show (n - 1) / 36 = n / 36 by omega]

/-- A head's points at one block of queries meet every block of keys up to it, once. -/
theorem head_all (F : ℕ → EReal) (ρ : ℕ) (hρ : ρ < 8) (hz : ∀ j, ρ < j → j < 8 → F j = 0) :
    (∑ s ∈ Finset.range 36, if ρ = bi s then F (bj s) else 0) = ∑ j ∈ Finset.range 8, F j := by
  rw [← Finset.sum_filter]
  have hi : ∀ ρ : Fin 8, ∀ x ∈ (Finset.range 36).filter (fun s => ρ.val = bi s), ∀ y ∈ (Finset.range 36).filter (fun s => ρ.val = bi s), bj x = bj y → x = y := by
    decide +kernel
  have hm : ∀ ρ : Fin 8, ((Finset.range 36).filter (fun s => ρ.val = bi s)).image bj = Finset.range (ρ.val + 1) := by
    decide +kernel
  rw [← Finset.sum_image (f := F) (g := bj) (fun x hx y hy => hi ⟨ρ, hρ⟩ x hx y hy), hm ⟨ρ, hρ⟩]
  refine Finset.sum_subset (fun i hi => ?_) (fun i hi hn => hz i ?_ ?_)
  · simp only [Finset.mem_range] at *; omega
  · simp only [Finset.mem_range] at *; omega
  · simp only [Finset.mem_range] at *; omega

/-- A sum of reals taken away is a sum of them taken away. -/
theorem neg_sum {ι : Type} (s : Finset ι) (f : ι → EReal) (h : ∀ i, ∃ x : ℝ, f i = (x : EReal)) : -(∑ i ∈ s, f i) = ∑ i ∈ s, -f i := by
  choose g hg using h
  simp only [hg, ← EReal.coe_neg, ← Reals.coe_sum, Finset.sum_neg_distrib]

/-! ## What a point holds -/

attribute [local irreducible] step sts k0_cond1 k0_cond3 k0_cond4 k0_cond5

section
variable (m : (ℓ : Loc nD τ sig) → Buf (Elt Ideal) ℓ) (c : Dev nD)

/-- The reference's probabilities, and its cotangents of the logits. -/
def PM : TB := PR (E (g0 m c) (g1 m c) (g3 m c))
def SM : TB := DS (E (g0 m c) (g1 m c) (g3 m c)) (DP (g2 m c) (g4 m c))

/-- Every argument is an array of reals. -/
def Fin5 : Prop := (∀ i, ∃ r : ℝ, g0 m c i = (r : EReal)) ∧ (∀ i, ∃ r : ℝ, g1 m c i = (r : EReal)) ∧ (∀ i, ∃ r : ℝ, g2 m c i = (r : EReal))
  ∧ (∀ i, ∃ r : ℝ, g3 m c i = (r : EReal)) ∧ (∀ i, ∃ r : ℝ, g4 m c i = (r : EReal))

section
variable (t : Fin cfg0.N) (h : Fin 12) (hh : h.val = t.val / 36)
include hh

theorem inp_q (i : Fin 1024) (r : Fin 8192) (hr : r.val = 1024 * bi t.val + i.val) (x : Fin 64) : (inp m c t).q (ix3 0 i x) = QS (g0 m c) (ix3 h r x) :=
  (cell0 c (V m c) t h hh i r hr x).trans (congrFun (V_q m c) _)
theorem inp_k (i : Fin 1024) (r : Fin 8192) (hr : r.val = 1024 * bj t.val + i.val) (x : Fin 64) : (inp m c t).k (ix3 0 i x) = g1 m c (ix3 h r x) :=
  (cell1 c (V m c) t h hh i r hr x).trans (congrFun (V_k m c) _)
theorem inp_v (i : Fin 1024) (r : Fin 8192) (hr : r.val = 1024 * bj t.val + i.val) (x : Fin 64) : (inp m c t).v (ix3 0 i x) = g2 m c (ix3 h r x) :=
  (cell2 c (V m c) t h hh i r hr x).trans (congrFun (V_main_arg2 m c) _)
theorem inp_c (i : Fin 1024) (r : Fin 8192) (hr : r.val = 1024 * bj t.val + i.val) : (inp m c t).c (ix3 0 0 i) = CK (g3 m c) (ix3 h 0 r) :=
  (cell3 c (V m c) t h hh i r hr).trans (congrFun (V_ck m c) _)
theorem inp_o (i : Fin 1024) (r : Fin 8192) (hr : r.val = 1024 * bi t.val + i.val) (x : Fin 64) : (inp m c t).o (ix3 0 i x) = O (E (g0 m c) (g1 m c) (g3 m c)) (g2 m c) (ix3 h r x) :=
  (cell4 c (V m c) t h hh i r hr x).trans (congrFun (V_o m c) _)
theorem inp_l (i : Fin 1024) (r : Fin 8192) (hr : r.val = 1024 * bi t.val + i.val) :
    (inp m c t).l (ix3 0 i 0) = LSE (E (g0 m c) (g1 m c) (g3 m c)) (MX (L (QS (g0 m c)) (g1 m c) (g3 m c))) (g3 m c) (ix3 h r 0) :=
  (cell5 c (V m c) t h hh i r hr).trans (congrFun (V_lse m c) _)
theorem inp_d (i : Fin 1024) (r : Fin 8192) (hr : r.val = 1024 * bi t.val + i.val) (x : Fin 64) : (inp m c t).d (ix3 0 i x) = g4 m c (ix3 h r x) :=
  (cell6 c (V m c) t h hh i r hr x).trans (congrFun (V_main_arg4 m c) _)

variable (H : Fin5 m c) (i j : Fin 1024) (r r' : Fin 8192) (hr : r.val = 1024 * bi t.val + i.val) (hr' : r'.val = 1024 * bj t.val + j.val)
include H hr hr'

/-- A point's probabilities are the reference's. -/
theorem blk_p : pB (grid0.coords t) (inp m c t) (ix2 i j) = PM m c (ix3 h r r') := by
  have hj := j.isLt
  have hb := (bj_le t.val).1
  refine Eq.trans ?_ (same _ _ _ _ _ H.1 H.2.1 H.2.2.1 H.2.2.2.1 H.2.2.2.2 h r r').1
  unfold pB PK
  by_cases h4 : k0_cond4 (grid0.coords t) = 1#1
  · have e := (conds t).1.mp h4
    rw [if_pos h4, pay28_at, inp_l m c t h hh i r hr, inp_c m c t h hh j r' hr']
    simp only [inp_q m c t h hh i r hr, inp_k m c t h hh j r' hr', show (r'.val ≤ r.val) = (j.val ≤ i.val) from propext (by omega)]
  · have e : bi t.val ≠ bj t.val := fun e => h4 ((conds t).1.mpr e)
    rw [if_neg h4, pay15_at, inp_l m c t h hh i r hr, inp_c m c t h hh j r' hr', if_pos (by omega)]
    simp only [inp_q m c t h hh i r hr, inp_k m c t h hh j r' hr']

/-- A point's cotangents of the logits are the reference's. -/
theorem blk_d : dB (grid0.coords t) (inp m c t) (ix2 i j) = SM m c (ix3 h r r') := by
  refine Eq.trans ?_ (same _ _ _ _ _ H.1 H.2.1 H.2.2.1 H.2.2.2.1 H.2.2.2.2 h r r').2.1
  have hp := (blk_p m c t h hh H i j r r' hr hr').trans (same _ _ _ _ _ H.1 H.2.1 H.2.2.1 H.2.2.2.1 H.2.2.2.2 h r r').1.symm
  unfold pB at hp
  unfold dB DK
  rw [← hp]
  by_cases h4 : k0_cond4 (grid0.coords t) = 1#1
  · rw [if_pos h4, if_pos h4, pay29_at]
    simp only [inp_d m c t h hh i r hr, inp_o m c t h hh i r hr, inp_v m c t h hh j r' hr']
  · rw [if_neg h4, if_neg h4, pay16_at]
    simp only [inp_d m c t h hh i r hr, inp_o m c t h hh i r hr, inp_v m c t h hh j r' hr']
end

/-- Every point's state is a step from the point before, the first point's included. -/
theorem sts_step (t : Fin cfg0.N) : sts m c t.val t.isLt = step (grid0.coords t) (inp m c t) (sts m c (t.val - 1) (Nat.lt_of_le_of_lt (Nat.sub_le _ _) t.isLt)) := by
  by_cases h : t.val % 36 = 0
  · exact sts_first m c t h _
  · exact sts_next m c t fun e => h (by rw [e])

/-- An entry of the state after a point, at every number. -/
def ent (f : St Ideal → EReal) (n : ℕ) : EReal := if h : n < cfg0.N then f (sts m c n h) else 0

theorem ent_at (f : St Ideal → EReal) (t : Fin cfg0.N) : ent m c f t.val = f (sts m c t.val t.isLt) := dif_pos t.isLt

theorem ent_prev (f : St Ideal → EReal) (t : Fin cfg0.N) : ent m c f (t.val - 1) = f (sts m c (t.val - 1) (Nat.lt_of_le_of_lt (Nat.sub_le _ _) t.isLt)) :=
  dif_pos (Nat.lt_of_le_of_lt (Nat.sub_le _ _) t.isLt)

/-- The head of a natural number. -/
def hd (n : ℕ) : Fin 12 := ⟨n % 12, Nat.mod_lt _ (by norm_num)⟩

theorem hd_val (t : Fin cfg0.N) : (hd (t.val / 36)).val = t.val / 36 := by
  have hN : t.val < 432 := lt_of_lt_of_eq t.isLt (show cfg0.N = 432 from N_0)
  exact Nat.mod_eq_of_lt (by omega)

theorem hd_eq (t : Fin cfg0.N) (h : Fin 12) (hh : h.val = t.val / 36) : hd (t.val / 36) = h := Fin.ext ((hd_val t).trans hh.symm)

/-- An entry a column restarts: at the column's last point it is the sum of what every block of queries adds. -/
theorem col_all (f : St Ideal → EReal) (T : Fin 12 → ℕ → ℕ → EReal)
    (hs : ∀ (t : Fin cfg0.N) (s : St Ideal), f (step (grid0.coords t) (inp m c t) s) = (if k0_cond4 (grid0.coords t) = 1#1 then 0 else f s) + T (hd (t.val / 36)) (bj t.val) (bi t.val))
    (t : Fin cfg0.N) (h : Fin 12) (hh : h.val = t.val / 36) (hb : bi t.val = 7) (hz : ∀ i, i < bj t.val → T h (bj t.val) i = 0) :
    f (sts m c t.val t.isLt) = ∑ i ∈ Finset.range 8, T h (bj t.val) i := by
  have hN : t.val < 432 := lt_of_lt_of_eq t.isLt (show cfg0.N = 432 from N_0)
  have hc := column (ent m c f) (fun g => T (hd g))
    (fun n hn => by
      have hn' : n < cfg0.N := lt_of_lt_of_eq hn (show 432 = cfg0.N from N_0.symm)
      rw [ent_prev m c _ ⟨n, hn'⟩, ent_at m c _ ⟨n, hn'⟩, sts_step m c ⟨n, hn'⟩, hs, if_congr (conds ⟨n, hn'⟩).1 rfl rfl])
    t.val hN
  rw [← ent_at m c f t, hc, hd_eq t h hh]
  exact column_all _ t.val hb hz

/-- An entry a head restarts, of one row of queries: at the head's last point it is the sum of what every block of keys adds. -/
theorem head_end (f : St Ideal → EReal) (F : Fin 12 → ℕ → EReal) (ρ : ℕ) (hρ : ρ < 8)
    (hs : ∀ (t : Fin cfg0.N) (s : St Ideal), f (step (grid0.coords t) (inp m c t) s)
      = (if k0_cond1 (grid0.coords t) = 1#1 then 0 else f s) + if ρ = bi t.val then F (hd (t.val / 36)) (bj t.val) else 0)
    (t : Fin cfg0.N) (h : Fin 12) (hh : h.val = t.val / 36) (ht : t.val % 36 = 35) (hz : ∀ j, ρ < j → j < 8 → F h j = 0) :
    f (sts m c t.val t.isLt) = ∑ j ∈ Finset.range 8, F h j := by
  have hN : t.val < 432 := lt_of_lt_of_eq t.isLt (show cfg0.N = 432 from N_0)
  have hc := head (ent m c f) (fun g => F (hd g)) ρ
    (fun n hn => by
      have hn' : n < cfg0.N := lt_of_lt_of_eq hn (show 432 = cfg0.N from N_0.symm)
      rw [ent_prev m c _ ⟨n, hn'⟩, ent_at m c _ ⟨n, hn'⟩, sts_step m c ⟨n, hn'⟩, hs, if_congr (first_iff ⟨n, hn'⟩) rfl rfl])
    t.val hN
  rw [← ent_at m c f t, hc, hd_eq t h hh, ht]
  exact head_all (F h) ρ hρ hz

variable (H : Fin5 m c)
include H

theorem real_SM (h : Fin 12) (r j : Fin 8192) : ∃ x : ℝ, SM m c (ix3 h r j) = (x : EReal) := (same _ _ _ _ _ H.1 H.2.1 H.2.2.1 H.2.2.2.1 H.2.2.2.2 h r j).2.2.1
theorem zero_PM (h : Fin 12) (r j : Fin 8192) (hj : r.val < j.val) : PM m c (ix3 h r j) = 0 := ((same _ _ _ _ _ H.1 H.2.1 H.2.2.1 H.2.2.2.1 H.2.2.2.2 h r j).2.2.2 hj).1
theorem zero_SM (h : Fin 12) (r j : Fin 8192) (hj : r.val < j.val) : SM m c (ix3 h r j) = 0 := ((same _ _ _ _ _ H.1 H.2.1 H.2.2.1 H.2.2.2.1 H.2.2.2.2 h r j).2.2.2 hj).2

section
variable (t : Fin cfg0.N) (a j : Fin 1024)

theorem step_p : pB (grid0.coords t) (inp m c t) (ix2 a j) = PM m c (ix3 (hd (t.val / 36)) (row (1024 * bi t.val + a.val)) (row (1024 * bj t.val + j.val))) :=
  blk_p m c t _ (hd_val t) H a j _ _ (row_val _ (bj_le t.val).2 a) (row_val _ (lt_of_le_of_lt (bj_le t.val).1 (bj_le t.val).2) j)
theorem step_d : dB (grid0.coords t) (inp m c t) (ix2 a j) = SM m c (ix3 (hd (t.val / 36)) (row (1024 * bi t.val + a.val)) (row (1024 * bj t.val + j.val))) :=
  blk_d m c t _ (hd_val t) H a j _ _ (row_val _ (bj_le t.val).2 a) (row_val _ (lt_of_le_of_lt (bj_le t.val).1 (bj_le t.val).2) j)
end

section
variable (t : Fin cfg0.N) (h : Fin 12) (hh : h.val = t.val / 36) (hb : bi t.val = 7) (j : Fin 1024) (j' : Fin 8192) (hj : j'.val = 1024 * bj t.val + j.val) (d : Fin 64)
include hh hb hj

theorem dk_all : (sts m c t.val t.isLt).dk (ix2 j d) = ∑ r : Fin 8192, SM m c (ix3 h r j') * QS (g0 m c) (ix3 h r d) := by
  have h1 := bj_le t.val
  have hr : row (1024 * bj t.val + j.val) = j' := Fin.ext ((row_val _ (by omega) j).trans hj.symm)
  refine (col_all m c (fun s => s.dk (ix2 j d))
    (fun g b i => ∑ a : Fin 1024, SM m c (ix3 g (row (1024 * i + a.val)) (row (1024 * b + j.val))) * QS (g0 m c) (ix3 g (row (1024 * i + a.val)) d))
    (fun t s => ?_) t h hh hb
    fun i hi => Finset.sum_eq_zero fun a _ => ?_).trans ?_
  · rw [step_dk _ _ s (kind t), Finset.sum_congr rfl fun a _ => by rw [step_d m c H, inp_q m c t _ (hd_val t) a _ (row_val _ (bj_le t.val).2 a)]]
  · have ha := a.isLt
    rw [hr, zero_SM m c H h _ _ (by rw [row_val i (by omega) a]; omega), zero_mul]
  · rw [hr]
    exact sum8 fun r => SM m c (ix3 h r j') * QS (g0 m c) (ix3 h r d)

theorem dv_all : (sts m c t.val t.isLt).dv (ix2 j d) = ∑ r : Fin 8192, PM m c (ix3 h r j') * g4 m c (ix3 h r d) := by
  have h1 := bj_le t.val
  have hr : row (1024 * bj t.val + j.val) = j' := Fin.ext ((row_val _ (by omega) j).trans hj.symm)
  refine (col_all m c (fun s => s.dv (ix2 j d))
    (fun g b i => ∑ a : Fin 1024, PM m c (ix3 g (row (1024 * i + a.val)) (row (1024 * b + j.val))) * g4 m c (ix3 g (row (1024 * i + a.val)) d))
    (fun t s => ?_) t h hh hb
    fun i hi => Finset.sum_eq_zero fun a _ => ?_).trans ?_
  · rw [step_dv _ _ s (kind t), Finset.sum_congr rfl fun a _ => by rw [step_p m c H, inp_d m c t _ (hd_val t) a _ (row_val _ (bj_le t.val).2 a)]]
  · have ha := a.isLt
    rw [hr, zero_PM m c H h _ _ (by rw [row_val i (by omega) a]; omega), zero_mul]
  · rw [hr]
    exact sum8 fun r => PM m c (ix3 h r j') * g4 m c (ix3 h r d)

theorem dc_all : (sts m c t.val t.isLt).dc (ix2 0 j) = ∑ r : Fin 8192, -SM m c (ix3 h r j') := by
  have h1 := bj_le t.val
  have hr : row (1024 * bj t.val + j.val) = j' := Fin.ext ((row_val _ (by omega) j).trans hj.symm)
  refine (col_all m c (fun s => s.dc (ix2 0 j))
    (fun g b i => ∑ a : Fin 1024, -SM m c (ix3 g (row (1024 * i + a.val)) (row (1024 * b + j.val))))
    (fun t s => ?_) t h hh hb
    fun i hi => Finset.sum_eq_zero fun a _ => ?_).trans ?_
  · rw [step_dc _ _ s (kind t), sub_eq_add_neg, ← neg_sum _ _ fun a => real_SM m c H _ _ _, Finset.sum_congr rfl fun a _ => step_d m c H t a j]
  · have ha := a.isLt
    rw [hr, zero_SM m c H h _ _ (by rw [row_val i (by omega) a]; omega), neg_zero]
  · rw [hr]
    exact sum8 fun r => -SM m c (ix3 h r j')
end

section
variable (t : Fin cfg0.N) (h : Fin 12) (hh : h.val = t.val / 36) (ht : t.val % 36 = 35) (r : Fin 8192) (d : Fin 64)

include hh ht

theorem dq_all : (sts m c t.val t.isLt).dq (ix3 0 r d) = ∑ j : Fin 8192, SM m c (ix3 h r j) * g1 m c (ix3 h j d) := by
  have hr := r.isLt
  refine (head_end m c (fun s => s.dq (ix3 0 r d)) (fun g b => ∑ j : Fin 1024, SM m c (ix3 g r (row (1024 * b + j.val))) * g1 m c (ix3 g (row (1024 * b + j.val)) d))
    (r.val / 1024) (by omega) (fun t s => ?_) t h hh ht fun j hj hj' => Finset.sum_eq_zero fun a _ => ?_).trans
      (sum8 fun j => SM m c (ix3 h r j) * g1 m c (ix3 h j d))
  · by_cases hb : r.val / 1024 = bi t.val
    · obtain ⟨e1, e2⟩ := lane_val r _ hb
      rw [if_pos hb]
      rw [step_dq_hit _ _ s (off1 t) (off3 t) (kind t) r d (lane r) e1]
      refine congrArg (_ + ·) (Finset.sum_congr rfl fun b _ => ?_)
      rw [step_d m c H, e2, inp_k m c t _ (hd_val t) b _ (row_val _ (lt_of_le_of_lt (bj_le t.val).1 (bj_le t.val).2) b)]
    · rw [if_neg hb, add_zero]
      exact step_dq_miss _ _ s (off1 t) (off3 t) (kind t) r d (by omega)
  · have ha := a.isLt
    rw [zero_SM m c H h _ _ (by rw [row_val j hj' a]; omega), zero_mul]

theorem cq_all : (sts m c t.val t.isLt).cq (ix3 0 r 0) = ∑ j : Fin 8192, SM m c (ix3 h r j) := by
  have hr := r.isLt
  refine (head_end m c (fun s => s.cq (ix3 0 r 0)) (fun g b => ∑ j : Fin 1024, SM m c (ix3 g r (row (1024 * b + j.val))))
    (r.val / 1024) (by omega) (fun t s => ?_) t h hh ht fun j hj hj' => Finset.sum_eq_zero fun a _ => ?_).trans
      (sum8 fun j => SM m c (ix3 h r j))
  · by_cases hb : r.val / 1024 = bi t.val
    · obtain ⟨e1, e2⟩ := lane_val r _ hb
      rw [if_pos hb]
      rw [step_cq_hit _ _ s (off2 t) (off4 t) (kind t) r (lane r) e1]
      refine congrArg (_ + ·) (Finset.sum_congr rfl fun b _ => ?_)
      rw [step_d m c H, e2]
    · rw [if_neg hb, add_zero]
      exact step_cq_miss _ _ s (off2 t) (off4 t) (kind t) r (by omega)
  · have ha := a.isLt
    exact zero_SM m c H h _ _ (by rw [row_val j hj' a]; omega)
end

/-! ## The result arrays -/

/-- The queries' gradient after the run. -/
theorem final7 : (dats m 0 c).arrAt 7 (cfgs 0).N = RDQ (SM m c) (g1 m c) := by
  refine (dats m 0 c).arrAt_eq_of_covers 7 _ (by decide +kernel) fun t hf y => ?_
  blk_simp
  rw [after0_7]
  have hm : t.val % 36 = 35 := (flush0_7 t).mp hf
  have hN : t.val < 432 := lt_of_lt_of_eq t.isLt (show cfg0.N = 432 from N_0)
  idx_vars y
  obtain rfl : y0 = 0 := Subsingleton.elim _ _
  have hh : (⟨t.val / 36, by omega⟩ : Fin 12).val = t.val / 36 := rfl
  generalize (⟨t.val / 36, by omega⟩ : Fin 12) = h at hh
  have he : ∀ X : S12x8192x64.Idx → EReal, X (((cfg0.win 7).blk t).view.emb (ix3 0 y1 y2)) = X (ix3 h y1 y2) := fun X => by
    blk_point [idx t]
  refine Eq.trans ?_ (he (RDQ (SM m c) (g1 m c))).symm
  rw [RDQ_at]
  exact dq_all m c H t h hh hm y1 y2

/-- The gradient of the queries' decay after the run. -/
theorem final11 : (dats m 0 c).arrAt 11 (cfgs 0).N = RCQ (SM m c) := by
  refine (dats m 0 c).arrAt_eq_of_covers 11 _ (by decide +kernel) fun t hf y => ?_
  blk_simp
  rw [after0_11]
  have hm : t.val % 36 = 35 := (flush0_11 t).mp hf
  have hN : t.val < 432 := lt_of_lt_of_eq t.isLt (show cfg0.N = 432 from N_0)
  idx_vars y
  obtain rfl : y0 = 0 := Subsingleton.elim _ _
  obtain rfl : y2 = 0 := Subsingleton.elim _ _
  have hh : (⟨t.val / 36, by omega⟩ : Fin 12).val = t.val / 36 := rfl
  generalize (⟨t.val / 36, by omega⟩ : Fin 12) = h at hh
  have he : ∀ X : S12x8192x1.Idx → EReal, X (((cfg0.win 11).blk t).view.emb (ix3 0 y1 0)) = X (ix3 h y1 0) := fun X => by
    blk_point [idx t]
  refine Eq.trans ?_ (he (RCQ (SM m c))).symm
  rw [RCQ_at]
  exact cq_all m c H t h hh hm y1

omit H in
/-- A column's results are written back at its last block of queries. -/
theorem flush_last (t : Fin cfg0.N) (h : (cfg0.win 8).flush t = true ∨ (cfg0.win 9).flush t = true ∨ (cfg0.win 10).flush t = true) : bi t.val = 7 := by
  refine (conds t).2.2.mp (by_contra fun hn => ?_)
  obtain ⟨h8, h9, h10⟩ := flush_col t hn
  rcases h with h | h | h
  · exact absurd (h.symm.trans h8) (by decide)
  · exact absurd (h.symm.trans h9) (by decide)
  · exact absurd (h.symm.trans h10) (by decide)

omit H in
theorem key (t : Fin cfg0.N) (j : Fin 1024) : 1024 * bj t.val + j.val < 8192 := by
  have := bj_le t.val
  have := j.isLt
  omega

/-- The keys' gradient after the run. -/
theorem final8 : (dats m 0 c).arrAt 8 (cfgs 0).N = RDK (SM m c) (QS (g0 m c)) := by
  refine (dats m 0 c).arrAt_eq_of_covers 8 _ (by decide +kernel) fun t hf y => ?_
  blk_simp
  rw [after0_8]
  have hm := flush_last t (.inl hf)
  have hN : t.val < 432 := lt_of_lt_of_eq t.isLt (show cfg0.N = 432 from N_0)
  idx_vars y
  obtain rfl : y0 = 0 := Subsingleton.elim _ _
  have hh : (⟨t.val / 36, by omega⟩ : Fin 12).val = t.val / 36 := rfl
  generalize (⟨t.val / 36, by omega⟩ : Fin 12) = h at hh
  have hj : (⟨_, key t y1⟩ : Fin 8192).val = 1024 * bj t.val + y1.val := rfl
  generalize (⟨_, key t y1⟩ : Fin 8192) = j at hj
  have he : ∀ X : S12x8192x64.Idx → EReal, X (((cfg0.win 8).blk t).view.emb (ix3 0 y1 y2)) = X (ix3 h j y2) := fun X => by
    blk_point [idx t]
  refine Eq.trans ?_ (he (RDK (SM m c) (QS (g0 m c)))).symm
  rw [RDK_at]
  exact (pay8_at _ y1 y2).trans (dk_all m c H t h hh hm y1 j hj y2)

/-- The values' gradient after the run. -/
theorem final9 : (dats m 0 c).arrAt 9 (cfgs 0).N = RDV (PM m c) (g4 m c) := by
  refine (dats m 0 c).arrAt_eq_of_covers 9 _ (by decide +kernel) fun t hf y => ?_
  blk_simp
  rw [after0_9]
  have hm := flush_last t (.inr (.inl hf))
  have hN : t.val < 432 := lt_of_lt_of_eq t.isLt (show cfg0.N = 432 from N_0)
  idx_vars y
  obtain rfl : y0 = 0 := Subsingleton.elim _ _
  have hh : (⟨t.val / 36, by omega⟩ : Fin 12).val = t.val / 36 := rfl
  generalize (⟨t.val / 36, by omega⟩ : Fin 12) = h at hh
  have hj : (⟨_, key t y1⟩ : Fin 8192).val = 1024 * bj t.val + y1.val := rfl
  generalize (⟨_, key t y1⟩ : Fin 8192) = j at hj
  have he : ∀ X : S12x8192x64.Idx → EReal, X (((cfg0.win 9).blk t).view.emb (ix3 0 y1 y2)) = X (ix3 h j y2) := fun X => by
    blk_point [idx t]
  refine Eq.trans ?_ (he (RDV (PM m c) (g4 m c))).symm
  rw [RDV_at]
  exact (pay9_at _ y1 y2).trans ((dv_all m c H t h hh hm y1 j hj y2).trans (Finset.sum_congr rfl fun r _ => mul_comm _ _))

/-- The gradient of the keys' decay after the run. -/
theorem final10 : (dats m 0 c).arrAt 10 (cfgs 0).N = RDC (SM m c) := by
  refine (dats m 0 c).arrAt_eq_of_covers 10 _ (by decide +kernel) fun t hf y => ?_
  blk_simp
  rw [after0_10]
  have hm := flush_last t (.inr (.inr hf))
  have hN : t.val < 432 := lt_of_lt_of_eq t.isLt (show cfg0.N = 432 from N_0)
  idx_vars y
  obtain rfl : y0 = 0 := Subsingleton.elim _ _
  obtain rfl : y1 = 0 := Subsingleton.elim _ _
  have hh : (⟨t.val / 36, by omega⟩ : Fin 12).val = t.val / 36 := rfl
  generalize (⟨t.val / 36, by omega⟩ : Fin 12) = h at hh
  have hj : (⟨_, key t y2⟩ : Fin 8192).val = 1024 * bj t.val + y2.val := rfl
  generalize (⟨_, key t y2⟩ : Fin 8192) = j at hj
  have he : ∀ X : S12x1x8192.Idx → EReal, X (((cfg0.win 10).blk t).view.emb (ix3 0 0 y2)) = X (ix3 h 0 j) := fun X => by
    blk_point [idx t]
  refine Eq.trans ?_ (he (RDC (SM m c))).symm
  rw [RDC_at]
  exact (pay10_at _ y2).trans (dc_all m c H t h hh hm y2 j hj)

end

end Cert.Kernel3Ideal.Fox

end
-- ==== Proof.FoxClaim.lean ====
/- The claims of the forgetting attention's backward kernel over the reals. -/
module

public import proofs.«01_k».proof.Defs
public import proofs.«01_k».proof.Proof.FoxValue
public import proofs.«01_k».proof.Pre_finite3
public import proofs.«01_k».proof.Proof.Gen.Pre_finite3

@[expose] public section

set_option maxRecDepth 16384

noncomputable section

open Idealize.ShloMosaic Idealize.ShloMosaic.TcCoe Idealize.SL.Sem

namespace Cert.Kernel3Ideal.Fox

open Cert.Kernel3Ideal Cert.Kernel3Ideal.Gen

variable (m : (ℓ : Loc nD τ sig) → Buf (Elt Ideal) ℓ)

/-- Arrays the precondition holds of are arrays of reals. -/
theorem reals (c : Dev nD)
    (h0 : (Cert.Pre_finite3.fn (F := Ideal) (g0 m c) (g1 m c) (g2 m c) (g3 m c) (g4 m c)).1 = fun _ => 1#1)
    (h1 : (Cert.Pre_finite3.fn (F := Ideal) (g0 m c) (g1 m c) (g2 m c) (g3 m c) (g4 m c)).2.1 = fun _ => 1#1)
    (h2 : (Cert.Pre_finite3.fn (F := Ideal) (g0 m c) (g1 m c) (g2 m c) (g3 m c) (g4 m c)).2.2.1 = fun _ => 1#1)
    (h3 : (Cert.Pre_finite3.fn (F := Ideal) (g0 m c) (g1 m c) (g2 m c) (g3 m c) (g4 m c)).2.2.2.1 = fun _ => 1#1)
    (h4 : (Cert.Pre_finite3.fn (F := Ideal) (g0 m c) (g1 m c) (g2 m c) (g3 m c) (g4 m c)).2.2.2.2 = fun _ => 1#1) : Fin5 m c :=
  ⟨fun i => Reals.real_of_abs_lt _ (congrFun h0 i), fun i => Reals.real_of_abs_lt _ (congrFun h1 i),
   fun i => Reals.real_of_abs_lt _ (congrFun h2 i), fun i => Reals.real_of_abs_lt _ (congrFun h3 i),
   fun i => Reals.real_of_abs_lt _ (congrFun h4 i)⟩

set_option maxHeartbeats 2000000 in
/-- The run leaves the reference's gradients, and the arguments as they were. -/
theorem run_values (H : ∀ c, Fin5 m c) (ρ : Dev nD → PrngReg) :
    θ_run defs (onTc (τ := τ) (main (F := Ideal))) ⟨m, fun _ => 0, ρ⟩ (fun r => ∀ c : Dev nD,
      r.2.mem ((c : Thread nD τ).loc main_v58_0) = RDQ (SM m c) (g1 m c)
      ∧ r.2.mem ((c : Thread nD τ).loc main_v58_1) = RDK (SM m c) (QS (g0 m c))
      ∧ r.2.mem ((c : Thread nD τ).loc main_v58_2) = RDV (PM m c) (g4 m c)
      ∧ r.2.mem ((c : Thread nD τ).loc main_v58_3) = RDC (SM m c)
      ∧ r.2.mem ((c : Thread nD τ).loc main_v58_4) = RCQ (SM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h.1 c).1 7).trans (final7 m c (H c)), ((h.1 c).1 8).trans (final8 m c (H c)),
      ((h.1 c).1 9).trans (final9 m c (H c)), ((h.1 c).1 10).trans (final10 m c (H c)), ((h.1 c).1 11).trans (final11 m c (H c)), h.2.1 c⟩)
    (θ_run_and (run_main m ρ) (frame m ρ))

end Cert.Kernel3Ideal.Fox

namespace Cert.Claims

/-- The gradients of the forgetting attention are its reference's. -/
theorem fox : Cert.algebraic_Kernel3Ideal_Reference3Ideal_pre_finite3 := fun m g m' g' hpre hag =>
  ⟨_, _, _, _, _,
   Cert.Kernel3Ideal.Fox.run_values m (fun c => Cert.Kernel3Ideal.Fox.reals m c (hpre c).1 (hpre c).2.1 (hpre c).2.2.1 (hpre c).2.2.2.1 (hpre c).2.2.2.2) g,
   (θ_run _ _ _).mono (fun _ h c => ⟨
      (h c).1.trans (by
        rw [Cert.Kernel3Ideal.Fox.res0]; dsimp only [Cert.Kernel3Ideal.Fox.rS]; rw [(hag c).1, (hag c).2.1, (hag c).2.2.1, (hag c).2.2.2.1, (hag c).2.2.2.2]; rfl),
      (h c).2.1.trans (by
        rw [Cert.Kernel3Ideal.Fox.res1]; dsimp only [Cert.Kernel3Ideal.Fox.rS]; rw [(hag c).1, (hag c).2.1, (hag c).2.2.1, (hag c).2.2.2.1, (hag c).2.2.2.2]; rfl),
      (h c).2.2.1.trans (by
        rw [Cert.Kernel3Ideal.Fox.res2]; rw [(hag c).1, (hag c).2.1, (hag c).2.2.2.1, (hag c).2.2.2.2]; rfl),
      (h c).2.2.2.1.trans (by
        rw [Cert.Kernel3Ideal.Fox.res3]; dsimp only [Cert.Kernel3Ideal.Fox.rS]; rw [(hag c).1, (hag c).2.1, (hag c).2.2.1, (hag c).2.2.2.1, (hag c).2.2.2.2]; rfl),
      (h c).2.2.2.2.1.trans (by
        rw [Cert.Kernel3Ideal.Fox.res4]; dsimp only [Cert.Kernel3Ideal.Fox.rS]; rw [(hag c).1, (hag c).2.1, (hag c).2.2.1, (hag c).2.2.2.1, (hag c).2.2.2.2]; rfl),
      (h c).2.2.2.2.2⟩)
     (Cert.Reference3Ideal.Value.run m' g')⟩

theorem frame_fox : Cert.quiescent_Reference3Ideal := fun m ρ _ =>
  (θ_run _ _ _).mono (fun r h => ⟨fun c => (h c).2.2.2.2.2, sem_eq_zero_of_no_sems (by decide) r.2⟩)
    (Cert.Reference3Ideal.Value.run m ρ)

end Cert.Claims

end
-- ==== Proof.FoxBits.lean ====
/- The frame of the forgetting attention's backward kernel at the machine's floats: the run over any float values, at these. -/
module

public import proofs.«01_k».proof.Defs
public import proofs.«01_k».proof.Proof.FoxFrame
public import proofs.«01_k».proof.Proof.Gen.Kernel3

@[expose] public section

set_option maxRecDepth 16384
set_option maxHeartbeats 1000000

noncomputable section

namespace Cert.Claims

open Idealize.ShloMosaic Idealize.SL.Sem

attribute [local instance] Cert.Kernel3.Gen.facts Cert.Kernel3Ideal.Gen.facts

/-- The two programs' bodies are the same text. -/
theorem body_eq : @Cert.Kernel3.cc0_dattn Bits _ _ = @Cert.Kernel3Ideal.cc0_dattn Bits _ _ := rfl

/-- So are their body tables, -/
theorem table_eq : Cert.Kernel3.defs₀ (F := Bits) = Cert.Kernel3Ideal.defs₀ (F := Bits) := by
  funext k
  cases k with
  | tc =>
    unfold Cert.Kernel3.defs₀ Cert.Kernel3Ideal.defs₀
    rw [Defs.onTc_tc]
    refine Eq.trans ?_ (Defs.onTc_tc _).symm
    funext l a
    match l, a with
    | ⟨0, _⟩, (t, s) => rw [body_eq]; rfl
  | scScalar _ => rfl
  | scVector _ _ => rfl

/-- and the tables with the pipelines. -/
theorem defs_eq : Cert.Kernel3.defs (F := Bits) = Cert.Kernel3Ideal.defs (F := Bits) := by
  unfold Cert.Kernel3.defs Cert.Kernel3Ideal.defs
  exact congrArg (fun d => Pipeline.defs Cert.Kernel3Ideal.pcfgs d) table_eq

/-- The kernel at the floats runs, leaves its arguments as they were and every semaphore at zero. -/
theorem frame_fox_kernel : Cert.quiescent_Kernel3 := fun m ρ _ =>
  (congrArg (fun d => θ_run d _ _ _) defs_eq).mpr (Cert.Kernel3Ideal.Fox.frame (F := Bits) m ρ)

end Cert.Claims

end
-- ==== Proof.Claims.lean ====
/- The algebraic claims, one theorem to a program. -/
module

public import proofs.«01_k».proof.Defs
public import proofs.«01_k».proof.Proof.Mem
public import proofs.«01_k».proof.Proof.Act
public import proofs.«01_k».proof.Proof.Pair
public import proofs.«01_k».proof.Proof.Dwout
public import proofs.«01_k».proof.Proof.Dwin
public import proofs.«01_k».proof.Proof.FfnIn
public import proofs.«01_k».proof.Proof.Proj
public import proofs.«01_k».proof.Proof.Dmix
public import proofs.«01_k».proof.Proof.FoxClaim
public import proofs.«01_k».proof.Proof.FoxBits

@[expose] public section

set_option maxRecDepth 16384

noncomputable section

open Idealize.ShloMosaic Idealize.ShloMosaic.TcCoe Idealize.SL.Sem

namespace Cert.Claims

/-- The gradients of the attention over the memory slots are its reference's. -/
theorem mem : Cert.algebraic_KernelIdeal_ReferenceIdeal_pre_finite := fun m g m' g' hpre hag =>
  have hr := fun c => Cert.KernelIdeal.Mem.reals _ _ _ _ (hpre c).1 (hpre c).2.1 (hpre c).2.2.1 (hpre c).2.2.2
  ⟨_, _, _,
   (θ_run _ _ _).mono (fun _ h c => ⟨(h c).1.trans (Cert.KernelIdeal.Mem.final6 m c (hr c).1 (hr c).2.1 (hr c).2.2.1 (hr c).2.2.2),
      (h c).2.1.trans (Cert.KernelIdeal.Mem.final7 m c (hr c).1 (hr c).2.1 (hr c).2.2.1 (hr c).2.2.2),
      (h c).2.2.1.trans (Cert.KernelIdeal.Mem.final8 m c (hr c).1 (hr c).2.1 (hr c).2.2.1 (hr c).2.2.2), (h c).2.2.2⟩)
     (Cert.KernelIdeal.Value.run_blocks m g),
   (θ_run _ _ _).mono (fun _ h c => ⟨(h c).1.trans (by
        rw [(Cert.KernelIdeal.Mem.res m' c).1, (hag c).1, (hag c).2.1, (hag c).2.2.1, (hag c).2.2.2]),
      (h c).2.1.trans (by
        rw [(Cert.KernelIdeal.Mem.res m' c).2, (hag c).1, (hag c).2.1, (hag c).2.2.1, (hag c).2.2.2]),
      (h c).2.2.1.trans (by rw [(hag c).1, (hag c).2.1, (hag c).2.2.2]; rfl), (h c).2.2.2⟩)
     (Cert.ReferenceIdeal.Value.run m' g')⟩

/-- The cotangents of the gate and of the value of a feed-forward layer are its reference's. -/
theorem act : Cert.algebraic_Kernel2Ideal_Reference2Ideal_pre_finite2 := fun m g m' g' hpre hag =>
  have hr := fun c => Cert.Kernel2Ideal.Act.reals _ _ _ _ (hpre c).1 (hpre c).2.1 (hpre c).2.2.1 (hpre c).2.2.2
  ⟨_, _,
   (θ_run _ _ _).mono (fun _ h c => ⟨(h c).1.trans ((Cert.Kernel2Ideal.Act.finalA m c).trans
        (Cert.Kernel2Ideal.Act.eqA _ _ _ _ (hr c).1 (hr c).2.1 (hr c).2.2.1 (hr c).2.2.2).symm),
      (h c).2.1.trans ((Cert.Kernel2Ideal.Act.finalB m c).trans
        (Cert.Kernel2Ideal.Act.eqB _ _ _ (hr c).2.2.1).symm), (h c).2.2⟩)
     (Cert.Kernel2Ideal.Value.run_blocks m g),
   (θ_run _ _ _).mono (fun _ h c => ⟨(h c).1.trans (by
        rw [(hag c).1, (hag c).2.1, (hag c).2.2.1, (hag c).2.2.2]),
      (h c).2.1.trans (by rw [(hag c).1, (hag c).2.1, (hag c).2.2.1]), (h c).2.2⟩)
     (Cert.Reference2Ideal.Value.run m' g')⟩

/-- The cotangent of a feed-forward layer's input is its reference's. -/
theorem pair : Cert.algebraic_Kernel4Ideal_Reference4Ideal := fun m g m' g' _ hag =>
  ⟨_, (θ_run _ _ _).mono (fun _ h c => ⟨(h c).1.trans (Cert.Kernel4Ideal.Pair.final m c), (h c).2⟩)
     (Cert.Kernel4Ideal.Value.run_blocks m g),
   (θ_run _ _ _).mono (fun _ h c => ⟨(h c).1.trans (by rw [(hag c).1, (hag c).2.1, (hag c).2.2]), (h c).2⟩)
     (Cert.Reference4Ideal.Value.run m' g')⟩

/-- The gradient of a feed-forward layer's second weight is its reference's. -/
theorem dwout : Cert.algebraic_Kernel5Ideal_Reference5Ideal := fun m g m' g' _ hag =>
  ⟨_, (θ_run _ _ _).mono (fun _ h c => ⟨(h c).1.trans (Cert.Kernel5Ideal.Out.final m c), (h c).2⟩)
     (Cert.Kernel5Ideal.Value.run_blocks m g),
   (θ_run _ _ _).mono (fun _ h c => ⟨(h c).1.trans (by rw [(hag c).1, (hag c).2]), (h c).2⟩)
     (Cert.Reference5Ideal.Value.run m' g')⟩

/-- The gradient of half of a feed-forward layer's first weight is its reference's. -/
theorem dwin : Cert.algebraic_Kernel6Ideal_Reference6Ideal := fun m g m' g' _ hag =>
  ⟨_, (θ_run _ _ _).mono (fun _ h c => ⟨(h c).1.trans (Cert.Kernel6Ideal.In.final m c), (h c).2⟩)
     (Cert.Kernel6Ideal.Value.run_blocks m g),
   (θ_run _ _ _).mono (fun _ h c => ⟨(h c).1.trans (by rw [(hag c).1, (hag c).2]), (h c).2⟩)
     (Cert.Reference6Ideal.Value.run m' g')⟩

/-- The projection of a feed-forward layer and its gated product are its reference's. -/
theorem ffn_in : Cert.algebraic_Kernel7Ideal_Reference7Ideal := fun m g m' g' _ hag =>
  ⟨_, _, _, (θ_run _ _ _).mono (fun _ h c => ⟨(h c).1.trans (Cert.Kernel7Ideal.FfnIn.finalA m c),
      (h c).2.1.trans (Cert.Kernel7Ideal.FfnIn.finalB m c), (h c).2.2.1.trans (Cert.Kernel7Ideal.FfnIn.finalU m c), (h c).2.2.2⟩)
     (Cert.Kernel7Ideal.Value.run_blocks m g),
   (θ_run _ _ _).mono (fun _ h c => ⟨(h c).1.trans (by rw [(hag c).1, (hag c).2]), (h c).2.1.trans (by rw [(hag c).1, (hag c).2]),
      (h c).2.2.1.trans (by rw [(hag c).1, (hag c).2]), (h c).2.2.2⟩)
     (Cert.Reference7Ideal.Value.run m' g')⟩

/-- The output of a feed-forward layer is its reference's. -/
theorem ffn_out : Cert.algebraic_Kernel8Ideal_Reference8Ideal := fun m g m' g' _ hag =>
  ⟨_, (θ_run _ _ _).mono (fun _ h c => ⟨(h c).1.trans (Cert.Kernel8Ideal.FfnOut.final m c), (h c).2⟩)
     (Cert.Kernel8Ideal.Value.run_blocks m g),
   (θ_run _ _ _).mono (fun _ h c => ⟨(h c).1.trans (by rw [(hag c).1, (hag c).2.1, (hag c).2.2]), (h c).2⟩)
     (Cert.Reference8Ideal.Value.run m' g')⟩

/-- The projection of the forgetting attention's layer is its reference's. -/
theorem fox_proj : Cert.algebraic_Kernel9Ideal_Reference9Ideal := fun m g m' g' _ hag =>
  ⟨_, (θ_run _ _ _).mono (fun _ h c => ⟨(h c).1.trans (Cert.Kernel9Ideal.Proj.final m c), (h c).2⟩)
     (Cert.Kernel9Ideal.Value.run_blocks m g),
   (θ_run _ _ _).mono (fun _ h c => ⟨(h c).1.trans (by rw [(hag c).1, (hag c).2]), (h c).2⟩)
     (Cert.Reference9Ideal.Value.run m' g')⟩

/-- The cotangent of that projection's input is its reference's. -/
theorem fox_dh : Cert.algebraic_Kernel10Ideal_Reference10Ideal := fun m g m' g' _ hag =>
  ⟨_, (θ_run _ _ _).mono (fun _ h c => ⟨(h c).1.trans (Cert.Kernel10Ideal.Dh.final m c), (h c).2⟩)
     (Cert.Kernel10Ideal.Value.run_blocks m g),
   (θ_run _ _ _).mono (fun _ h c => ⟨(h c).1.trans (by rw [(hag c).1, (hag c).2]), (h c).2⟩)
     (Cert.Reference10Ideal.Value.run m' g')⟩

/-- The gradient of that projection's weight is its reference's. -/
theorem fox_dwin : Cert.algebraic_Kernel11Ideal_Reference11Ideal := fun m g m' g' _ hag =>
  ⟨_, (θ_run _ _ _).mono (fun _ h c => ⟨(h c).1.trans (Cert.Kernel11Ideal.Dfox.final m c), (h c).2⟩)
     (Cert.Kernel11Ideal.Value.run_blocks m g),
   (θ_run _ _ _).mono (fun _ h c => ⟨(h c).1.trans (by rw [(hag c).1, (hag c).2]), (h c).2⟩)
     (Cert.Reference11Ideal.Value.run m' g')⟩

/-- The output of a mixing layer is its reference's. -/
theorem wout : Cert.algebraic_Kernel12Ideal_Reference12Ideal := fun m g m' g' _ hag =>
  ⟨_, (θ_run _ _ _).mono (fun _ h c => ⟨(h c).1.trans (Cert.Kernel12Ideal.Wout.final m c), (h c).2⟩)
     (Cert.Kernel12Ideal.Value.run_blocks m g),
   (θ_run _ _ _).mono (fun _ h c => ⟨(h c).1.trans (by rw [(hag c).1, (hag c).2.1, (hag c).2.2]), (h c).2⟩)
     (Cert.Reference12Ideal.Value.run m' g')⟩

/-- The cotangent of a mixing layer's heads is its reference's. -/
theorem dcat : Cert.algebraic_Kernel13Ideal_Reference13Ideal := fun m g m' g' _ hag =>
  ⟨_, (θ_run _ _ _).mono (fun _ h c => ⟨(h c).1.trans (Cert.Kernel13Ideal.Dcat.final m c), (h c).2⟩)
     (Cert.Kernel13Ideal.Value.run_blocks m g),
   (θ_run _ _ _).mono (fun _ h c => ⟨(h c).1.trans (by rw [(hag c).1, (hag c).2]), (h c).2⟩)
     (Cert.Reference13Ideal.Value.run m' g')⟩

/-- The gradient of a mixing layer's output weight is its reference's. -/
theorem mix_dwout : Cert.algebraic_Kernel14Ideal_Reference14Ideal := fun m g m' g' _ hag =>
  ⟨_, (θ_run _ _ _).mono (fun _ h c => ⟨(h c).1.trans (Cert.Kernel14Ideal.Dmix.final m c), (h c).2⟩)
     (Cert.Kernel14Ideal.Value.run_blocks m g),
   (θ_run _ _ _).mono (fun _ h c => ⟨(h c).1.trans (by rw [(hag c).1, (hag c).2]), (h c).2⟩)
     (Cert.Reference14Ideal.Value.run m' g')⟩

/-- The reference of `mem` runs, leaves its arguments as they were and every semaphore at zero. -/
theorem frame_mem : Cert.quiescent_ReferenceIdeal := fun m ρ _ =>
  (θ_run _ _ _).mono (fun r h => ⟨fun c => (h c).2.2.2, sem_eq_zero_of_no_sems (by decide) r.2⟩)
    (Cert.ReferenceIdeal.Value.run m ρ)

/-- The reference of `act` runs, leaves its arguments as they were and every semaphore at zero. -/
theorem frame_act : Cert.quiescent_Reference2Ideal := fun m ρ _ =>
  (θ_run _ _ _).mono (fun r h => ⟨fun c => (h c).2.2, sem_eq_zero_of_no_sems (by decide) r.2⟩)
    (Cert.Reference2Ideal.Value.run m ρ)

/-- The reference of `pair` runs, leaves its arguments as they were and every semaphore at zero. -/
theorem frame_pair : Cert.quiescent_Reference4Ideal := fun m ρ _ =>
  (θ_run _ _ _).mono (fun r h => ⟨fun c => (h c).2, sem_eq_zero_of_no_sems (by decide) r.2⟩)
    (Cert.Reference4Ideal.Value.run m ρ)

/-- The reference of `dwout` runs, leaves its arguments as they were and every semaphore at zero. -/
theorem frame_dwout : Cert.quiescent_Reference5Ideal := fun m ρ _ =>
  (θ_run _ _ _).mono (fun r h => ⟨fun c => (h c).2, sem_eq_zero_of_no_sems (by decide) r.2⟩)
    (Cert.Reference5Ideal.Value.run m ρ)

/-- The reference of `dwin` runs, leaves its arguments as they were and every semaphore at zero. -/
theorem frame_dwin : Cert.quiescent_Reference6Ideal := fun m ρ _ =>
  (θ_run _ _ _).mono (fun r h => ⟨fun c => (h c).2, sem_eq_zero_of_no_sems (by decide) r.2⟩)
    (Cert.Reference6Ideal.Value.run m ρ)

/-- The reference of `ffn_in` runs, leaves its arguments as they were and every semaphore at zero. -/
theorem frame_ffn_in : Cert.quiescent_Reference7Ideal := fun m ρ _ =>
  (θ_run _ _ _).mono (fun r h => ⟨fun c => (h c).2.2.2, sem_eq_zero_of_no_sems (by decide) r.2⟩)
    (Cert.Reference7Ideal.Value.run m ρ)

/-- The reference of `ffn_out` runs, leaves its arguments as they were and every semaphore at zero. -/
theorem frame_ffn_out : Cert.quiescent_Reference8Ideal := fun m ρ _ =>
  (θ_run _ _ _).mono (fun r h => ⟨fun c => (h c).2, sem_eq_zero_of_no_sems (by decide) r.2⟩)
    (Cert.Reference8Ideal.Value.run m ρ)

/-- The reference of `fox_proj` runs, leaves its arguments as they were and every semaphore at zero. -/
theorem frame_fox_proj : Cert.quiescent_Reference9Ideal := fun m ρ _ =>
  (θ_run _ _ _).mono (fun r h => ⟨fun c => (h c).2, sem_eq_zero_of_no_sems (by decide) r.2⟩)
    (Cert.Reference9Ideal.Value.run m ρ)

/-- The reference of `fox_dh` runs, leaves its arguments as they were and every semaphore at zero. -/
theorem frame_fox_dh : Cert.quiescent_Reference10Ideal := fun m ρ _ =>
  (θ_run _ _ _).mono (fun r h => ⟨fun c => (h c).2, sem_eq_zero_of_no_sems (by decide) r.2⟩)
    (Cert.Reference10Ideal.Value.run m ρ)

/-- The reference of `fox_dwin` runs, leaves its arguments as they were and every semaphore at zero. -/
theorem frame_fox_dwin : Cert.quiescent_Reference11Ideal := fun m ρ _ =>
  (θ_run _ _ _).mono (fun r h => ⟨fun c => (h c).2, sem_eq_zero_of_no_sems (by decide) r.2⟩)
    (Cert.Reference11Ideal.Value.run m ρ)

/-- The reference of `wout` runs, leaves its arguments as they were and every semaphore at zero. -/
theorem frame_wout : Cert.quiescent_Reference12Ideal := fun m ρ _ =>
  (θ_run _ _ _).mono (fun r h => ⟨fun c => (h c).2, sem_eq_zero_of_no_sems (by decide) r.2⟩)
    (Cert.Reference12Ideal.Value.run m ρ)

/-- The reference of `dcat` runs, leaves its arguments as they were and every semaphore at zero. -/
theorem frame_dcat : Cert.quiescent_Reference13Ideal := fun m ρ _ =>
  (θ_run _ _ _).mono (fun r h => ⟨fun c => (h c).2, sem_eq_zero_of_no_sems (by decide) r.2⟩)
    (Cert.Reference13Ideal.Value.run m ρ)

/-- The reference of `mix_dwout` runs, leaves its arguments as they were and every semaphore at zero. -/
theorem frame_mix_dwout : Cert.quiescent_Reference14Ideal := fun m ρ _ =>
  (θ_run _ _ _).mono (fun r h => ⟨fun c => (h c).2, sem_eq_zero_of_no_sems (by decide) r.2⟩)
    (Cert.Reference14Ideal.Value.run m ρ)

end Cert.Claims

end

end
-- ==== Proof.Adam.lean ====
/- A weight's gradient summed over the devices, and its AdamW step, element by element. -/
module

public import Idealize.ShloMosaic.Lib.Pipeline.ValueKit

@[expose] public section

noncomputable section

open Idealize.ShloMosaic
open scoped BigOperators

namespace Cert.Adam

variable {R C : ℕ}

/-- The gradient: the sum of the eight devices' gradients. -/
def grad (s : (⟨3, ![8, R, C]⟩ : Shape).Idx → EReal) : (⟨2, ![R, C]⟩ : Shape).Idx → EReal := fun i =>
  ∑ d : Fin 8, s (ix3 d (i 0) (i 1))

/-- The new first moment. -/
def mom (g m : (⟨2, ![R, C]⟩ : Shape).Idx → EReal) : (⟨2, ![R, C]⟩ : Shape).Idx → EReal := fun i =>
  Ideal.ofBits .f32 0x3F666666#32 * m i + Ideal.ofBits .f32 0x3DCCCCCD#32 * g i

/-- The new second moment. -/
def vel (g v : (⟨2, ![R, C]⟩ : Shape).Idx → EReal) : (⟨2, ![R, C]⟩ : Shape).Idx → EReal := fun i =>
  Ideal.ofBits .f32 0x3F7FBE77#32 * v i + Ideal.ofBits .f32 0x3A83126F#32 * (g i * g i)

/-- What is added to the weight. -/
def delta (w g m v : (⟨2, ![R, C]⟩ : Shape).Idx → EReal) : (⟨2, ![R, C]⟩ : Shape).Idx → EReal := fun i =>
  Ideal.ofBits .f32 0xBA83126F#32 *
    (Ideal.div (Ideal.div (mom g m i) (Ideal.ofBits .f32 0x3F26BD02#32))
        (Ideal.sqrt (Ideal.div (vel g v i) (Ideal.ofBits .f32 0x3C231ACC#32)) + Ideal.ofBits .f32 0x322BCC77#32)
      + Ideal.ofBits .f32 0x3C23D70A#32 * w i)

/-- The four results at an index of a tile are those of the arrays at the index it sits at. -/
theorem tile {r : ℕ} (x : (⟨2, ![r, C]⟩ : Shape).Idx → EReal) (xs : (⟨3, ![8, r, C]⟩ : Shape).Idx → EReal)
    (xm xv : (⟨2, ![r, C]⟩ : Shape).Idx → EReal) (w : (⟨2, ![R, C]⟩ : Shape).Idx → EReal)
    (s : (⟨3, ![8, R, C]⟩ : Shape).Idx → EReal) (m v : (⟨2, ![R, C]⟩ : Shape).Idx → EReal)
    (y : (⟨2, ![r, C]⟩ : Shape).Idx) (e : (⟨2, ![R, C]⟩ : Shape).Idx) (hw : x y = w e)
    (hs : ∀ d, xs (ix3 d (y 0) (y 1)) = s (ix3 d (e 0) (e 1))) (hm : xm y = m e) (hv : xv y = v e) :
    grad xs y = grad s e ∧ delta x (grad xs) xm xv y = delta w (grad s) m v e
    ∧ mom (grad xs) xm y = mom (grad s) m e ∧ vel (grad xs) xv y = vel (grad s) v e := by
  have hg : grad xs y = grad s e := Finset.sum_congr rfl fun d _ => hs d
  refine ⟨hg, ?_, ?_, ?_⟩ <;> simp only [delta, mom, vel, hg, hw, hm, hv]

/-- The host's sum of the eight slots. -/
theorem host_grad (a : FVec Ideal (⟨3, ![8, R, C]⟩ : Shape) .f32) (h : (⟨3, ![8, R, C]⟩ : Shape).ReducesTo [0] ⟨2, ![R, C]⟩)
    (h0 : 0 < (⟨0, ![]⟩ : Shape).numel) :
    Host.reduceAdd a (constant (⟨0, ![]⟩ : Shape) .f32 0x00000000#32) h h0 = grad a := by
  funext i; pointwise [grad]

section
variable (b : (⟨0, ![]⟩ : Shape).BroadcastsInDim (⟨2, ![R, C]⟩ : Shape) (![] : Fin 0 → Fin 2))
  {w g g' m v : FVec Ideal (⟨2, ![R, C]⟩ : Shape) .f32} (hg : g = g')

/-- A number as an array. -/
abbrev full (q : BitVec 32) : FVec Ideal (⟨2, ![R, C]⟩ : Shape) .f32 :=
  broadcastInDim ⟨2, ![R, C]⟩ ![] b (constant (⟨0, ![]⟩ : Shape) .f32 q)

include hg

/-- The host's first moment. -/
theorem host_mom : addf (mulf (full b 0x3F666666#32) m) (mulf (full b 0x3DCCCCCD#32) g) = mom g' m := hg ▸ rfl

/-- The host's second moment. -/
theorem host_vel : addf (mulf (full b 0x3F7FBE77#32) v) (mulf (full b 0x3A83126F#32) (mulf g g)) = vel g' v := hg ▸ rfl

/-- The host's step. -/
theorem host_delta : mulf (full b 0xBA83126F#32) (addf (Host.divf
      (Host.divf (addf (mulf (full b 0x3F666666#32) m) (mulf (full b 0x3DCCCCCD#32) g)) (full b 0x3F26BD02#32))
      (addf (Host.sqrt (Host.divf (addf (mulf (full b 0x3F7FBE77#32) v) (mulf (full b 0x3A83126F#32) (mulf g g)))
        (full b 0x3C231ACC#32))) (full b 0x322BCC77#32))) (mulf (full b 0x3C23D70A#32) w))
    = delta w g' m v := hg ▸ rfl

end

end Cert.Adam

end
-- ==== Proof.AdamBig.lean ====
module

public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Adam
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! ## The step of a feed-forward layer's first weight -/

namespace Cert.Kernel15Ideal.Adam

open Cert.Kernel15Ideal Cert.Kernel15Ideal.Gen

/-- What one point leaves in the four result blocks. -/
theorem out (x0 : FVec Ideal S352x1024 .f32) (x1 : FVec Ideal S8x352x1024 .bf16) (x2 x3 : FVec Ideal S352x1024 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay6 (F := Ideal) x0 x1 x2 x3 = Cert.Adam.grad x1 := by
    funext y; pointwise [k0_pay1, k0_pay2, k0_pay3, k0_pay4, k0_pay5, k0_pay6, k0_pay7, Cert.Adam.grad]; simp only [Fin.sum_univ_eight]
  refine ⟨?_, ?_, ?_, ?_⟩ <;> funext y <;> frame_out
  · rw [hg]
  · rw [hg]; pointwise [k0_pay1, k0_pay2, k0_pay3, k0_pay4, k0_pay5, k0_pay6, k0_pay7, Cert.Adam.mom, Cert.Adam.vel, Cert.Adam.delta]
  · rw [hg]; pointwise [k0_pay1, k0_pay2, k0_pay3, k0_pay4, k0_pay5, k0_pay6, k0_pay7, Cert.Adam.mom]
  · rw [hg]; pointwise [k0_pay1, k0_pay2, k0_pay3, k0_pay4, k0_pay5, k0_pay6, k0_pay7, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (transpose S704x1024 [1, 0] (m ((c : Thread nD τ).loc main_arg0)) Cert.Reference15Ideal.Gen.transposes_S1024x704_S704x1024_1_0) (m ((c : Thread nD τ).loc main_arg1)) (transpose S704x1024 [1, 0] (m ((c : Thread nD τ).loc main_arg2)) Cert.Reference15Ideal.Gen.transposes_S1024x704_S704x1024_1_0) (transpose S704x1024 [1, 0] (m ((c : Thread nD τ).loc main_arg3)) Cert.Reference15Ideal.Gen.transposes_S1024x704_S704x1024_1_0) _ _ ?_ (fun d => ?_) ?_ ?_).1 <;> blk_point [iblk, V, idx t]

/-- The array of the step after the run. -/
theorem delta (c : Dev nD) : (dats m 0 c).arrAt 5 (cfgs 0).N = Cert.Adam.delta (transpose S704x1024 [1, 0] (m ((c : Thread nD τ).loc main_arg0)) Cert.Reference15Ideal.Gen.transposes_S1024x704_S704x1024_1_0) (Cert.Adam.grad (m ((c : Thread nD τ).loc main_arg1))) (transpose S704x1024 [1, 0] (m ((c : Thread nD τ).loc main_arg2)) Cert.Reference15Ideal.Gen.transposes_S1024x704_S704x1024_1_0) (transpose S704x1024 [1, 0] (m ((c : Thread nD τ).loc main_arg3)) Cert.Reference15Ideal.Gen.transposes_S1024x704_S704x1024_1_0) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (transpose S704x1024 [1, 0] (m ((c : Thread nD τ).loc main_arg0)) Cert.Reference15Ideal.Gen.transposes_S1024x704_S704x1024_1_0) (m ((c : Thread nD τ).loc main_arg1)) (transpose S704x1024 [1, 0] (m ((c : Thread nD τ).loc main_arg2)) Cert.Reference15Ideal.Gen.transposes_S1024x704_S704x1024_1_0) (transpose S704x1024 [1, 0] (m ((c : Thread nD τ).loc main_arg3)) Cert.Reference15Ideal.Gen.transposes_S1024x704_S704x1024_1_0) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (transpose S704x1024 [1, 0] (m ((c : Thread nD τ).loc main_arg2)) Cert.Reference15Ideal.Gen.transposes_S1024x704_S704x1024_1_0) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (transpose S704x1024 [1, 0] (m ((c : Thread nD τ).loc main_arg0)) Cert.Reference15Ideal.Gen.transposes_S1024x704_S704x1024_1_0) (m ((c : Thread nD τ).loc main_arg1)) (transpose S704x1024 [1, 0] (m ((c : Thread nD τ).loc main_arg2)) Cert.Reference15Ideal.Gen.transposes_S1024x704_S704x1024_1_0) (transpose S704x1024 [1, 0] (m ((c : Thread nD τ).loc main_arg3)) Cert.Reference15Ideal.Gen.transposes_S1024x704_S704x1024_1_0) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (transpose S704x1024 [1, 0] (m ((c : Thread nD τ).loc main_arg3)) Cert.Reference15Ideal.Gen.transposes_S1024x704_S704x1024_1_0) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (transpose S704x1024 [1, 0] (m ((c : Thread nD τ).loc main_arg0)) Cert.Reference15Ideal.Gen.transposes_S1024x704_S704x1024_1_0) (m ((c : Thread nD τ).loc main_arg1)) (transpose S704x1024 [1, 0] (m ((c : Thread nD τ).loc main_arg2)) Cert.Reference15Ideal.Gen.transposes_S1024x704_S704x1024_1_0) (transpose S704x1024 [1, 0] (m ((c : Thread nD τ).loc main_arg3)) Cert.Reference15Ideal.Gen.transposes_S1024x704_S704x1024_1_0) _ _ ?_ (fun d => ?_) ?_ ?_).2.2.2 <;> blk_point [iblk, V, idx t]

end Cert.Kernel15Ideal.Adam

/-! ## The step of a feed-forward layer's second weight -/

namespace Cert.Kernel16Ideal.Adam

open Cert.Kernel16Ideal Cert.Kernel16Ideal.Gen

/-- What one point leaves in the four result blocks. -/
theorem out (x0 : FVec Ideal S352x1024 .f32) (x1 : FVec Ideal S8x352x1024 .bf16) (x2 x3 : FVec Ideal S352x1024 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay5 (F := Ideal) x0 x1 x2 x3 = Cert.Adam.grad x1 := by
    funext y; pointwise [k0_pay1, k0_pay2, k0_pay3, k0_pay4, k0_pay5, Cert.Adam.grad]; simp only [Fin.sum_univ_eight]
  refine ⟨?_, ?_, ?_, ?_⟩ <;> funext y <;> frame_out
  · rw [hg]
  · rw [hg]; pointwise [k0_pay1, k0_pay2, k0_pay3, k0_pay4, k0_pay5, Cert.Adam.mom, Cert.Adam.vel, Cert.Adam.delta]
  · rw [hg]; pointwise [k0_pay1, k0_pay2, k0_pay3, k0_pay4, k0_pay5, Cert.Adam.mom]
  · rw [hg]; pointwise [k0_pay1, k0_pay2, k0_pay3, k0_pay4, k0_pay5, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).1 <;> blk_point [iblk, V, idx t]

/-- The array of the step after the run. -/
theorem delta (c : Dev nD) : (dats m 0 c).arrAt 5 (cfgs 0).N = Cert.Adam.delta (m ((c : Thread nD τ).loc main_arg0)) (Cert.Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (m ((c : Thread nD τ).loc main_arg2)) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (m ((c : Thread nD τ).loc main_arg3)) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.2 <;> blk_point [iblk, V, idx t]

end Cert.Kernel16Ideal.Adam

/-! ## The step of a mixing layer's output projection -/

namespace Cert.Kernel17Ideal.Adam

open Cert.Kernel17Ideal Cert.Kernel17Ideal.Gen

/-- What one point leaves in the four result blocks. -/
theorem out (x0 : FVec Ideal S128x1024 .f32) (x1 : FVec Ideal S8x128x1024 .bf16) (x2 x3 : FVec Ideal S128x1024 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay5 (F := Ideal) x0 x1 x2 x3 = Cert.Adam.grad x1 := by
    funext y; pointwise [k0_pay1, k0_pay2, k0_pay3, k0_pay4, k0_pay5, Cert.Adam.grad]; simp only [Fin.sum_univ_eight]
  refine ⟨?_, ?_, ?_, ?_⟩ <;> funext y <;> frame_out
  · rw [hg]
  · rw [hg]; pointwise [k0_pay1, k0_pay2, k0_pay3, k0_pay4, k0_pay5, Cert.Adam.mom, Cert.Adam.vel, Cert.Adam.delta]
  · rw [hg]; pointwise [k0_pay1, k0_pay2, k0_pay3, k0_pay4, k0_pay5, Cert.Adam.mom]
  · rw [hg]; pointwise [k0_pay1, k0_pay2, k0_pay3, k0_pay4, k0_pay5, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).1 <;> blk_point [iblk, V, idx t]

/-- The array of the step after the run. -/
theorem delta (c : Dev nD) : (dats m 0 c).arrAt 5 (cfgs 0).N = Cert.Adam.delta (m ((c : Thread nD τ).loc main_arg0)) (Cert.Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (m ((c : Thread nD τ).loc main_arg2)) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (m ((c : Thread nD τ).loc main_arg3)) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.2 <;> blk_point [iblk, V, idx t]

end Cert.Kernel17Ideal.Adam

/-! ## The step of the memory's projection -/

namespace Cert.Kernel18Ideal.Adam

open Cert.Kernel18Ideal Cert.Kernel18Ideal.Gen

/-- What one point leaves in the four result blocks. -/
theorem out (x0 : FVec Ideal S128x512 .f32) (x1 : FVec Ideal S8x128x512 .bf16) (x2 x3 : FVec Ideal S128x512 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay5 (F := Ideal) x0 x1 x2 x3 = Cert.Adam.grad x1 := by
    funext y; pointwise [k0_pay1, k0_pay2, k0_pay3, k0_pay4, k0_pay5, Cert.Adam.grad]; simp only [Fin.sum_univ_eight]
  refine ⟨?_, ?_, ?_, ?_⟩ <;> funext y <;> frame_out
  · rw [hg]
  · rw [hg]; pointwise [k0_pay1, k0_pay2, k0_pay3, k0_pay4, k0_pay5, Cert.Adam.mom, Cert.Adam.vel, Cert.Adam.delta]
  · rw [hg]; pointwise [k0_pay1, k0_pay2, k0_pay3, k0_pay4, k0_pay5, Cert.Adam.mom]
  · rw [hg]; pointwise [k0_pay1, k0_pay2, k0_pay3, k0_pay4, k0_pay5, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).1 <;> blk_point [iblk, V, idx t]

/-- The array of the step after the run. -/
theorem delta (c : Dev nD) : (dats m 0 c).arrAt 5 (cfgs 0).N = Cert.Adam.delta (m ((c : Thread nD τ).loc main_arg0)) (Cert.Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (m ((c : Thread nD τ).loc main_arg2)) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (m ((c : Thread nD τ).loc main_arg3)) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.2 <;> blk_point [iblk, V, idx t]

end Cert.Kernel18Ideal.Adam

end
-- ==== Proof.AdamSmall.lean ====
module

public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Adam
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

/-! ## The step of the forgetting attention's projection -/

namespace Cert.Kernel19Ideal.Adam

open Cert.Kernel19Ideal Cert.Kernel19Ideal.Gen

/-- What one point leaves in the four result blocks. -/
theorem out (x0 : FVec Ideal S128x2688 .f32) (x1 : FVec Ideal S8x128x2688 .bf16) (x2 x3 : FVec Ideal S128x2688 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay5 (F := Ideal) x0 x1 x2 x3 = Cert.Adam.grad x1 := by
    funext y; pointwise [k0_pay1, k0_pay2, k0_pay3, k0_pay4, k0_pay5, Cert.Adam.grad]; simp only [Fin.sum_univ_eight]
  refine ⟨?_, ?_, ?_, ?_⟩ <;> funext y <;> frame_out
  · rw [hg]
  · rw [hg]; pointwise [k0_pay1, k0_pay2, k0_pay3, k0_pay4, k0_pay5, Cert.Adam.mom, Cert.Adam.vel, Cert.Adam.delta]
  · rw [hg]; pointwise [k0_pay1, k0_pay2, k0_pay3, k0_pay4, k0_pay5, Cert.Adam.mom]
  · rw [hg]; pointwise [k0_pay1, k0_pay2, k0_pay3, k0_pay4, k0_pay5, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).1 <;> blk_point [iblk, V, idx t]

/-- The array of the step after the run. -/
theorem delta (c : Dev nD) : (dats m 0 c).arrAt 5 (cfgs 0).N = Cert.Adam.delta (m ((c : Thread nD τ).loc main_arg0)) (Cert.Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (m ((c : Thread nD τ).loc main_arg2)) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (m ((c : Thread nD τ).loc main_arg3)) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.2 <;> blk_point [iblk, V, idx t]

end Cert.Kernel19Ideal.Adam

/-! ## The step of the gating layer's projection -/

namespace Cert.Kernel20Ideal.Adam

open Cert.Kernel20Ideal Cert.Kernel20Ideal.Gen

/-- What one point leaves in the four result blocks. -/
theorem out (x0 : FVec Ideal S224x1024 .f32) (x1 : FVec Ideal S8x224x1024 .bf16) (x2 x3 : FVec Ideal S224x1024 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay6 (F := Ideal) x0 x1 x2 x3 = Cert.Adam.grad x1 := by
    funext y; pointwise [k0_pay1, k0_pay2, k0_pay3, k0_pay4, k0_pay5, k0_pay6, k0_pay7, Cert.Adam.grad]; simp only [Fin.sum_univ_eight]
  refine ⟨?_, ?_, ?_, ?_⟩ <;> funext y <;> frame_out
  · rw [hg]
  · rw [hg]; pointwise [k0_pay1, k0_pay2, k0_pay3, k0_pay4, k0_pay5, k0_pay6, k0_pay7, Cert.Adam.mom, Cert.Adam.vel, Cert.Adam.delta]
  · rw [hg]; pointwise [k0_pay1, k0_pay2, k0_pay3, k0_pay4, k0_pay5, k0_pay6, k0_pay7, Cert.Adam.mom]
  · rw [hg]; pointwise [k0_pay1, k0_pay2, k0_pay3, k0_pay4, k0_pay5, k0_pay6, k0_pay7, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (transpose S224x1024 [1, 0] (m ((c : Thread nD τ).loc main_arg0)) Cert.Reference20Ideal.Gen.transposes_S1024x224_S224x1024_1_0) (m ((c : Thread nD τ).loc main_arg1)) (transpose S224x1024 [1, 0] (m ((c : Thread nD τ).loc main_arg2)) Cert.Reference20Ideal.Gen.transposes_S1024x224_S224x1024_1_0) (transpose S224x1024 [1, 0] (m ((c : Thread nD τ).loc main_arg3)) Cert.Reference20Ideal.Gen.transposes_S1024x224_S224x1024_1_0) _ _ ?_ (fun d => ?_) ?_ ?_).1 <;> blk_point [iblk, V, idx t]

/-- The array of the step after the run. -/
theorem delta (c : Dev nD) : (dats m 0 c).arrAt 5 (cfgs 0).N = Cert.Adam.delta (transpose S224x1024 [1, 0] (m ((c : Thread nD τ).loc main_arg0)) Cert.Reference20Ideal.Gen.transposes_S1024x224_S224x1024_1_0) (Cert.Adam.grad (m ((c : Thread nD τ).loc main_arg1))) (transpose S224x1024 [1, 0] (m ((c : Thread nD τ).loc main_arg2)) Cert.Reference20Ideal.Gen.transposes_S1024x224_S224x1024_1_0) (transpose S224x1024 [1, 0] (m ((c : Thread nD τ).loc main_arg3)) Cert.Reference20Ideal.Gen.transposes_S1024x224_S224x1024_1_0) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (transpose S224x1024 [1, 0] (m ((c : Thread nD τ).loc main_arg0)) Cert.Reference20Ideal.Gen.transposes_S1024x224_S224x1024_1_0) (m ((c : Thread nD τ).loc main_arg1)) (transpose S224x1024 [1, 0] (m ((c : Thread nD τ).loc main_arg2)) Cert.Reference20Ideal.Gen.transposes_S1024x224_S224x1024_1_0) (transpose S224x1024 [1, 0] (m ((c : Thread nD τ).loc main_arg3)) Cert.Reference20Ideal.Gen.transposes_S1024x224_S224x1024_1_0) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (transpose S224x1024 [1, 0] (m ((c : Thread nD τ).loc main_arg2)) Cert.Reference20Ideal.Gen.transposes_S1024x224_S224x1024_1_0) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (transpose S224x1024 [1, 0] (m ((c : Thread nD τ).loc main_arg0)) Cert.Reference20Ideal.Gen.transposes_S1024x224_S224x1024_1_0) (m ((c : Thread nD τ).loc main_arg1)) (transpose S224x1024 [1, 0] (m ((c : Thread nD τ).loc main_arg2)) Cert.Reference20Ideal.Gen.transposes_S1024x224_S224x1024_1_0) (transpose S224x1024 [1, 0] (m ((c : Thread nD τ).loc main_arg3)) Cert.Reference20Ideal.Gen.transposes_S1024x224_S224x1024_1_0) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (transpose S224x1024 [1, 0] (m ((c : Thread nD τ).loc main_arg3)) Cert.Reference20Ideal.Gen.transposes_S1024x224_S224x1024_1_0) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (transpose S224x1024 [1, 0] (m ((c : Thread nD τ).loc main_arg0)) Cert.Reference20Ideal.Gen.transposes_S1024x224_S224x1024_1_0) (m ((c : Thread nD τ).loc main_arg1)) (transpose S224x1024 [1, 0] (m ((c : Thread nD τ).loc main_arg2)) Cert.Reference20Ideal.Gen.transposes_S1024x224_S224x1024_1_0) (transpose S224x1024 [1, 0] (m ((c : Thread nD τ).loc main_arg3)) Cert.Reference20Ideal.Gen.transposes_S1024x224_S224x1024_1_0) _ _ ?_ (fun d => ?_) ?_ ?_).2.2.2 <;> blk_point [iblk, V, idx t]

end Cert.Kernel20Ideal.Adam

/-! ## The step of the replicated weights, packed -/

namespace Cert.Kernel21Ideal.Adam

open Cert.Kernel21Ideal Cert.Kernel21Ideal.Gen

/-- What one point leaves in the four result blocks. -/
theorem out (x0 : FVec Ideal S1024x128 .f32) (x1 : FVec Ideal S8x1024x128 .f32) (x2 x3 : FVec Ideal S1024x128 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay5 (F := Ideal) x0 x1 x2 x3 = Cert.Adam.grad x1 := by
    funext y; pointwise [k0_pay1, k0_pay2, k0_pay3, k0_pay4, k0_pay5, k0_pay6, Cert.Adam.grad]; simp only [Fin.sum_univ_eight]
  have hm : k0_pay6 (F := Ideal) x0 x1 x2 x3 = Cert.Adam.mom (Cert.Adam.grad x1) x2 := by
    funext y; pointwise [k0_pay1, k0_pay2, k0_pay3, k0_pay4, k0_pay5, k0_pay6, Cert.Adam.mom, Cert.Adam.grad]; simp only [Fin.sum_univ_eight]
  refine ⟨?_, ?_, ?_, ?_⟩ <;> funext y <;> frame_out
  · rw [hg]
  · rw [hg, hm]; pointwise [k0_pay1, k0_pay2, k0_pay3, k0_pay4, k0_pay5, k0_pay6, Cert.Adam.mom, Cert.Adam.vel, Cert.Adam.delta]
  · rw [hm]
  · rw [hg]; pointwise [k0_pay1, k0_pay2, k0_pay3, k0_pay4, k0_pay5, k0_pay6, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).1 <;> blk_point [iblk, V, idx t]

/-- The array of the step after the run. -/
theorem delta (c : Dev nD) : (dats m 0 c).arrAt 5 (cfgs 0).N = Cert.Adam.delta (m ((c : Thread nD τ).loc main_arg0)) (Cert.Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (m ((c : Thread nD τ).loc main_arg2)) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (m ((c : Thread nD τ).loc main_arg3)) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.2 <;> blk_point [iblk, V, idx t]

end Cert.Kernel21Ideal.Adam

/-! ## The step of the gain of the gating layer's norm -/

namespace Cert.Kernel22Ideal.Adam

open Cert.Kernel22Ideal Cert.Kernel22Ideal.Gen

/-- What one point leaves in the four result blocks. -/
theorem out (x0 : FVec Ideal S8x128 .f32) (x1 : FVec Ideal S8x8x128 .f32) (x2 x3 : FVec Ideal S8x128 .f32) :
    out0_4 (F := Ideal) x0 x1 x2 x3 = Cert.Adam.grad x1 ∧ out0_5 (F := Ideal) x0 x1 x2 x3 = Cert.Adam.delta x0 (Cert.Adam.grad x1) x2 x3
    ∧ out0_6 (F := Ideal) x0 x1 x2 x3 = Cert.Adam.mom (Cert.Adam.grad x1) x2 ∧ out0_7 (F := Ideal) x0 x1 x2 x3 = Cert.Adam.vel (Cert.Adam.grad x1) x3 := by
  have hg : k0_pay5 (F := Ideal) x0 x1 x2 x3 = Cert.Adam.grad x1 := by
    funext y; pointwise [k0_pay1, k0_pay2, k0_pay3, k0_pay4, k0_pay5, k0_pay6, Cert.Adam.grad]; simp only [Fin.sum_univ_eight]
  have hm : k0_pay6 (F := Ideal) x0 x1 x2 x3 = Cert.Adam.mom (Cert.Adam.grad x1) x2 := by
    funext y; pointwise [k0_pay1, k0_pay2, k0_pay3, k0_pay4, k0_pay5, k0_pay6, Cert.Adam.mom, Cert.Adam.grad]; simp only [Fin.sum_univ_eight]
  refine ⟨?_, ?_, ?_, ?_⟩ <;> funext y <;> frame_out
  · rw [hg]
  · rw [hg, hm]; pointwise [k0_pay1, k0_pay2, k0_pay3, k0_pay4, k0_pay5, k0_pay6, Cert.Adam.mom, Cert.Adam.vel, Cert.Adam.delta]
  · rw [hm]
  · rw [hg]; pointwise [k0_pay1, k0_pay2, k0_pay3, k0_pay4, k0_pay5, k0_pay6, Cert.Adam.vel]

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array of the summed gradient after the run. -/
theorem grad (c : Dev nD) : (dats m 0 c).arrAt 4 (cfgs 0).N = Cert.Adam.grad (m ((c : Thread nD τ).loc main_arg1)) := by
  refine (dats m 0 c).arrAt_eq_of_covers 4 _ (by decide +kernel) fun t hf y => ?_
  blk_simp; rw [after0_4, (out _ _ _ _).1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).1 <;> blk_point [iblk, V, idx t]

/-- The array of the step after the run. -/
theorem delta (c : Dev nD) : (dats m 0 c).arrAt 5 (cfgs 0).N = Cert.Adam.delta (m ((c : Thread nD τ).loc main_arg0)) (Cert.Adam.grad (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp; rw [after0_5, (out _ _ _ _).2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.1 <;> blk_point [iblk, V, idx t]

/-- The array of the first moment after the run. -/
theorem mom (c : Dev nD) : (dats m 0 c).arrAt 6 (cfgs 0).N = Cert.Adam.mom (Cert.Adam.grad (m ((c : Thread nD τ).loc main_arg1))) (m ((c : Thread nD τ).loc main_arg2)) := by
  refine (dats m 0 c).arrAt_eq_of_covers 6 _ (by decide +kernel) fun t hf y => ?_
  blk_simp; rw [after0_6, (out _ _ _ _).2.2.1]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.1 <;> blk_point [iblk, V, idx t]

/-- The array of the second moment after the run. -/
theorem vel (c : Dev nD) : (dats m 0 c).arrAt 7 (cfgs 0).N = Cert.Adam.vel (Cert.Adam.grad (m ((c : Thread nD τ).loc main_arg1))) (m ((c : Thread nD τ).loc main_arg3)) := by
  refine (dats m 0 c).arrAt_eq_of_covers 7 _ (by decide +kernel) fun t hf y => ?_
  blk_simp; rw [after0_7, (out _ _ _ _).2.2.2]
  refine (Cert.Adam.tile (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) _ _ ?_ (fun d => ?_) ?_ ?_).2.2.2 <;> blk_point [iblk, V, idx t]

end Cert.Kernel22Ideal.Adam

end
-- ==== Proof.AdamClaims.lean ====
/- The claims of the optimiser's call, one theorem to a program. -/
module

public import proofs.«01_k».proof.Defs
public import proofs.«01_k».proof.Proof.AdamBig
public import proofs.«01_k».proof.Proof.AdamSmall

@[expose] public section

set_option maxRecDepth 16384

noncomputable section

open Idealize.ShloMosaic Idealize.ShloMosaic.TcCoe Idealize.SL.Sem

namespace Cert.Claims

/-- The gradient, the step and the new moments of the feed-forward layers' first weight are their reference's. -/
theorem adam_win : Cert.algebraic_Kernel15Ideal_Reference15Ideal := fun m g m' g' _ hag =>
  have hs (s) := Cert.Adam.host_grad s Cert.Reference15Ideal.Gen.reducesTo_S8x704x1024_S704x1024_d0 Cert.Reference15Ideal.Gen.h_S_
  ⟨_, _, _, _,
   (θ_run _ _ _).mono (fun _ h c => ⟨(h c).1.trans (Cert.Kernel15Ideal.Adam.grad m c), (h c).2.1.trans (Cert.Kernel15Ideal.Adam.delta m c),
      (h c).2.2.1.trans (Cert.Kernel15Ideal.Adam.mom m c), (h c).2.2.2.1.trans (Cert.Kernel15Ideal.Adam.vel m c), (h c).2.2.2.2⟩)
     (Cert.Kernel15Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference15Ideal.Gen.bcast_S_S704x1024 (hs _)),
      (h c).2.2.1.trans (by rw [(hag c).2.1, (hag c).2.2.1]; exact Cert.Adam.host_mom Cert.Reference15Ideal.Gen.bcast_S_S704x1024 (hs _)),
      (h c).2.2.2.1.trans (by rw [(hag c).2.1, (hag c).2.2.2]; exact Cert.Adam.host_vel Cert.Reference15Ideal.Gen.bcast_S_S704x1024 (hs _)), (h c).2.2.2.2⟩)
     (Cert.Reference15Ideal.Value.run m' g')⟩

/-- The gradient, the step and the new moments of the feed-forward layers' second weight are their reference's. -/
theorem adam_wout : Cert.algebraic_Kernel16Ideal_Reference16Ideal := fun m g m' g' _ hag =>
  have hs (s) := Cert.Adam.host_grad s Cert.Reference16Ideal.Gen.reducesTo_S8x352x1024_S352x1024_d0 Cert.Reference16Ideal.Gen.h_S_
  ⟨_, _, _, _,
   (θ_run _ _ _).mono (fun _ h c => ⟨(h c).1.trans (Cert.Kernel16Ideal.Adam.grad m c), (h c).2.1.trans (Cert.Kernel16Ideal.Adam.delta m c),
      (h c).2.2.1.trans (Cert.Kernel16Ideal.Adam.mom m c), (h c).2.2.2.1.trans (Cert.Kernel16Ideal.Adam.vel m c), (h c).2.2.2.2⟩)
     (Cert.Kernel16Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference16Ideal.Gen.bcast_S_S352x1024 (hs _)),
      (h c).2.2.1.trans (by rw [(hag c).2.1, (hag c).2.2.1]; exact Cert.Adam.host_mom Cert.Reference16Ideal.Gen.bcast_S_S352x1024 (hs _)),
      (h c).2.2.2.1.trans (by rw [(hag c).2.1, (hag c).2.2.2]; exact Cert.Adam.host_vel Cert.Reference16Ideal.Gen.bcast_S_S352x1024 (hs _)), (h c).2.2.2.2⟩)
     (Cert.Reference16Ideal.Value.run m' g')⟩

/-- The gradient, the step and the new moments of the mixing layers' output weight are their reference's. -/
theorem adam_mix : Cert.algebraic_Kernel17Ideal_Reference17Ideal := fun m g m' g' _ hag =>
  have hs (s) := Cert.Adam.host_grad s Cert.Reference17Ideal.Gen.reducesTo_S8x128x1024_S128x1024_d0 Cert.Reference17Ideal.Gen.h_S_
  ⟨_, _, _, _,
   (θ_run _ _ _).mono (fun _ h c => ⟨(h c).1.trans (Cert.Kernel17Ideal.Adam.grad m c), (h c).2.1.trans (Cert.Kernel17Ideal.Adam.delta m c),
      (h c).2.2.1.trans (Cert.Kernel17Ideal.Adam.mom m c), (h c).2.2.2.1.trans (Cert.Kernel17Ideal.Adam.vel m c), (h c).2.2.2.2⟩)
     (Cert.Kernel17Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference17Ideal.Gen.bcast_S_S128x1024 (hs _)),
      (h c).2.2.1.trans (by rw [(hag c).2.1, (hag c).2.2.1]; exact Cert.Adam.host_mom Cert.Reference17Ideal.Gen.bcast_S_S128x1024 (hs _)),
      (h c).2.2.2.1.trans (by rw [(hag c).2.1, (hag c).2.2.2]; exact Cert.Adam.host_vel Cert.Reference17Ideal.Gen.bcast_S_S128x1024 (hs _)), (h c).2.2.2.2⟩)
     (Cert.Reference17Ideal.Value.run m' g')⟩

/-- The gradient, the step and the new moments of the memory's keys' and values' weight are their reference's. -/
theorem adam_kv : Cert.algebraic_Kernel18Ideal_Reference18Ideal := fun m g m' g' _ hag =>
  have hs (s) := Cert.Adam.host_grad s Cert.Reference18Ideal.Gen.reducesTo_S8x128x512_S128x512_d0 Cert.Reference18Ideal.Gen.h_S_
  ⟨_, _, _, _,
   (θ_run _ _ _).mono (fun _ h c => ⟨(h c).1.trans (Cert.Kernel18Ideal.Adam.grad m c), (h c).2.1.trans (Cert.Kernel18Ideal.Adam.delta m c),
      (h c).2.2.1.trans (Cert.Kernel18Ideal.Adam.mom m c), (h c).2.2.2.1.trans (Cert.Kernel18Ideal.Adam.vel m c), (h c).2.2.2.2⟩)
     (Cert.Kernel18Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference18Ideal.Gen.bcast_S_S128x512 (hs _)),
      (h c).2.2.1.trans (by rw [(hag c).2.1, (hag c).2.2.1]; exact Cert.Adam.host_mom Cert.Reference18Ideal.Gen.bcast_S_S128x512 (hs _)),
      (h c).2.2.2.1.trans (by rw [(hag c).2.1, (hag c).2.2.2]; exact Cert.Adam.host_vel Cert.Reference18Ideal.Gen.bcast_S_S128x512 (hs _)), (h c).2.2.2.2⟩)
     (Cert.Reference18Ideal.Value.run m' g')⟩

/-- The gradient, the step and the new moments of the attention's input weight are their reference's. -/
theorem adam_fox : Cert.algebraic_Kernel19Ideal_Reference19Ideal := fun m g m' g' _ hag =>
  have hs (s) := Cert.Adam.host_grad s Cert.Reference19Ideal.Gen.reducesTo_S8x128x2688_S128x2688_d0 Cert.Reference19Ideal.Gen.h_S_
  ⟨_, _, _, _,
   (θ_run _ _ _).mono (fun _ h c => ⟨(h c).1.trans (Cert.Kernel19Ideal.Adam.grad m c), (h c).2.1.trans (Cert.Kernel19Ideal.Adam.delta m c),
      (h c).2.2.1.trans (Cert.Kernel19Ideal.Adam.mom m c), (h c).2.2.2.1.trans (Cert.Kernel19Ideal.Adam.vel m c), (h c).2.2.2.2⟩)
     (Cert.Kernel19Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference19Ideal.Gen.bcast_S_S128x2688 (hs _)),
      (h c).2.2.1.trans (by rw [(hag c).2.1, (hag c).2.2.1]; exact Cert.Adam.host_mom Cert.Reference19Ideal.Gen.bcast_S_S128x2688 (hs _)),
      (h c).2.2.2.1.trans (by rw [(hag c).2.1, (hag c).2.2.2]; exact Cert.Adam.host_vel Cert.Reference19Ideal.Gen.bcast_S_S128x2688 (hs _)), (h c).2.2.2.2⟩)
     (Cert.Reference19Ideal.Value.run m' g')⟩

/-- The gradient, the step and the new moments of the gating unit's input weight are their reference's. -/
theorem adam_gate : Cert.algebraic_Kernel20Ideal_Reference20Ideal := fun m g m' g' _ hag =>
  have hs (s) := Cert.Adam.host_grad s Cert.Reference20Ideal.Gen.reducesTo_S8x224x1024_S224x1024_d0 Cert.Reference20Ideal.Gen.h_S_
  ⟨_, _, _, _,
   (θ_run _ _ _).mono (fun _ h c => ⟨(h c).1.trans (Cert.Kernel20Ideal.Adam.grad m c), (h c).2.1.trans (Cert.Kernel20Ideal.Adam.delta m c),
      (h c).2.2.1.trans (Cert.Kernel20Ideal.Adam.mom m c), (h c).2.2.2.1.trans (Cert.Kernel20Ideal.Adam.vel m c), (h c).2.2.2.2⟩)
     (Cert.Kernel20Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference20Ideal.Gen.bcast_S_S224x1024 (hs _)),
      (h c).2.2.1.trans (by rw [(hag c).2.1, (hag c).2.2.1]; exact Cert.Adam.host_mom Cert.Reference20Ideal.Gen.bcast_S_S224x1024 (hs _)),
      (h c).2.2.2.1.trans (by rw [(hag c).2.1, (hag c).2.2.2]; exact Cert.Adam.host_vel Cert.Reference20Ideal.Gen.bcast_S_S224x1024 (hs _)), (h c).2.2.2.2⟩)
     (Cert.Reference20Ideal.Value.run m' g')⟩

/-- The gradient, the step and the new moments of the packed replicated weights are their reference's. -/
theorem adam_packed : Cert.algebraic_Kernel21Ideal_Reference21Ideal := fun m g m' g' _ hag =>
  have hs (s) := Cert.Adam.host_grad s Cert.Reference21Ideal.Gen.reducesTo_S8x2048x128_S2048x128_d0 Cert.Reference21Ideal.Gen.h_S_
  ⟨_, _, _, _,
   (θ_run _ _ _).mono (fun _ h c => ⟨(h c).1.trans (Cert.Kernel21Ideal.Adam.grad m c), (h c).2.1.trans (Cert.Kernel21Ideal.Adam.delta m c),
      (h c).2.2.1.trans (Cert.Kernel21Ideal.Adam.mom m c), (h c).2.2.2.1.trans (Cert.Kernel21Ideal.Adam.vel m c), (h c).2.2.2.2⟩)
     (Cert.Kernel21Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference21Ideal.Gen.bcast_S_S2048x128 (hs _)),
      (h c).2.2.1.trans (by rw [(hag c).2.1, (hag c).2.2.1]; exact Cert.Adam.host_mom Cert.Reference21Ideal.Gen.bcast_S_S2048x128 (hs _)),
      (h c).2.2.2.1.trans (by rw [(hag c).2.1, (hag c).2.2.2]; exact Cert.Adam.host_vel Cert.Reference21Ideal.Gen.bcast_S_S2048x128 (hs _)), (h c).2.2.2.2⟩)
     (Cert.Reference21Ideal.Value.run m' g')⟩

/-- The gradient, the step and the new moments of the gating unit's gains are their reference's. -/
theorem adam_gain : Cert.algebraic_Kernel22Ideal_Reference22Ideal := fun m g m' g' _ hag =>
  have hs (s) := Cert.Adam.host_grad s Cert.Reference22Ideal.Gen.reducesTo_S8x8x128_S8x128_d0 Cert.Reference22Ideal.Gen.h_S_
  ⟨_, _, _, _,
   (θ_run _ _ _).mono (fun _ h c => ⟨(h c).1.trans (Cert.Kernel22Ideal.Adam.grad m c), (h c).2.1.trans (Cert.Kernel22Ideal.Adam.delta m c),
      (h c).2.2.1.trans (Cert.Kernel22Ideal.Adam.mom m c), (h c).2.2.2.1.trans (Cert.Kernel22Ideal.Adam.vel m c), (h c).2.2.2.2⟩)
     (Cert.Kernel22Ideal.Value.run_blocks m g),
   (θ_run _ _ _).mono (fun _ h c => ⟨(h c).1.trans (by rw [(hag c).2.1]; exact hs _),
      (h c).2.1.trans (by rw [(hag c).1, (hag c).2.1, (hag c).2.2.1, (hag c).2.2.2]; exact Cert.Adam.host_delta Cert.Reference22Ideal.Gen.bcast_S_S8x128 (hs _)),
      (h c).2.2.1.trans (by rw [(hag c).2.1, (hag c).2.2.1]; exact Cert.Adam.host_mom Cert.Reference22Ideal.Gen.bcast_S_S8x128 (hs _)),
      (h c).2.2.2.1.trans (by rw [(hag c).2.1, (hag c).2.2.2]; exact Cert.Adam.host_vel Cert.Reference22Ideal.Gen.bcast_S_S8x128 (hs _)), (h c).2.2.2.2⟩)
     (Cert.Reference22Ideal.Value.run m' g')⟩

/-- The reference of `adam_win` runs, leaves its arguments as they were and every semaphore at zero. -/
theorem frame_adam_win : Cert.quiescent_Reference15Ideal := fun m ρ _ =>
  (θ_run _ _ _).mono (fun r h => ⟨fun c => (h c).2.2.2.2, sem_eq_zero_of_no_sems (by decide) r.2⟩)
    (Cert.Reference15Ideal.Value.run m ρ)

/-- The reference of `adam_wout` runs, leaves its arguments as they were and every semaphore at zero. -/
theorem frame_adam_wout : Cert.quiescent_Reference16Ideal := fun m ρ _ =>
  (θ_run _ _ _).mono (fun r h => ⟨fun c => (h c).2.2.2.2, sem_eq_zero_of_no_sems (by decide) r.2⟩)
    (Cert.Reference16Ideal.Value.run m ρ)

/-- The reference of `adam_mix` runs, leaves its arguments as they were and every semaphore at zero. -/
theorem frame_adam_mix : Cert.quiescent_Reference17Ideal := fun m ρ _ =>
  (θ_run _ _ _).mono (fun r h => ⟨fun c => (h c).2.2.2.2, sem_eq_zero_of_no_sems (by decide) r.2⟩)
    (Cert.Reference17Ideal.Value.run m ρ)

/-- The reference of `adam_kv` runs, leaves its arguments as they were and every semaphore at zero. -/
theorem frame_adam_kv : Cert.quiescent_Reference18Ideal := fun m ρ _ =>
  (θ_run _ _ _).mono (fun r h => ⟨fun c => (h c).2.2.2.2, sem_eq_zero_of_no_sems (by decide) r.2⟩)
    (Cert.Reference18Ideal.Value.run m ρ)

/-- The reference of `adam_fox` runs, leaves its arguments as they were and every semaphore at zero. -/
theorem frame_adam_fox : Cert.quiescent_Reference19Ideal := fun m ρ _ =>
  (θ_run _ _ _).mono (fun r h => ⟨fun c => (h c).2.2.2.2, sem_eq_zero_of_no_sems (by decide) r.2⟩)
    (Cert.Reference19Ideal.Value.run m ρ)

/-- The reference of `adam_gate` runs, leaves its arguments as they were and every semaphore at zero. -/
theorem frame_adam_gate : Cert.quiescent_Reference20Ideal := fun m ρ _ =>
  (θ_run _ _ _).mono (fun r h => ⟨fun c => (h c).2.2.2.2, sem_eq_zero_of_no_sems (by decide) r.2⟩)
    (Cert.Reference20Ideal.Value.run m ρ)

/-- The reference of `adam_packed` runs, leaves its arguments as they were and every semaphore at zero. -/
theorem frame_adam_packed : Cert.quiescent_Reference21Ideal := fun m ρ _ =>
  (θ_run _ _ _).mono (fun r h => ⟨fun c => (h c).2.2.2.2, sem_eq_zero_of_no_sems (by decide) r.2⟩)
    (Cert.Reference21Ideal.Value.run m ρ)

/-- The reference of `adam_gain` runs, leaves its arguments as they were and every semaphore at zero. -/
theorem frame_adam_gain : Cert.quiescent_Reference22Ideal := fun m ρ _ =>
  (θ_run _ _ _).mono (fun r h => ⟨fun c => (h c).2.2.2.2, sem_eq_zero_of_no_sems (by decide) r.2⟩)
    (Cert.Reference22Ideal.Value.run m ρ)

end Cert.Claims

end
-- ==== Proof.Loss.lean ====
/- The loss of a device's tokens (`Cert.Kernel23Ideal`) and its cotangent, beside its reference. -/
module

public import proofs.«01_k».proof.Defs
public import proofs.«01_k».proof.Proof.Gen.Kernel23Ideal.Value
public import proofs.«01_k».proof.Proof.Gen.Reference23Ideal.Run
public import proofs.«01_k».proof.Proof.Reals
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Loss

/-- The sum of the squared errors of a token. -/
def sq {T : ℕ} (x y : (⟨2, ![T, 1024]⟩ : Shape).Idx → EReal) (s : Fin T) : EReal :=
  ∑ d : Fin 1024, (x (ix2 s d) - y (ix2 s d)) * (x (ix2 s d) - y (ix2 s d))

/-- The loss: half the sum over the tokens of the mean squared error. -/
def loss {T : ℕ} (x y : (⟨2, ![T, 1024]⟩ : Shape).Idx → EReal) : EReal :=
  ∑ s : Fin T, ((1 / 2048 : ℝ) : EReal) * sq x y s

/-- The cotangent of the output. -/
def dy {T : ℕ} (x y : (⟨2, ![T, 1024]⟩ : Shape).Idx → EReal) : (⟨2, ![T, 1024]⟩ : Shape).Idx → EReal := fun i =>
  (x i - y i) * ((1 / 1024 : ℝ) : EReal)

/-- The binary32 word of 1024. -/
theorem w1024 : Ideal.ofBits .f32 0x44800000#32 = ((1024 : ℝ) : EReal) := by
  simp [Ideal.ofBits, Ideal.ieee]; rw [← EReal.coe_mul]; norm_num

/-- The binary32 word of one 2048th. -/
theorem w2048i : Ideal.ofBits .f32 0x3A000000#32 = ((1 / 2048 : ℝ) : EReal) := by
  simp [Ideal.ofBits, Ideal.ieee]; rw [← EReal.coe_mul]; norm_num

/-- The binary32 word of one 1024th. -/
theorem w1024i : Ideal.ofBits .f32 0x3A800000#32 = ((1 / 1024 : ℝ) : EReal) := by
  simp [Ideal.ofBits, Ideal.ieee]; rw [← EReal.coe_mul]; norm_num

/-- The binary32 word of two. -/
theorem w2 : Ideal.ofBits .f32 0x40000000#32 = ((2 : ℝ) : EReal) := by
  simp [Ideal.ofBits, Ideal.ieee]; rw [← EReal.coe_mul]; norm_num

/-- Division by 1024. -/
theorem div1024 (x : EReal) : Ideal.div x ((1024 : ℝ) : EReal) = x * ((1 / 1024 : ℝ) : EReal) := by
  have : ((1024 : ℝ) : EReal) ≠ 0 := by norm_num
  rw [Ideal.div, if_neg this, ← EReal.coe_inv, one_div]

end Cert.Loss

namespace Cert.Kernel23Ideal.Loss

open Cert.Kernel23Ideal Cert.Kernel23Ideal.Gen

/-- What a block of tokens adds to the loss. -/
theorem part (x0 x1 : Vec Ideal S1024x1024 .f32) (j) : k0_pay3 (F := Ideal) x0 x1 j = Cert.Loss.loss x0 x1 := by
  pointwise [k0_pay3, k0_pay1]
  rw [Cert.Loss.w2048i, mul_comm, Reals.mul_sum _ (by norm_num)]; rfl

/-- The payload of the later blocks. -/
theorem next (x0 x1 : Vec Ideal S1024x1024 .f32) (a : Vec Ideal S8x128 .f32) (j) : k0_pay4 (F := Ideal) x0 x1 a j = a j + Cert.Loss.loss x0 x1 := by
  unfold k0_pay4; pointwise; rw [part]

/-- The payload of the cotangent. -/
theorem cot (x0 x1 : Vec Ideal S1024x1024 .f32) : k0_pay2 (F := Ideal) x0 x1 = Cert.Loss.dy x0 x1 := by
  funext j; pointwise [k0_pay2, k0_pay1, Cert.Loss.dy]; rw [Cert.Loss.w1024i]

section
open Cert.Reference23Ideal Cert.Reference23Ideal.Gen

/-- The reference's cotangent. -/
theorem ref_dy (x0 x1 : FVec Ideal S8192x1024 .f32) :
    mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf x0 x1))
      = Cert.Loss.dy x0 x1 := by
  funext j; pointwise [Cert.Loss.dy]
  rw [Cert.Loss.w2, Reals.half, Cert.Loss.w1024, Cert.Loss.div1024, mul_comm (x0 j - x1 j), ← mul_assoc, ← EReal.coe_mul, ← EReal.coe_mul]
  norm_num

/-- The reference's loss. -/
theorem ref_loss (x0 x1 : FVec Ideal S8192x1024 .f32) (j) :
    broadcastInDim S8x128 ![] bcast_S_S8x128 (mulf (constant S_ .f32 0x3F000000#32) (Host.reduceAdd (Host.divf (Host.reduceAdd (mulf (subf x0 x1) (subf x0 x1)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) j
      = Cert.Loss.loss x0 x1 := by
  pointwise
  rw [Reals.half, Cert.Loss.w1024, Reals.mul_sum _ (by norm_num)]
  refine Finset.sum_congr rfl fun s _ => ?_
  rw [Cert.Loss.div1024, mul_comm (Finset.sum _ _), ← mul_assoc, ← EReal.coe_mul]
  norm_num [Cert.Loss.sq]

end

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The block of the cotangent at every point. -/
theorem out2 (c : Dev nD) (t : Fin cfg0.N) : (outsAt0 m c t.val t.isLt).1 = Cert.Loss.dy (iblk m c 0 t) (iblk m c 1 t) := by
  rw [← cot]
  by_cases h : t.val % 8 = 0
  · rw [outsAt0_A m c t h (by have := t.isLt; have hN : cfg0.N = 8 := N_0; omega)]; funext y; frame_out
  · rw [outsAt0_B m c t h (by omega)]; funext y; frame_out

/-- The array of the cotangent after the run. -/
theorem final2 (c : Dev nD) : (dats m 0 c).arrAt 2 (cfgs 0).N = Cert.Loss.dy (m ((c : Thread nD τ).loc main_arg0)) (m ((c : Thread nD τ).loc main_arg1)) := by
  refine (dats m 0 c).arrAt_eq_of_covers 2 _ (by decide +kernel) fun t hf y => ?_
  blk_simp
  rw [after0_2, out2]
  refine congrArg₂ (fun a b => (a - b) * _) ?_ ?_ <;> blk_point [iblk, V, idx t]

/-- The array of the loss after the run. -/
theorem final3 (c : Dev nD) : (dats m 0 c).arrAt 3 (cfgs 0).N = fun _ => Cert.Loss.loss (m ((c : Thread nD τ).loc main_arg0)) (m ((c : Thread nD τ).loc main_arg1)) := by
  refine (dats m 0 c).arrAt_eq_of_covers 3 _ (by decide +kernel) fun t hf y => ?_
  blk_simp
  rw [after0_3]
  have hf' := (flush0_3 t).mp hf
  rw [Pipeline.eq_sum_fin_of_reset_step_apply_of_flush (fun n h => (outsAt0 m c n h).2) 8 (fun _ => 0) (fun t j => Cert.Loss.loss (iblk m c 0 t) (iblk m c 1 t))
    (fun t h j => ?_) (fun t h j => ?_) t hf' _, zero_add]
  · refine Fin.sum_mul_add_congr fun s k hl => congrArg (_ * ·) (Finset.sum_congr rfl fun d _ => ?_)
    have h0 : iblk m c 0 ⟨_, Pipeline.run_point_lt_of_flush t hf' s⟩ (ix2 k d) = m ((c : Thread nD τ).loc main_arg0) (ix2 ⟨s.val * 1024 + k.val, hl⟩ d) := by
      blk_point [iblk, V, idx ⟨_, Pipeline.run_point_lt_of_flush t hf' s⟩]
    have h1 : iblk m c 1 ⟨_, Pipeline.run_point_lt_of_flush t hf' s⟩ (ix2 k d) = m ((c : Thread nD τ).loc main_arg1) (ix2 ⟨s.val * 1024 + k.val, hl⟩ d) := by
      blk_point [iblk, V, idx ⟨_, Pipeline.run_point_lt_of_flush t hf' s⟩]
    rw [h0, h1]
  · rw [outsAt0_A m c t h (by have := t.isLt; have hN : cfg0.N = 8 := N_0; omega)]; frame_out; rw [part, zero_add]
  · rw [outsAt0_B m c t h (by omega)]; frame_out; rw [next]

end Cert.Kernel23Ideal.Loss

namespace Cert.Claims

/-- The loss and its cotangent are their reference's. -/
theorem loss : Cert.algebraic_Kernel23Ideal_Reference23Ideal := fun m g m' g' _ hag =>
  ⟨_, _,
   (θ_run _ _ _).mono (fun _ h c => ⟨(h c).1.trans (Cert.Kernel23Ideal.Loss.final2 m c), (h c).2.1.trans (Cert.Kernel23Ideal.Loss.final3 m c), (h c).2.2⟩)
     (Cert.Kernel23Ideal.Value.run_blocks m g),
   (θ_run _ _ _).mono (fun _ h c => ⟨(h c).1.trans (by rw [Cert.Kernel23Ideal.Loss.ref_dy, (hag c).1, (hag c).2]),
      (h c).2.1.trans (by rw [funext (Cert.Kernel23Ideal.Loss.ref_loss _ _), (hag c).1, (hag c).2]; rfl), (h c).2.2⟩)
     (Cert.Reference23Ideal.Value.run m' g')⟩

/-- The reference of `loss` runs, leaves its arguments as they were and every semaphore at zero. -/
theorem frame_loss : Cert.quiescent_Reference23Ideal := fun m ρ _ =>
  (θ_run _ _ _).mono (fun r h => ⟨fun c => (h c).2.2, sem_eq_zero_of_no_sems (by decide) r.2⟩)
    (Cert.Reference23Ideal.Value.run m ρ)

end Cert.Claims

end
-- ==== Proof.lean ====
/- Every claim of the certificate: the frames are the generated ones, the algebraic claims are those of `Claims`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel8Ideal.Value
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel9Ideal.Value
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel10Ideal.Value
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel11Ideal.Value
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel12Ideal.Value
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel13Ideal.Value
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel14Ideal.Value
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel15Ideal.Value
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel16Ideal.Value
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel17Ideal.Value
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel18Ideal.Value
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel19Ideal.Value
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel20Ideal.Value
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel21Ideal.Value
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel22Ideal.Value
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel23Ideal.Value
public import proofs.«01_k».proof.Proof.Gen.Pre_finite
public import proofs.«01_k».proof.Proof.Gen.Pre_finite2
public import proofs.«01_k».proof.Proof.Gen.Pre_finite3
public import proofs.«01_k».proof.Proof.Claims
public import proofs.«01_k».proof.Proof.AdamClaims
public import proofs.«01_k».proof.Proof.Loss
public import Idealize.ShloMosaic.Adequacy
public import Idealize.ShloMosaic.Init

@[expose] public section

noncomputable section

namespace Cert.Proof

open Idealize.ShloMosaic Idealize.SL.Sem

/-- Every claim holds. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite.Gen.facts, Cert.Pre_finite2.Gen.facts, Cert.Pre_finite3.Gen.facts,
    fun m ρ _ => Cert.Kernel.Gen.frame m ρ,
    fun m ρ _ => Cert.KernelIdeal.Gen.frame m ρ,
    fun m ρ _ => Cert.KernelIdeal.Gen.frame m ρ,
    fun m ρ _ => Claims.frame_mem m ρ trivial,
    fun m ρ _ => Claims.frame_mem m ρ trivial,
    fun m ρ _ => Cert.Kernel2.Gen.frame m ρ,
    fun m ρ _ => Cert.Kernel2Ideal.Gen.frame m ρ,
    fun m ρ _ => Cert.Kernel2Ideal.Gen.frame m ρ,
    fun m ρ _ => Claims.frame_act m ρ trivial,
    fun m ρ _ => Claims.frame_act m ρ trivial,
    fun m ρ _ => Claims.frame_fox_kernel m ρ trivial,
    fun m ρ _ => Cert.Kernel3Ideal.Fox.frame m ρ,
    fun m ρ _ => Cert.Kernel3Ideal.Fox.frame m ρ,
    fun m ρ _ => Claims.frame_fox m ρ trivial,
    fun m ρ _ => Claims.frame_fox m ρ trivial,
    fun m ρ _ => Cert.Kernel4.Gen.frame m ρ,
    fun m ρ _ => Cert.Kernel4Ideal.Gen.frame m ρ,
    fun m ρ _ => Claims.frame_pair m ρ trivial,
    fun m ρ _ => Cert.Kernel5.Gen.frame m ρ,
    fun m ρ _ => Cert.Kernel5Ideal.Gen.frame m ρ,
    fun m ρ _ => Claims.frame_dwout m ρ trivial,
    fun m ρ _ => Cert.Kernel6.Gen.frame m ρ,
    fun m ρ _ => Cert.Kernel6Ideal.Gen.frame m ρ,
    fun m ρ _ => Claims.frame_dwin m ρ trivial,
    fun m ρ _ => Cert.Kernel7.Gen.frame m ρ,
    fun m ρ _ => Cert.Kernel7Ideal.Gen.frame m ρ,
    fun m ρ _ => Claims.frame_ffn_in m ρ trivial,
    fun m ρ _ => Cert.Kernel8.Gen.frame m ρ,
    fun m ρ _ => Cert.Kernel8Ideal.Gen.frame m ρ,
    fun m ρ _ => Claims.frame_ffn_out m ρ trivial,
    fun m ρ _ => Cert.Kernel9.Gen.frame m ρ,
    fun m ρ _ => Cert.Kernel9Ideal.Gen.frame m ρ,
    fun m ρ _ => Claims.frame_fox_proj m ρ trivial,
    fun m ρ _ => Cert.Kernel10.Gen.frame m ρ,
    fun m ρ _ => Cert.Kernel10Ideal.Gen.frame m ρ,
    fun m ρ _ => Claims.frame_fox_dh m ρ trivial,
    fun m ρ _ => Cert.Kernel11.Gen.frame m ρ,
    fun m ρ _ => Cert.Kernel11Ideal.Gen.frame m ρ,
    fun m ρ _ => Claims.frame_fox_dwin m ρ trivial,
    fun m ρ _ => Cert.Kernel12.Gen.frame m ρ,
    fun m ρ _ => Cert.Kernel12Ideal.Gen.frame m ρ,
    fun m ρ _ => Claims.frame_wout m ρ trivial,
    fun m ρ _ => Cert.Kernel13.Gen.frame m ρ,
    fun m ρ _ => Cert.Kernel13Ideal.Gen.frame m ρ,
    fun m ρ _ => Claims.frame_dcat m ρ trivial,
    fun m ρ _ => Cert.Kernel14.Gen.frame m ρ,
    fun m ρ _ => Cert.Kernel14Ideal.Gen.frame m ρ,
    fun m ρ _ => Claims.frame_mix_dwout m ρ trivial,
    fun m ρ _ => Cert.Kernel15.Gen.frame m ρ,
    fun m ρ _ => Cert.Kernel15Ideal.Gen.frame m ρ,
    fun m ρ _ => Claims.frame_adam_win m ρ trivial,
    fun m ρ _ => Cert.Kernel16.Gen.frame m ρ,
    fun m ρ _ => Cert.Kernel16Ideal.Gen.frame m ρ,
    fun m ρ _ => Claims.frame_adam_wout m ρ trivial,
    fun m ρ _ => Cert.Kernel17.Gen.frame m ρ,
    fun m ρ _ => Cert.Kernel17Ideal.Gen.frame m ρ,
    fun m ρ _ => Claims.frame_adam_mix m ρ trivial,
    fun m ρ _ => Cert.Kernel18.Gen.frame m ρ,
    fun m ρ _ => Cert.Kernel18Ideal.Gen.frame m ρ,
    fun m ρ _ => Claims.frame_adam_kv m ρ trivial,
    fun m ρ _ => Cert.Kernel19.Gen.frame m ρ,
    fun m ρ _ => Cert.Kernel19Ideal.Gen.frame m ρ,
    fun m ρ _ => Claims.frame_adam_fox m ρ trivial,
    fun m ρ _ => Cert.Kernel20.Gen.frame m ρ,
    fun m ρ _ => Cert.Kernel20Ideal.Gen.frame m ρ,
    fun m ρ _ => Claims.frame_adam_gate m ρ trivial,
    fun m ρ _ => Cert.Kernel21.Gen.frame m ρ,
    fun m ρ _ => Cert.Kernel21Ideal.Gen.frame m ρ,
    fun m ρ _ => Claims.frame_adam_packed m ρ trivial,
    fun m ρ _ => Cert.Kernel22.Gen.frame m ρ,
    fun m ρ _ => Cert.Kernel22Ideal.Gen.frame m ρ,
    fun m ρ _ => Claims.frame_adam_gain m ρ trivial,
    fun m ρ _ => Cert.Kernel23.Gen.frame m ρ,
    fun m ρ _ => Cert.Kernel23Ideal.Gen.frame m ρ,
    fun m ρ _ => Claims.frame_loss m ρ trivial,
    trivial,
    Claims.mem,
    trivial,
    Claims.act,
    trivial,
    Claims.fox,
    trivial,
    Claims.pair,
    trivial,
    Claims.dwout,
    trivial,
    Claims.dwin,
    trivial,
    Claims.ffn_in,
    trivial,
    Claims.ffn_out,
    trivial,
    Claims.fox_proj,
    trivial,
    Claims.fox_dh,
    trivial,
    Claims.fox_dwin,
    trivial,
    Claims.wout,
    trivial,
    Claims.dcat,
    trivial,
    Claims.mix_dwout,
    trivial,
    Claims.adam_win,
    trivial,
    Claims.adam_wout,
    trivial,
    Claims.adam_mix,
    trivial,
    Claims.adam_kv,
    trivial,
    Claims.adam_fox,
    trivial,
    Claims.adam_gate,
    trivial,
    Claims.adam_packed,
    trivial,
    Claims.adam_gain,
    trivial,
    Claims.loss⟩

end Cert.Proof

end

end
